-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v97_0)) (v1 : (c : Dev Cert.KernelIdeal.nD) → Buf (Elt Ideal) ((c.tc : Thread Cert.KernelIdeal.nD Cert.KernelIdeal.τ).loc Cert.KernelIdeal.main_v97_1)) (v2 : (c : Dev Cert.KernelIdeal.nD) → Buf (Elt Ideal) ((c.tc : Thread Cert.KernelIdeal.nD Cert.KernelIdeal.τ).loc Cert.KernelIdeal.main_v97_2)) (v3 : (c : Dev Cert.KernelIdeal.nD) → Buf (Elt Ideal) ((c.tc : Thread Cert.KernelIdeal.nD Cert.KernelIdeal.τ).loc Cert.KernelIdeal.main_v97_3)) (v4 : (c : Dev Cert.KernelIdeal.nD) → Buf (Elt Ideal) ((c.tc : Thread Cert.KernelIdeal.nD Cert.KernelIdeal.τ).loc Cert.KernelIdeal.main_v97_4)) (v5 : (c : Dev Cert.KernelIdeal.nD) → Buf (Elt Ideal) ((c.tc : Thread Cert.KernelIdeal.nD Cert.KernelIdeal.τ).loc Cert.KernelIdeal.main_v97_5)) (v6 : (c : Dev Cert.KernelIdeal.nD) → Buf (Elt Ideal) ((c.tc : Thread Cert.KernelIdeal.nD Cert.KernelIdeal.τ).loc Cert.KernelIdeal.main_v97_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97_0) = v0 c
          ∧ r.2.mem ((c.tc : Thread Cert.KernelIdeal.nD Cert.KernelIdeal.τ).loc Cert.KernelIdeal.main_v97_1) = v1 c
          ∧ r.2.mem ((c.tc : Thread Cert.KernelIdeal.nD Cert.KernelIdeal.τ).loc Cert.KernelIdeal.main_v97_2) = v2 c
          ∧ r.2.mem ((c.tc : Thread Cert.KernelIdeal.nD Cert.KernelIdeal.τ).loc Cert.KernelIdeal.main_v97_3) = v3 c
          ∧ r.2.mem ((c.tc : Thread Cert.KernelIdeal.nD Cert.KernelIdeal.τ).loc Cert.KernelIdeal.main_v97_4) = v4 c
          ∧ r.2.mem ((c.tc : Thread Cert.KernelIdeal.nD Cert.KernelIdeal.τ).loc Cert.KernelIdeal.main_v97_5) = v5 c
          ∧ r.2.mem ((c.tc : Thread Cert.KernelIdeal.nD Cert.KernelIdeal.τ).loc Cert.KernelIdeal.main_v97_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_v112) = v4 c
          ∧ r.2.mem ((c.tc : Thread Cert.ReferenceIdeal.nD Cert.ReferenceIdeal.τ).loc Cert.ReferenceIdeal.main_v111) = v5 c
          ∧ r.2.mem ((c.tc : Thread Cert.ReferenceIdeal.nD Cert.ReferenceIdeal.τ).loc Cert.ReferenceIdeal.main_v116) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_all_finite.lean ====
abbrev S8448x512 : Shape := ⟨2, ![8448, 512]⟩
abbrev S8448x7680 : Shape := ⟨2, ![8448, 7680]⟩
abbrev S2x4 : Shape := ⟨2, ![2, 4]⟩
abbrev S_ : Shape := ⟨0, ![]⟩

class Facts : Prop where
  bcast_S_S8448x512 : S_.BroadcastsInDim S8448x512 (![] : Fin 0 → Fin S8448x512.rank)
  reducesTo_S8448x512_S_d0_1 : S8448x512.ReducesTo [0, 1] S_
  h_S_ : 0 < S_.numel
  slices_S8448x7680_S8448x512_0_6144 : S8448x7680.Slices ![0, 6144] S8448x512
  bcast_S_S2x4 : S_.BroadcastsInDim S2x4 (![] : Fin 0 → Fin S2x4.rank)
  reducesTo_S2x4_S_d0_1 : S2x4.ReducesTo [0, 1] S_

variable [Facts]

def fn_part1 {F : FTy → Type} [FloatOps F] (main_arg4 : FVec F S8448x512 .f32) (main_v14 : IVec S_ 1) (main_v15 : FVec F S2x4 .f32) (main_v16 : FVec F S2x4 .f32) : IVec S_ 1 :=
  let main_v17 : IVec S2x4 1 := cmpf .olt main_v15 main_v16
  let main_c_5 : IVec S_ 1 := constantI S_ 1 1#1
  let main_v18 : IVec S_ 1 := (fun x v => Host.reduce IntOp.andi x v reducesTo_S2x4_S_d0_1 h_S_) main_v17 main_c_5
  let main_v19 : IVec S_ 1 := andi main_v14 main_v18
  let main_v20 : FVec F S8448x512 .f32 := Host.absf main_arg4
  let main_cst_6 : FVec F S_ .f32 := constant S_ .f32 0x7F800000#32
  let main_v21 : FVec F S8448x512 .f32 := broadcastInDim S8448x512 ![] bcast_S_S8448x512 main_cst_6
  let main_v22 : IVec S8448x512 1 := cmpf .olt main_v20 main_v21
  let main_c_7 : IVec S_ 1 := constantI S_ 1 1#1
  let main_v23 : IVec S_ 1 := (fun x v => Host.reduce IntOp.andi x v reducesTo_S8448x512_S_d0_1 h_S_) main_v22 main_c_7
  let main_v24 : IVec S_ 1 := andi main_v19 main_v23
  main_v24

def fn {F : FTy → Type} [FloatOps F] (main_arg0 : FVec F S8448x512 .f32) (main_arg1 : FVec F S8448x512 .f32) (main_arg2 : FVec F S8448x7680 .f32) (main_arg3 : FVec F S2x4 .f32) (main_arg4 : FVec F S8448x512 .f32) : IVec S_ 1 :=
  let main_v0 : FVec F S8448x512 .f32 := Host.absf main_arg0
  let main_cst : FVec F S_ .f32 := constant S_ .f32 0x7F800000#32
  let main_v1 : FVec F S8448x512 .f32 := broadcastInDim S8448x512 ![] bcast_S_S8448x512 main_cst
  let main_v2 : IVec S8448x512 1 := cmpf .olt main_v0 main_v1
  let main_c : IVec S_ 1 := constantI S_ 1 1#1
  let main_v3 : IVec S_ 1 := (fun x v => Host.reduce IntOp.andi x v reducesTo_S8448x512_S_d0_1 h_S_) main_v2 main_c
  let main_v4 : FVec F S8448x512 .f32 := Host.absf main_arg1
  let main_cst_0 : FVec F S_ .f32 := constant S_ .f32 0x7F800000#32
  let main_v5 : FVec F S8448x512 .f32 := broadcastInDim S8448x512 ![] bcast_S_S8448x512 main_cst_0
  let main_v6 : IVec S8448x512 1 := cmpf .olt main_v4 main_v5
  let main_c_1 : IVec S_ 1 := constantI S_ 1 1#1
  let main_v7 : IVec S_ 1 := (fun x v => Host.reduce IntOp.andi x v reducesTo_S8448x512_S_d0_1 h_S_) main_v6 main_c_1
  let main_v8 : IVec S_ 1 := andi main_v3 main_v7
  let main_v9 : FVec F S8448x512 .f32 := (extractStridedSlice S8448x512 ![0, 6144] · slices_S8448x7680_S8448x512_0_6144) main_arg2
  let main_v10 : FVec F S8448x512 .f32 := Host.absf main_v9
  let main_cst_2 : FVec F S_ .f32 := constant S_ .f32 0x7F800000#32
  let main_v11 : FVec F S8448x512 .f32 := broadcastInDim S8448x512 ![] bcast_S_S8448x512 main_cst_2
  let main_v12 : IVec S8448x512 1 := cmpf .olt main_v10 main_v11
  let main_c_3 : IVec S_ 1 := constantI S_ 1 1#1
  let main_v13 : IVec S_ 1 := (fun x v => Host.reduce IntOp.andi x v reducesTo_S8448x512_S_d0_1 h_S_) main_v12 main_c_3
  let main_v14 : IVec S_ 1 := andi main_v8 main_v13
  let main_v15 : FVec F S2x4 .f32 := Host.absf main_arg3
  let main_cst_4 : FVec F S_ .f32 := constant S_ .f32 0x7F800000#32
  let main_v16 : FVec F S2x4 .f32 := broadcastInDim S2x4 ![] bcast_S_S2x4 main_cst_4
  fn_part1 (F := F) main_arg4 main_v14 main_v15 main_v16
-- ==== Kernel.lean ====
abbrev S8448x512 : Shape := ⟨2, ![8448, 512]⟩
abbrev S8448x7680 : Shape := ⟨2, ![8448, 7680]⟩
abbrev S2x4 : Shape := ⟨2, ![2, 4]⟩
abbrev S8448 : Shape := ⟨1, ![8448]⟩
abbrev S33 : Shape := ⟨1, ![33]⟩
abbrev S_ : Shape := ⟨0, ![]⟩
abbrev S33x1 : Shape := ⟨2, ![33, 1]⟩
abbrev S1x8448 : Shape := ⟨2, ![1, 8448]⟩
abbrev S33x8448 : Shape := ⟨2, ![33, 8448]⟩
abbrev S1x4 : Shape := ⟨2, ![1, 4]⟩
abbrev S4 : Shape := ⟨1, ![4]⟩
abbrev S1x33x8448 : Shape := ⟨3, ![1, 33, 8448]⟩
abbrev S4x1x1 : Shape := ⟨3, ![4, 1, 1]⟩
abbrev S4x33x8448 : Shape := ⟨3, ![4, 33, 8448]⟩
abbrev S8448x4x128 : Shape := ⟨3, ![8448, 4, 128]⟩
abbrev S4x8448x128 : Shape := ⟨3, ![4, 8448, 128]⟩
abbrev S4x33x8448x1 : Shape := ⟨4, ![4, 33, 8448, 1]⟩
abbrev S4x1x8448x128 : Shape := ⟨4, ![4, 1, 8448, 128]⟩
abbrev S4x33x8448x128 : Shape := ⟨4, ![4, 33, 8448, 128]⟩
abbrev S4x33x128x128 : Shape := ⟨4, ![4, 33, 128, 128]⟩
abbrev S33x4x128x128 : Shape := ⟨4, ![33, 4, 128, 128]⟩
abbrev S256 : Shape := ⟨1, ![256]⟩
abbrev S8192 : Shape := ⟨1, ![8192]⟩
abbrev S8 : Shape := ⟨1, ![8]⟩
abbrev S120 : Shape := ⟨1, ![120]⟩
abbrev S128 : Shape := ⟨1, ![128]⟩
abbrev S1x128 : Shape := ⟨2, ![1, 128]⟩
abbrev S256x128 : Shape := ⟨2, ![256, 128]⟩
abbrev S1x4x128x128 : Shape := ⟨4, ![1, 4, 128, 128]⟩
abbrev S256x512 : Shape := ⟨2, ![256, 512]⟩
abbrev S2x4x128x128 : Shape := ⟨4, ![2, 4, 128, 128]⟩
abbrev S1x1x128x128 : Shape := ⟨4, ![1, 1, 128, 128]⟩
abbrev S128x128 : Shape := ⟨2, ![128, 128]⟩
abbrev S256x1 : Shape := ⟨2, ![256, 1]⟩
abbrev S256x256 : Shape := ⟨2, ![256, 256]⟩
abbrev S1 : Shape := ⟨1, ![1]⟩
abbrev S1x1 : Shape := ⟨2, ![1, 1]⟩
abbrev S128x256 : Shape := ⟨2, ![128, 256]⟩
abbrev S1x128x128 : Shape := ⟨3, ![1, 128, 128]⟩
abbrev S1x1x1 : Shape := ⟨3, ![1, 1, 1]⟩
abbrev S1x256x256 : Shape := ⟨3, ![1, 256, 256]⟩

abbrev nBuf : Space → Nat
  | .hbm => 130
  | .vmem => 71
  | .smem => 0
  | _ => 0

abbrev hbmTy0_0 (i : Nat) : BufTy := match i % 128 with
  | 0 => ⟨S8448x512, .f32⟩
  | 1 => ⟨S8448x512, .f32⟩
  | 2 => ⟨S8448x7680, .f32⟩
  | 3 => ⟨S2x4, .f32⟩
  | 4 => ⟨S8448x512, .f32⟩
  | 5 => ⟨S8448x512, .f32⟩
  | 6 => ⟨S8448, .i32⟩
  | 7 => ⟨S33, .i32⟩
  | 8 => ⟨S_, .i32⟩
  | 9 => ⟨S33, .i32⟩
  | 10 => ⟨S33, .i32⟩
  | 11 => ⟨S33x1, .i32⟩
  | 12 => ⟨S_, .i32⟩
  | 13 => ⟨S33x1, .i32⟩
  | 14 => ⟨S33x1, .i32⟩
  | 15 => ⟨S1x8448, .i32⟩
  | 16 => ⟨S33x8448, .i32⟩
  | 17 => ⟨S33x8448, .i32⟩
  | 18 => ⟨S33x8448, .i32⟩
  | 19 => ⟨S1x4, .f32⟩
  | 20 => ⟨S4, .f32⟩
  | 21 => ⟨S4, .f32⟩
  | 22 => ⟨S4, .f32⟩
  | 23 => ⟨S_, .i32⟩
  | 24 => ⟨S33x8448, .i32⟩
  | 25 => ⟨S33x8448, .i1⟩
  | 26 => ⟨S1x33x8448, .i1⟩
  | 27 => ⟨S_, .i32⟩
  | 28 => ⟨S33x8448, .i32⟩
  | 29 => ⟨S33x8448, .i32⟩
  | 30 => ⟨S33x8448, .f32⟩
  | 31 => ⟨S1x33x8448, .f32⟩
  | 32 => ⟨S4x1x1, .f32⟩
  | 33 => ⟨S4x33x8448, .f32⟩
  | 34 => ⟨S4x33x8448, .f32⟩
  | 35 => ⟨S4x33x8448, .f32⟩
  | 36 => ⟨S4x33x8448, .f32⟩
  | 37 => ⟨S_, .f32⟩
  | 38 => ⟨S_, .f32⟩
  | 39 => ⟨S4x33x8448, .i1⟩
  | 40 => ⟨S4x33x8448, .f32⟩
  | 41 => ⟨S4x33x8448, .f32⟩
  | 42 => ⟨S8448x4x128, .f32⟩
  | 43 => ⟨S4x8448x128, .f32⟩
  | 44 => ⟨S8448x4x128, .f32⟩
  | 45 => ⟨S4x8448x128, .f32⟩
  | 46 => ⟨S4x33x8448x1, .f32⟩
  | 47 => ⟨S4x1x8448x128, .f32⟩
  | 48 => ⟨S4x33x8448x128, .f32⟩
  | 49 => ⟨S4x33x8448x128, .f32⟩
  | 50 => ⟨S4x33x8448x128, .f32⟩
  | 51 => ⟨S4x33x128x128, .f32⟩
  | 52 => ⟨S33x4x128x128, .f32⟩
  | 53 => ⟨S8448, .i32⟩
  | 54 => ⟨S256, .i32⟩
  | 55 => ⟨S256, .i32⟩
  | 56 => ⟨S8192, .i32⟩
  | 57 => ⟨S8192, .i32⟩
  | 58 => ⟨S8448, .i32⟩
  | 59 => ⟨S33, .i32⟩
  | 60 => ⟨S_, .i32⟩
  | 61 => ⟨S33, .i32⟩
  | 62 => ⟨S33, .i1⟩
  | 63 => ⟨S_, .i32⟩
  | 64 => ⟨S33, .i32⟩
  | 65 => ⟨S33, .i32⟩
  | 66 => ⟨S_, .i32⟩
  | 67 => ⟨S33, .i32⟩
  | 68 => ⟨S33, .i32⟩
  | 69 => ⟨S_, .i32⟩
  | 70 => ⟨S33, .i32⟩
  | 71 => ⟨S33, .i32⟩
  | 72 => ⟨S33, .i32⟩
  | 73 => ⟨S_, .i32⟩
  | 74 => ⟨S33, .i32⟩
  | 75 => ⟨S33, .i32⟩
  | 76 => ⟨S33x1, .i32⟩
  | 77 => ⟨S_, .i32⟩
  | 78 => ⟨S33x1, .i32⟩
  | 79 => ⟨S33x1, .i32⟩
  | 80 => ⟨S1x8448, .i32⟩
  | 81 => ⟨S33x8448, .i32⟩
  | 82 => ⟨S33x8448, .i32⟩
  | 83 => ⟨S33x8448, .i32⟩
  | 84 => ⟨S1x4, .f32⟩
  | 85 => ⟨S4, .f32⟩
  | 86 => ⟨S4, .f32⟩
  | 87 => ⟨S4, .f32⟩
  | 88 => ⟨S_, .i32⟩
  | 89 => ⟨S33x8448, .i32⟩
  | 90 => ⟨S33x8448, .i1⟩
  | 91 => ⟨S1x33x8448, .i1⟩
  | 92 => ⟨S_, .i32⟩
  | 93 => ⟨S33x8448, .i32⟩
  | 94 => ⟨S33x8448, .i32⟩
  | 95 => ⟨S33x8448, .f32⟩
  | 96 => ⟨S1x33x8448, .f32⟩
  | 97 => ⟨S4x1x1, .f32⟩
  | 98 => ⟨S4x33x8448, .f32⟩
  | 99 => ⟨S4x33x8448, .f32⟩
  | 100 => ⟨S4x33x8448, .f32⟩
  | 101 => ⟨S4x33x8448, .f32⟩
  | 102 => ⟨S_, .f32⟩
  | 103 => ⟨S_, .f32⟩
  | 104 => ⟨S4x33x8448, .i1⟩
  | 105 => ⟨S4x33x8448, .f32⟩
  | 106 => ⟨S4x33x8448, .f32⟩
  | 107 => ⟨S8448x4x128, .f32⟩
  | 108 => ⟨S4x8448x128, .f32⟩
  | 109 => ⟨S8448x4x128, .f32⟩
  | 110 => ⟨S4x8448x128, .f32⟩
  | 111 => ⟨S4x33x8448x1, .f32⟩
  | 112 => ⟨S4x1x8448x128, .f32⟩
  | 113 => ⟨S4x33x8448x128, .f32⟩
  | 114 => ⟨S4x33x8448x128, .f32⟩
  | 115 => ⟨S4x33x8448x128, .f32⟩
  | 116 => ⟨S4x33x128x128, .f32⟩
  | 117 => ⟨S33x4x128x128, .f32⟩
  | 118 => ⟨S8, .f32⟩
  | 119 => ⟨S_, .f32⟩
  | 120 => ⟨S120, .f32⟩
  | 121 => ⟨S128, .f32⟩
  | 122 => ⟨S1x128, .f32⟩
  | 123 => ⟨S8448x512, .f32⟩
  | 124 => ⟨S8448x512, .f32⟩
  | 125 => ⟨S8448x512, .f32⟩
  | 126 => ⟨S8448x512, .f32⟩
  | 127 => ⟨S8448x512, .f32⟩
  | _ => ⟨S8448x512, .f32⟩

abbrev hbmTy0_1 (i : Nat) : BufTy := match i % 128 with
  | 0 => ⟨S8448x512, .f32⟩
  | 1 => ⟨S1x128, .f32⟩
  | _ => ⟨S8448x512, .f32⟩

abbrev hbmTy (i : Nat) : BufTy := match i / 128 with
  | 0 => hbmTy0_0 i
  | 1 => hbmTy0_1 i
  | _ => ⟨S8448x512, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | .local _ .vmem, ⟨36, _⟩ => ⟨S256x128, .f32⟩
  | .local _ .vmem, ⟨37, _⟩ => ⟨S256x128, .f32⟩
  | .local _ .vmem, ⟨38, _⟩ => ⟨S256x128, .f32⟩
  | .local _ .vmem, ⟨39, _⟩ => ⟨S256x128, .f32⟩
  | .local _ .vmem, ⟨40, _⟩ => ⟨S256x128, .f32⟩
  | .local _ .vmem, ⟨41, _⟩ => ⟨S256x128, .f32⟩
  | .local _ .vmem, ⟨42, _⟩ => ⟨S256x128, .f32⟩
  | .local _ .vmem, ⟨43, _⟩ => ⟨S256x128, .f32⟩
  | .local _ .vmem, ⟨44, _⟩ => ⟨S256x128, .f32⟩
  | .local _ .vmem, ⟨45, _⟩ => ⟨S256x128, .f32⟩
  | .local _ .vmem, ⟨46, _⟩ => ⟨S256x128, .f32⟩
  | .local _ .vmem, ⟨47, _⟩ => ⟨S256x128, .f32⟩
  | .local _ .vmem, ⟨48, _⟩ => ⟨S1x128, .f32⟩
  | .local _ .vmem, ⟨49, _⟩ => ⟨S1x4x128x128, .f32⟩
  | .local _ .vmem, ⟨50, _⟩ => ⟨S1x4x128x128, .f32⟩
  | .local _ .vmem, ⟨51, _⟩ => ⟨S1x4x128x128, .f32⟩
  | .local _ .vmem, ⟨52, _⟩ => ⟨S1x4x128x128, .f32⟩
  | .local _ .vmem, ⟨53, _⟩ => ⟨S256x512, .f32⟩
  | .local _ .vmem, ⟨54, _⟩ => ⟨S256x512, .f32⟩
  | .local _ .vmem, ⟨55, _⟩ => ⟨S256x512, .f32⟩
  | .local _ .vmem, ⟨56, _⟩ => ⟨S256x512, .f32⟩
  | .local _ .vmem, ⟨57, _⟩ => ⟨S256x512, .f32⟩
  | .local _ .vmem, ⟨58, _⟩ => ⟨S256x512, .f32⟩
  | .local _ .vmem, ⟨59, _⟩ => ⟨S256x512, .f32⟩
  | .local _ .vmem, ⟨60, _⟩ => ⟨S256x512, .f32⟩
  | .local _ .vmem, ⟨61, _⟩ => ⟨S256x512, .f32⟩
  | .local _ .vmem, ⟨62, _⟩ => ⟨S256x512, .f32⟩
  | .local _ .vmem, ⟨63, _⟩ => ⟨S256x512, .f32⟩
  | .local _ .vmem, ⟨64, _⟩ => ⟨S256x512, .f32⟩
  | .local _ .vmem, ⟨65, _⟩ => ⟨S256x512, .f32⟩
  | .local _ .vmem, ⟨66, _⟩ => ⟨S256x512, .f32⟩
  | .local _ .vmem, ⟨67, _⟩ => ⟨S256x512, .f32⟩
  | .local _ .vmem, ⟨68, _⟩ => ⟨S256x512, .f32⟩
  | .local _ .vmem, ⟨69, _⟩ => ⟨S1x128, .f32⟩
  | .local _ .vmem, ⟨70, _⟩ => ⟨S2x4x128x128, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_3 : Ref sig .tc := ⟨.hbm, 60, rfl⟩
abbrev main_v47 : Ref sig .tc := ⟨.hbm, 61, rfl⟩
abbrev main_v48 : Ref sig .tc := ⟨.hbm, 62, rfl⟩
abbrev main_c_4 : Ref sig .tc := ⟨.hbm, 63, rfl⟩
abbrev main_v49 : Ref sig .tc := ⟨.hbm, 64, rfl⟩
abbrev main_v50 : Ref sig .tc := ⟨.hbm, 65, rfl⟩
abbrev main_c_5 : Ref sig .tc := ⟨.hbm, 66, rfl⟩
abbrev main_v51 : Ref sig .tc := ⟨.hbm, 67, rfl⟩
abbrev main_v52 : Ref sig .tc := ⟨.hbm, 68, rfl⟩
abbrev main_c_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_9 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_10 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_11 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_12 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97_0 : Ref sig .tc := ⟨.hbm, 123, rfl⟩
abbrev main_v97_1 : Ref sig .tc := ⟨.hbm, 124, rfl⟩
abbrev main_v97_2 : Ref sig .tc := ⟨.hbm, 125, rfl⟩
abbrev main_v97_3 : Ref sig .tc := ⟨.hbm, 126, rfl⟩
abbrev main_v97_4 : Ref sig .tc := ⟨.hbm, 127, rfl⟩
abbrev main_v97_5 : Ref sig .tc := ⟨.hbm, 128, rfl⟩
abbrev main_v97_6 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg25_0 : Ref sig .tc := ⟨.vmem, 49, rfl⟩
abbrev cc0_stg25_1 : Ref sig .tc := ⟨.vmem, 50, rfl⟩
abbrev cc0_stg26_0 : Ref sig .tc := ⟨.vmem, 51, rfl⟩
abbrev cc0_stg26_1 : Ref sig .tc := ⟨.vmem, 52, rfl⟩
abbrev cc0_stg27_0 : Ref sig .tc := ⟨.vmem, 53, rfl⟩
abbrev cc0_stg27_1 : Ref sig .tc := ⟨.vmem, 54, rfl⟩
abbrev cc0_stg28_0 : Ref sig .tc := ⟨.vmem, 55, rfl⟩
abbrev cc0_stg28_1 : Ref sig .tc := ⟨.vmem, 56, rfl⟩
abbrev cc0_stg29_0 : Ref sig .tc := ⟨.vmem, 57, rfl⟩
abbrev cc0_stg29_1 : Ref sig .tc := ⟨.vmem, 58, rfl⟩
abbrev cc0_stg30_0 : Ref sig .tc := ⟨.vmem, 59, rfl⟩
abbrev cc0_stg30_1 : Ref sig .tc := ⟨.vmem, 60, rfl⟩
abbrev cc0_stg31_0 : Ref sig .tc := ⟨.vmem, 61, rfl⟩
abbrev cc0_stg31_1 : Ref sig .tc := ⟨.vmem, 62, rfl⟩
abbrev cc0_stg32_0 : Ref sig .tc := ⟨.vmem, 63, rfl⟩
abbrev cc0_stg32_1 : Ref sig .tc := ⟨.vmem, 64, rfl⟩
abbrev cc0_stg33_0 : Ref sig .tc := ⟨.vmem, 65, rfl⟩
abbrev cc0_stg33_1 : Ref sig .tc := ⟨.vmem, 66, rfl⟩
abbrev cc0_stg34_0 : Ref sig .tc := ⟨.vmem, 67, rfl⟩
abbrev cc0_stg34_1 : Ref sig .tc := ⟨.vmem, 68, rfl⟩
abbrev cc0_stg35_0 : Ref sig .tc := ⟨.vmem, 69, rfl⟩
abbrev cc0_scratch0 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem25_0 : DmaSem sig := 49
abbrev cc0_sem25_1 : DmaSem sig := 50
abbrev cc0_sem26_0 : DmaSem sig := 51
abbrev cc0_sem26_1 : DmaSem sig := 52
abbrev cc0_sem27_0 : DmaSem sig := 53
abbrev cc0_sem27_1 : DmaSem sig := 54
abbrev cc0_sem28_0 : DmaSem sig := 55
abbrev cc0_sem28_1 : DmaSem sig := 56
abbrev cc0_sem29_0 : DmaSem sig := 57
abbrev cc0_sem29_1 : DmaSem sig := 58
abbrev cc0_sem30_0 : DmaSem sig := 59
abbrev cc0_sem30_1 : DmaSem sig := 60
abbrev cc0_sem31_0 : DmaSem sig := 61
abbrev cc0_sem31_1 : DmaSem sig := 62
abbrev cc0_sem32_0 : DmaSem sig := 63
abbrev cc0_sem32_1 : DmaSem sig := 64
abbrev cc0_sem33_0 : DmaSem sig := 65
abbrev cc0_sem33_1 : DmaSem sig := 66
abbrev cc0_sem34_0 : DmaSem sig := 67
abbrev cc0_sem34_1 : DmaSem sig := 68
abbrev cc0_sem35_0 : DmaSem sig := 69

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_362 : BitVec 32 := 0#32
  let v1112 : BitVec 1 := Scalar.cmpi .eq arg0 c0_i32_362
  let v1113 : BitVec 32 := Scalar.extui v1112
  let c0_i32_363 : BitVec 32 := 0#32
  let v1114 : BitVec 1 := Scalar.cmpi .ne v1113 c0_i32_363
  v1114

def k0_cond3 (i : grid0.Coords) : BitVec 1 :=
  let arg0 : BitVec 32 := BitVec.ofNat 32 (i 0).val
  let c0_i32_364 : BitVec 32 := 0#32
  let v1115 : BitVec 1 := Scalar.cmpi .ne arg0 c0_i32_364
  let v1116 : BitVec 32 := Scalar.extui v1115
  let c0_i32_365 : BitVec 32 := 0#32
  let v1117 : BitVec 1 := Scalar.cmpi .ne v1116 c0_i32_365
  v1117

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c32_i32 : BitVec 32 := 32#32
  let v0 : BitVec 32 := Scalar.subi c32_i32 arg0
  let c2_i32 : BitVec 32 := 2#32
  let c0_i32 : BitVec 32 := 0#32
  ![v0.toNat, c2_i32.toNat]

def cc0_transform_7 (i : grid0.Coords) : Fin 2 → Nat :=
  let arg0 : BitVec 32 := BitVec.ofNat 32 (i 0).val
  let c32_i32 : BitVec 32 := 32#32
  let v0 : BitVec 32 := Scalar.subi c32_i32 arg0
  let c3_i32 : BitVec 32 := 3#32
  let c0_i32 : BitVec 32 := 0#32
  ![v0.toNat, c3_i32.toNat]

def cc0_transform_8 (i : grid0.Coords) : Fin 2 → Nat :=
  let arg0 : BitVec 32 := BitVec.ofNat 32 (i 0).val
  let c32_i32 : BitVec 32 := 32#32
  let v0 : BitVec 32 := Scalar.subi c32_i32 arg0
  let c48_i32 : BitVec 32 := 48#32
  let c0_i32 : BitVec 32 := 0#32
  ![v0.toNat, c48_i32.toNat]

def cc0_transform_9 (i : grid0.Coords) : Fin 2 → Nat :=
  let arg0 : BitVec 32 := BitVec.ofNat 32 (i 0).val
  let c32_i32 : BitVec 32 := 32#32
  let v0 : BitVec 32 := Scalar.subi c32_i32 arg0
  let c49_i32 : BitVec 32 := 49#32
  let c0_i32 : BitVec 32 := 0#32
  ![v0.toNat, c49_i32.toNat]

def cc0_transform_10 (i : grid0.Coords) : Fin 2 → Nat :=
  let arg0 : BitVec 32 := BitVec.ofNat 32 (i 0).val
  let c32_i32 : BitVec 32 := 32#32
  let v0 : BitVec 32 := Scalar.subi c32_i32 arg0
  let c50_i32 : BitVec 32 := 50#32
  let c0_i32 : BitVec 32 := 0#32
  ![v0.toNat, c50_i32.toNat]

def cc0_transform_11 (i : grid0.Coords) : Fin 2 → Nat :=
  let arg0 : BitVec 32 := BitVec.ofNat 32 (i 0).val
  let c32_i32 : BitVec 32 := 32#32
  let v0 : BitVec 32 := Scalar.subi c32_i32 arg0
  let c51_i32 : BitVec 32 := 51#32
  let c0_i32 : BitVec 32 := 0#32
  ![v0.toNat, c51_i32.toNat]

def cc0_transform_12 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_13 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c1_i32_2 : BitVec 32 := 1#32
  let c0_i32_3 : BitVec 32 := 0#32
  ![v5.toNat, c1_i32_2.toNat]

def cc0_transform_14 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c2_i32 : BitVec 32 := 2#32
  let c0_i32_2 : BitVec 32 := 0#32
  ![v5.toNat, c2_i32.toNat]

def cc0_transform_15 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c3_i32 : BitVec 32 := 3#32
  let c0_i32_2 : BitVec 32 := 0#32
  ![v5.toNat, c3_i32.toNat]

def cc0_transform_16 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_17 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c1_i32_2 : BitVec 32 := 1#32
  let c0_i32_3 : BitVec 32 := 0#32
  ![v5.toNat, c1_i32_2.toNat]

def cc0_transform_18 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c2_i32 : BitVec 32 := 2#32
  let c0_i32_2 : BitVec 32 := 0#32
  ![v5.toNat, c2_i32.toNat]

def cc0_transform_19 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c3_i32 : BitVec 32 := 3#32
  let c0_i32_2 : BitVec 32 := 0#32
  ![v5.toNat, c3_i32.toNat]

def cc0_transform_20 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c48_i32 : BitVec 32 := 48#32
  let c0_i32_2 : BitVec 32 := 0#32
  ![v5.toNat, c48_i32.toNat]

def cc0_transform_21 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c49_i32 : BitVec 32 := 49#32
  let c0_i32_2 : BitVec 32 := 0#32
  ![v5.toNat, c49_i32.toNat]

def cc0_transform_22 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c50_i32 : BitVec 32 := 50#32
  let c0_i32_2 : BitVec 32 := 0#32
  ![v5.toNat, c50_i32.toNat]

def cc0_transform_23 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c51_i32 : BitVec 32 := 51#32
  let c0_i32_2 : BitVec 32 := 0#32
  ![v5.toNat, c51_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_26 (i : grid0.Coords) : Fin 4 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  let c0_i32_4 : BitVec 32 := 0#32
  let c0_i32_5 : BitVec 32 := 0#32
  ![v5.toNat, c0_i32_2.toNat, c0_i32_3.toNat, c0_i32_4.toNat]

def cc0_transform_27 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_28 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_29 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_30 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_31 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_32 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_33 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_34 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c32_i32_1 : BitVec 32 := 32#32
  let v4 : BitVec 32 := Scalar.subi c32_i32_1 v3
  let v5 : BitVec 32 := Scalar.select v1 v2 v4
  let c0_i32_2 : BitVec 32 := 0#32
  let c0_i32_3 : BitVec 32 := 0#32
  ![v5.toNat, c0_i32_2.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1x4x128x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x4x128x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x512 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x512 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S256x512 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S256x512 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S256x512 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 1 → Memref sig .tc .vmem S1x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]
-- ==== ReferenceIdeal.lean ====
abbrev S8448x512 : Shape := ⟨2, ![8448, 512]⟩
abbrev S8448x7680 : Shape := ⟨2, ![8448, 7680]⟩
abbrev S2x4 : Shape := ⟨2, ![2, 4]⟩
abbrev S1x4 : Shape := ⟨2, ![1, 4]⟩
abbrev S4 : Shape := ⟨1, ![4]⟩
abbrev S8448x4x128 : Shape := ⟨3, ![8448, 4, 128]⟩
abbrev S8448 : Shape := ⟨1, ![8448]⟩
abbrev S8448x1 : Shape := ⟨2, ![8448, 1]⟩
abbrev S1x8448 : Shape := ⟨2, ![1, 8448]⟩
abbrev S8448x8448 : Shape := ⟨2, ![8448, 8448]⟩
abbrev S_ : Shape := ⟨0, ![]⟩
abbrev S1x8448x8448 : Shape := ⟨3, ![1, 8448, 8448]⟩
abbrev S4x1x1 : Shape := ⟨3, ![4, 1, 1]⟩
abbrev S4x8448x8448 : Shape := ⟨3, ![4, 8448, 8448]⟩
abbrev S4x128x8448 : Shape := ⟨3, ![4, 128, 8448]⟩
abbrev S4x8448x128 : Shape := ⟨3, ![4, 8448, 128]⟩
abbrev S256 : Shape := ⟨1, ![256]⟩
abbrev S8192 : Shape := ⟨1, ![8192]⟩
abbrev S8 : Shape := ⟨1, ![8]⟩
abbrev S1x8 : Shape := ⟨2, ![1, 8]⟩
abbrev S1x128 : Shape := ⟨2, ![1, 128]⟩

abbrev nBuf : Space → Nat
  | .hbm => 148
  | .vmem => 0
  | .smem => 0
  | _ => 0

abbrev hbmTy0_0 (i : Nat) : BufTy := match i % 128 with
  | 0 => ⟨S8448x512, .f32⟩
  | 1 => ⟨S8448x512, .f32⟩
  | 2 => ⟨S8448x7680, .f32⟩
  | 3 => ⟨S2x4, .f32⟩
  | 4 => ⟨S8448x512, .f32⟩
  | 5 => ⟨S8448x512, .f32⟩
  | 6 => ⟨S1x4, .f32⟩
  | 7 => ⟨S4, .f32⟩
  | 8 => ⟨S8448x4x128, .f32⟩
  | 9 => ⟨S8448x4x128, .f32⟩
  | 10 => ⟨S8448x4x128, .f32⟩
  | 11 => ⟨S4, .f32⟩
  | 12 => ⟨S4, .f32⟩
  | 13 => ⟨S8448, .i32⟩
  | 14 => ⟨S8448x1, .i32⟩
  | 15 => ⟨S1x8448, .i32⟩
  | 16 => ⟨S8448x8448, .i32⟩
  | 17 => ⟨S8448x8448, .i32⟩
  | 18 => ⟨S8448x8448, .i32⟩
  | 19 => ⟨S_, .i32⟩
  | 20 => ⟨S8448x8448, .i32⟩
  | 21 => ⟨S8448x8448, .i1⟩
  | 22 => ⟨S1x8448x8448, .i1⟩
  | 23 => ⟨S_, .i32⟩
  | 24 => ⟨S8448x8448, .i32⟩
  | 25 => ⟨S8448x8448, .i32⟩
  | 26 => ⟨S8448x8448, .f32⟩
  | 27 => ⟨S1x8448x8448, .f32⟩
  | 28 => ⟨S4x1x1, .f32⟩
  | 29 => ⟨S4x8448x8448, .f32⟩
  | 30 => ⟨S4x8448x8448, .f32⟩
  | 31 => ⟨S4x8448x8448, .f32⟩
  | 32 => ⟨S4x8448x8448, .f32⟩
  | 33 => ⟨S_, .f32⟩
  | 34 => ⟨S_, .f32⟩
  | 35 => ⟨S4x8448x8448, .i1⟩
  | 36 => ⟨S4x8448x8448, .f32⟩
  | 37 => ⟨S4x8448x8448, .f32⟩
  | 38 => ⟨S_, .f32⟩
  | 39 => ⟨S4x8448x8448, .f32⟩
  | 40 => ⟨S4x8448x8448, .f32⟩
  | 41 => ⟨S4x8448x8448, .f32⟩
  | 42 => ⟨S4x128x8448, .f32⟩
  | 43 => ⟨S8448x4x128, .f32⟩
  | 44 => ⟨S8448x512, .f32⟩
  | 45 => ⟨S8448x4x128, .f32⟩
  | 46 => ⟨S4x128x8448, .f32⟩
  | 47 => ⟨S4x8448x8448, .f32⟩
  | 48 => ⟨S4x128x8448, .f32⟩
  | 49 => ⟨S8448x4x128, .f32⟩
  | 50 => ⟨S4x8448x8448, .f32⟩
  | 51 => ⟨S4x8448x8448, .f32⟩
  | 52 => ⟨S4x8448x128, .f32⟩
  | 53 => ⟨S8448x4x128, .f32⟩
  | 54 => ⟨S4x8448x128, .f32⟩
  | 55 => ⟨S8448x4x128, .f32⟩
  | 56 => ⟨S_, .f32⟩
  | 57 => ⟨S4x8448x8448, .f32⟩
  | 58 => ⟨S4x8448x8448, .f32⟩
  | 59 => ⟨S4x8448x8448, .f32⟩
  | 60 => ⟨S4x8448x8448, .f32⟩
  | 61 => ⟨S4x8448x8448, .f32⟩
  | 62 => ⟨S_, .f32⟩
  | 63 => ⟨S4, .f32⟩
  | 64 => ⟨S4x1x1, .f32⟩
  | 65 => ⟨S_, .f32⟩
  | 66 => ⟨S4, .f32⟩
  | 67 => ⟨S4, .f32⟩
  | 68 => ⟨S4, .f32⟩
  | 69 => ⟨S8448x512, .f32⟩
  | 70 => ⟨S8448x512, .f32⟩
  | 71 => ⟨S8448x512, .f32⟩
  | 72 => ⟨S1x4, .f32⟩
  | 73 => ⟨S4, .f32⟩
  | 74 => ⟨S8448x4x128, .f32⟩
  | 75 => ⟨S8448x4x128, .f32⟩
  | 76 => ⟨S8448x4x128, .f32⟩
  | 77 => ⟨S4, .f32⟩
  | 78 => ⟨S4, .f32⟩
  | 79 => ⟨S8448, .i32⟩
  | 80 => ⟨S256, .i32⟩
  | 81 => ⟨S256, .i32⟩
  | 82 => ⟨S8192, .i32⟩
  | 83 => ⟨S8192, .i32⟩
  | 84 => ⟨S8448, .i32⟩
  | 85 => ⟨S8448x1, .i32⟩
  | 86 => ⟨S1x8448, .i32⟩
  | 87 => ⟨S8448x8448, .i32⟩
  | 88 => ⟨S8448x8448, .i32⟩
  | 89 => ⟨S8448x8448, .i32⟩
  | 90 => ⟨S_, .i32⟩
  | 91 => ⟨S8448x8448, .i32⟩
  | 92 => ⟨S8448x8448, .i1⟩
  | 93 => ⟨S1x8448x8448, .i1⟩
  | 94 => ⟨S_, .i32⟩
  | 95 => ⟨S8448x8448, .i32⟩
  | 96 => ⟨S8448x8448, .i32⟩
  | 97 => ⟨S8448x8448, .f32⟩
  | 98 => ⟨S1x8448x8448, .f32⟩
  | 99 => ⟨S4x1x1, .f32⟩
  | 100 => ⟨S4x8448x8448, .f32⟩
  | 101 => ⟨S4x8448x8448, .f32⟩
  | 102 => ⟨S4x8448x8448, .f32⟩
  | 103 => ⟨S4x8448x8448, .f32⟩
  | 104 => ⟨S_, .f32⟩
  | 105 => ⟨S_, .f32⟩
  | 106 => ⟨S4x8448x8448, .i1⟩
  | 107 => ⟨S4x8448x8448, .f32⟩
  | 108 => ⟨S4x8448x8448, .f32⟩
  | 109 => ⟨S_, .f32⟩
  | 110 => ⟨S4x8448x8448, .f32⟩
  | 111 => ⟨S4x8448x8448, .f32⟩
  | 112 => ⟨S4x8448x8448, .f32⟩
  | 113 => ⟨S4x128x8448, .f32⟩
  | 114 => ⟨S8448x4x128, .f32⟩
  | 115 => ⟨S8448x512, .f32⟩
  | 116 => ⟨S8448x4x128, .f32⟩
  | 117 => ⟨S4x128x8448, .f32⟩
  | 118 => ⟨S4x8448x8448, .f32⟩
  | 119 => ⟨S4x128x8448, .f32⟩
  | 120 => ⟨S8448x4x128, .f32⟩
  | 121 => ⟨S4x8448x8448, .f32⟩
  | 122 => ⟨S4x8448x8448, .f32⟩
  | 123 => ⟨S4x8448x128, .f32⟩
  | 124 => ⟨S8448x4x128, .f32⟩
  | 125 => ⟨S4x8448x128, .f32⟩
  | 126 => ⟨S8448x4x128, .f32⟩
  | 127 => ⟨S_, .f32⟩
  | _ => ⟨S8448x512, .f32⟩

abbrev hbmTy0_1 (i : Nat) : BufTy := match i % 128 with
  | 0 => ⟨S4x8448x8448, .f32⟩
  | 1 => ⟨S4x8448x8448, .f32⟩
  | 2 => ⟨S4x8448x8448, .f32⟩
  | 3 => ⟨S4x8448x8448, .f32⟩
  | 4 => ⟨S4x8448x8448, .f32⟩
  | 5 => ⟨S_, .f32⟩
  | 6 => ⟨S4, .f32⟩
  | 7 => ⟨S4x1x1, .f32⟩
  | 8 => ⟨S_, .f32⟩
  | 9 => ⟨S4, .f32⟩
  | 10 => ⟨S4, .f32⟩
  | 11 => ⟨S4, .f32⟩
  | 12 => ⟨S8448x512, .f32⟩
  | 13 => ⟨S8448x512, .f32⟩
  | 14 => ⟨S8448x512, .f32⟩
  | 15 => ⟨S8, .f32⟩
  | 16 => ⟨S1x8, .f32⟩
  | 17 => ⟨S_, .i32⟩
  | 18 => ⟨S_, .f32⟩
  | 19 => ⟨S1x128, .f32⟩
  | _ => ⟨S8448x512, .f32⟩

abbrev hbmTy (i : Nat) : BufTy := match i / 128 with
  | 0 => hbmTy0_0 i
  | 1 => hbmTy0_1 i
  | _ => ⟨S8448x512, .f32⟩

abbrev bufTy : (tb : Table) → Fin (tcTables nBuf tb) → BufTy
  | .hbm, ⟨i, _⟩ => hbmTy i
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_call0_v0 : Ref sig .tc := ⟨.hbm, 34, rfl⟩
abbrev main_v26_1 : Ref sig .tc := ⟨.hbm, 35, rfl⟩
abbrev main_call0_v2 : Ref sig .tc := ⟨.hbm, 36, rfl⟩
abbrev main_v26_0 : Ref sig .tc := ⟨.hbm, 37, rfl⟩
abbrev main_call0_cst : Ref sig .tc := ⟨.hbm, 38, rfl⟩
abbrev main_v26_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call1_cst : Ref sig .tc := ⟨.hbm, 56, rfl⟩
abbrev main_call1_v0 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_1 : Ref sig .tc := ⟨.hbm, 62, rfl⟩
abbrev main_v47 : Ref sig .tc := ⟨.hbm, 63, rfl⟩
abbrev main_v48 : Ref sig .tc := ⟨.hbm, 64, rfl⟩
abbrev main_cst_2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_c_3 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_c_4 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_5 : Ref sig .tc := ⟨.hbm, 104, rfl⟩
abbrev main_call2_v0 : Ref sig .tc := ⟨.hbm, 105, rfl⟩
abbrev main_v85_1 : Ref sig .tc := ⟨.hbm, 106, rfl⟩
abbrev main_call2_v2 : Ref sig .tc := ⟨.hbm, 107, rfl⟩
abbrev main_v85_0 : Ref sig .tc := ⟨.hbm, 108, rfl⟩
abbrev main_call2_cst : Ref sig .tc := ⟨.hbm, 109, rfl⟩
abbrev main_v85_2 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_call3_cst : Ref sig .tc := ⟨.hbm, 127, rfl⟩
abbrev main_call3_v0 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_6 : Ref sig .tc := ⟨.hbm, 133, rfl⟩
abbrev main_v106 : Ref sig .tc := ⟨.hbm, 134, rfl⟩
abbrev main_v107 : Ref sig .tc := ⟨.hbm, 135, rfl⟩
abbrev main_cst_7 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_c_8 : Ref sig .tc := ⟨.hbm, 145, rfl⟩
abbrev main_call4_v0 : Ref sig .tc := ⟨.hbm, 146, rfl⟩
abbrev main_v116 : Ref sig .tc := ⟨.hbm, 147, rfl⟩

abbrev nD : Nat := 1
abbrev τ : Topo := Topo.v7x

variable {F : FTy → Type} [FloatOps F]
-- ==== Kernel2.lean ====
abbrev S8448x1024 : Shape := ⟨2, ![8448, 1024]⟩
abbrev S4096x1024 : Shape := ⟨2, ![4096, 1024]⟩
abbrev S8448x4096 : Shape := ⟨2, ![8448, 4096]⟩
abbrev S768x1024 : Shape := ⟨2, ![768, 1024]⟩
abbrev S2048x1024 : Shape := ⟨2, ![2048, 1024]⟩
abbrev S768x2048 : Shape := ⟨2, ![768, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S4096x1024, .bf16⟩
  | .hbm, ⟨2, _⟩ => ⟨S8448x4096, .bf16⟩
  | .hbm, ⟨3, _⟩ => ⟨S8448x4096, .bf16⟩
  | .local _ .vmem, ⟨0, _⟩ => ⟨S768x1024, .bf16⟩
  | .local _ .vmem, ⟨1, _⟩ => ⟨S768x1024, .bf16⟩
  | .local _ .vmem, ⟨2, _⟩ => ⟨S2048x1024, .bf16⟩
  | .local _ .vmem, ⟨3, _⟩ => ⟨S2048x1024, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .bf16⟩
  | .local _ .vmem, ⟨7, _⟩ => ⟨S768x2048, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8448x1024 : Shape := ⟨2, ![8448, 1024]⟩
abbrev S4096x1024 : Shape := ⟨2, ![4096, 1024]⟩
abbrev S8448x4096 : Shape := ⟨2, ![8448, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4096x1024, .bf16⟩
  | .hbm, ⟨2, _⟩ => ⟨S8448x4096, .bf16⟩
  | .hbm, ⟨3, _⟩ => ⟨S4096x1024, .f32⟩
  | .hbm, ⟨4, _⟩ => ⟨S8448x1024, .f32⟩
  | .hbm, ⟨5, _⟩ => ⟨S8448x4096, .f32⟩
  | .hbm, ⟨6, _⟩ => ⟨S_, .f32⟩
  | .hbm, ⟨7, _⟩ => ⟨S8448x4096, .f32⟩
  | .hbm, ⟨8, _⟩ => ⟨S8448x4096, .f32⟩
  | .hbm, ⟨9, _⟩ => ⟨S_, .f32⟩
  | .hbm, ⟨10, _⟩ => ⟨S8448x4096, .f32⟩
  | .hbm, ⟨11, _⟩ => ⟨S8448x4096, .i1⟩
  | .hbm, ⟨12, _⟩ => ⟨S_, .f32⟩
  | .hbm, ⟨13, _⟩ => ⟨S8448x4096, .f32⟩
  | .hbm, ⟨14, _⟩ => ⟨S8448x4096, .f32⟩
  | .hbm, ⟨15, _⟩ => ⟨S8448x1024, .f32⟩
  | .hbm, ⟨16, _⟩ => ⟨S8448x4096, .f32⟩
  | .hbm, ⟨17, _⟩ => ⟨S8448x4096, .f32⟩
  | .hbm, ⟨18, _⟩ => ⟨S8448x4096, .f32⟩
  | .hbm, ⟨19, _⟩ => ⟨S8448x4096, .f32⟩
  | .hbm, ⟨20, _⟩ => ⟨S_, .f32⟩
  | .hbm, ⟨21, _⟩ => ⟨S8448x4096, .f32⟩
  | .hbm, ⟨22, _⟩ => ⟨S8448x4096, .f32⟩
  | .hbm, ⟨23, _⟩ => ⟨S8448x4096, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel3.lean ====
abbrev S8448x4096 : Shape := ⟨2, ![8448, 4096]⟩
abbrev S1024x4096 : Shape := ⟨2, ![1024, 4096]⟩
abbrev S8448x1024 : Shape := ⟨2, ![8448, 1024]⟩
abbrev S768x4096 : Shape := ⟨2, ![768, 4096]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x4096, .bf16⟩
  | .hbm, ⟨1, _⟩ => ⟨S1024x4096, .bf16⟩
  | .hbm, ⟨2, _⟩ => ⟨S8448x1024, .f32⟩
  | .local _ .vmem, ⟨0, _⟩ => ⟨S768x4096, .bf16⟩
  | .local _ .vmem, ⟨1, _⟩ => ⟨S768x4096, .bf16⟩
  | .local _ .vmem, ⟨2, _⟩ => ⟨S1024x4096, .bf16⟩
  | .local _ .vmem, ⟨3, _⟩ => ⟨S768x1024, .f32⟩
  | .local _ .vmem, ⟨4, _⟩ => ⟨S768x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8448x4096 : Shape := ⟨2, ![8448, 4096]⟩
abbrev S1024x4096 : Shape := ⟨2, ![1024, 4096]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S1024x4096, .bf16⟩
  | .hbm, ⟨2, _⟩ => ⟨S1024x4096, .f32⟩
  | .hbm, ⟨3, _⟩ => ⟨S8448x4096, .f32⟩
  | .hbm, ⟨4, _⟩ => ⟨S_, .f32⟩
  | .hbm, ⟨5, _⟩ => ⟨S8448x1024, .f32⟩
  | .hbm, ⟨6, _⟩ => ⟨S8448x4096, .f32⟩
  | .hbm, ⟨7, _⟩ => ⟨S8448x1024, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8448x7680 : Shape := ⟨2, ![8448, 7680]⟩
abbrev S1024x7680 : Shape := ⟨2, ![1024, 7680]⟩
abbrev S8448x1024 : Shape := ⟨2, ![8448, 1024]⟩
abbrev S768x7680 : Shape := ⟨2, ![768, 7680]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x7680, .bf16⟩
  | .hbm, ⟨1, _⟩ => ⟨S1024x7680, .bf16⟩
  | .hbm, ⟨2, _⟩ => ⟨S8448x1024, .f32⟩
  | .local _ .vmem, ⟨0, _⟩ => ⟨S768x7680, .bf16⟩
  | .local _ .vmem, ⟨1, _⟩ => ⟨S768x7680, .bf16⟩
  | .local _ .vmem, ⟨2, _⟩ => ⟨S1024x7680, .bf16⟩
  | .local _ .vmem, ⟨3, _⟩ => ⟨S768x1024, .f32⟩
  | .local _ .vmem, ⟨4, _⟩ => ⟨S768x1024, .f32⟩
  | _, _ => ⟨S8448x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x7680 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8448x7680 : Shape := ⟨2, ![8448, 7680]⟩
abbrev S1024x7680 : Shape := ⟨2, ![1024, 7680]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x7680, .bf16⟩
  | .hbm, ⟨1, _⟩ => ⟨S1024x7680, .bf16⟩
  | .hbm, ⟨2, _⟩ => ⟨S1024x7680, .f32⟩
  | .hbm, ⟨3, _⟩ => ⟨S8448x7680, .f32⟩
  | .hbm, ⟨4, _⟩ => ⟨S_, .f32⟩
  | .hbm, ⟨5, _⟩ => ⟨S8448x1024, .f32⟩
  | .hbm, ⟨6, _⟩ => ⟨S8448x7680, .f32⟩
  | .hbm, ⟨7, _⟩ => ⟨S8448x1024, .f32⟩
  | _, _ => ⟨S8448x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8448x1024 : Shape := ⟨2, ![8448, 1024]⟩
abbrev S8448x7680 : Shape := ⟨2, ![8448, 7680]⟩
abbrev S1024x7680 : Shape := ⟨2, ![1024, 7680]⟩
abbrev S2816x1024 : Shape := ⟨2, ![2816, 1024]⟩
abbrev S2816x1280 : Shape := ⟨2, ![2816, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x7680, .bf16⟩
  | .hbm, ⟨2, _⟩ => ⟨S1024x7680, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1280, .bf16⟩
  | .local _ .vmem, ⟨3, _⟩ => ⟨S2816x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x1024 : Shape := ⟨2, ![8448, 1024]⟩
abbrev S8448x7680 : Shape := ⟨2, ![8448, 7680]⟩
abbrev S_ : Shape := ⟨0, ![]⟩
abbrev S1024x7680 : Shape := ⟨2, ![1024, 7680]⟩
abbrev S7680x1024 : Shape := ⟨2, ![7680, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x7680, .bf16⟩
  | .hbm, ⟨2, _⟩ => ⟨S8448x1024, .f32⟩
  | .hbm, ⟨3, _⟩ => ⟨S8448x7680, .f32⟩
  | .hbm, ⟨4, _⟩ => ⟨S_, .f32⟩
  | .hbm, ⟨5, _⟩ => ⟨S1024x7680, .f32⟩
  | .hbm, ⟨6, _⟩ => ⟨S8448x7680, .f32⟩
  | .hbm, ⟨7, _⟩ => ⟨S7680x1024, .f32⟩
  | .hbm, ⟨8, _⟩ => ⟨S1024x7680, .f32⟩
  | .hbm, ⟨9, _⟩ => ⟨S1024x7680, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8448x1024 : Shape := ⟨2, ![8448, 1024]⟩
abbrev S8448x4096 : Shape := ⟨2, ![8448, 4096]⟩
abbrev S4x1024x1024 : Shape := ⟨3, ![4, 1024, 1024]⟩
abbrev S2816x1024 : Shape := ⟨2, ![2816, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S4x1024x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8448x1024 : Shape := ⟨2, ![8448, 1024]⟩
abbrev S8448x4096 : Shape := ⟨2, ![8448, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S8448x1024, .f32⟩
  | .hbm, ⟨3, _⟩ => ⟨S8448x4096, .f32⟩
  | .hbm, ⟨4, _⟩ => ⟨S_, .f32⟩
  | .hbm, ⟨5, _⟩ => ⟨S1024x4096, .f32⟩
  | .hbm, ⟨6, _⟩ => ⟨S8448x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8448x4096 : Shape := ⟨2, ![8448, 4096]⟩
abbrev S8448x1024 : Shape := ⟨2, ![8448, 1024]⟩
abbrev S4x1024x1024 : Shape := ⟨3, ![4, 1024, 1024]⟩
abbrev S2816x1024 : Shape := ⟨2, ![2816, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S4x1024x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8448x4096 : Shape := ⟨2, ![8448, 4096]⟩
abbrev S8448x1024 : Shape := ⟨2, ![8448, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S8448x4096, .f32⟩
  | .hbm, ⟨3, _⟩ => ⟨S8448x1024, .f32⟩
  | .hbm, ⟨4, _⟩ => ⟨S_, .f32⟩
  | .hbm, ⟨5, _⟩ => ⟨S4096x1024, .f32⟩
  | .hbm, ⟨6, _⟩ => ⟨S8448x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | .hbm, ⟨10, _⟩ => ⟨S4x1024x1024, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8448x1024 : Shape := ⟨2, ![8448, 1024]⟩
abbrev S1024x7680 : Shape := ⟨2, ![1024, 7680]⟩
abbrev S8448x7680 : Shape := ⟨2, ![8448, 7680]⟩
abbrev S768x1024 : Shape := ⟨2, ![768, 1024]⟩
abbrev S1024x2560 : Shape := ⟨2, ![1024, 2560]⟩
abbrev S768x2560 : Shape := ⟨2, ![768, 2560]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x7680, .bf16⟩
  | .hbm, ⟨2, _⟩ => ⟨S8448x7680, .f32⟩
  | .local _ .vmem, ⟨0, _⟩ => ⟨S768x1024, .bf16⟩
  | .local _ .vmem, ⟨1, _⟩ => ⟨S768x1024, .bf16⟩
  | .local _ .vmem, ⟨2, _⟩ => ⟨S1024x2560, .bf16⟩
  | .local _ .vmem, ⟨3, _⟩ => ⟨S1024x2560, .bf16⟩
  | .local _ .vmem, ⟨4, _⟩ => ⟨S768x2560, .f32⟩
  | .local _ .vmem, ⟨5, _⟩ => ⟨S768x2560, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8448x1024 : Shape := ⟨2, ![8448, 1024]⟩
abbrev S1024x7680 : Shape := ⟨2, ![1024, 7680]⟩
abbrev S8448x7680 : Shape := ⟨2, ![8448, 7680]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x7680, .bf16⟩
  | .hbm, ⟨2, _⟩ => ⟨S8448x1024, .f32⟩
  | .hbm, ⟨3, _⟩ => ⟨S1024x7680, .f32⟩
  | .hbm, ⟨4, _⟩ => ⟨S8448x7680, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8448x1024 : Shape := ⟨2, ![8448, 1024]⟩
abbrev S1024x4096 : Shape := ⟨2, ![1024, 4096]⟩
abbrev S8448x4096 : Shape := ⟨2, ![8448, 4096]⟩
abbrev S768x1024 : Shape := ⟨2, ![768, 1024]⟩
abbrev S1024x2048 : Shape := ⟨2, ![1024, 2048]⟩
abbrev S768x2048 : Shape := ⟨2, ![768, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x4096, .bf16⟩
  | .hbm, ⟨3, _⟩ => ⟨S8448x4096, .bf16⟩
  | .local _ .vmem, ⟨0, _⟩ => ⟨S768x1024, .bf16⟩
  | .local _ .vmem, ⟨1, _⟩ => ⟨S768x1024, .bf16⟩
  | .local _ .vmem, ⟨2, _⟩ => ⟨S1024x2048, .bf16⟩
  | .local _ .vmem, ⟨3, _⟩ => ⟨S1024x2048, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .bf16⟩
  | .local _ .vmem, ⟨7, _⟩ => ⟨S768x2048, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8448x1024 : Shape := ⟨2, ![8448, 1024]⟩
abbrev S1024x4096 : Shape := ⟨2, ![1024, 4096]⟩
abbrev S8448x4096 : Shape := ⟨2, ![8448, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x1024, .f32⟩
  | .hbm, ⟨3, _⟩ => ⟨S1024x4096, .f32⟩
  | .hbm, ⟨4, _⟩ => ⟨S8448x4096, .f32⟩
  | .hbm, ⟨5, _⟩ => ⟨S_, .f32⟩
  | .hbm, ⟨6, _⟩ => ⟨S8448x4096, .f32⟩
  | .hbm, ⟨7, _⟩ => ⟨S8448x4096, .f32⟩
  | .hbm, ⟨8, _⟩ => ⟨S8448x4096, .bf16⟩
  | .hbm, ⟨9, _⟩ => ⟨S8448x4096, .f32⟩
  | .hbm, ⟨10, _⟩ => ⟨S8448x4096, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel10.lean ====
abbrev S8448x4096 : Shape := ⟨2, ![8448, 4096]⟩
abbrev S4096x1024 : Shape := ⟨2, ![4096, 1024]⟩
abbrev S8448x1024 : Shape := ⟨2, ![8448, 1024]⟩
abbrev S2x1x1024 : Shape := ⟨3, ![2, 1, 1024]⟩
abbrev S256x4096 : Shape := ⟨2, ![256, 4096]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8448x4096, .bf16⟩
  | .hbm, ⟨1, _⟩ => ⟨S4096x1024, .bf16⟩
  | .hbm, ⟨2, _⟩ => ⟨S8448x1024, .f32⟩
  | .hbm, ⟨3, _⟩ => ⟨S2x1x1024, .f32⟩
  | .hbm, ⟨4, _⟩ => ⟨S8448x1024, .f32⟩
  | .hbm, ⟨5, _⟩ => ⟨S8448x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S1x1x1024, .f32⟩
  | .local _ .vmem, ⟨6, _⟩ => ⟨S1x1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  ![v1.toNat, c0_i32_1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S8448x4096 : Shape := ⟨2, ![8448, 4096]⟩
abbrev S4096x1024 : Shape := ⟨2, ![4096, 1024]⟩
abbrev S8448x1024 : Shape := ⟨2, ![8448, 1024]⟩
abbrev S2x1x1024 : Shape := ⟨3, ![2, 1, 1024]⟩
abbrev S256x1024 : Shape := ⟨2, ![256, 1024]⟩
abbrev S1x1x1024 : Shape := ⟨3, ![1, 1, 1024]⟩
abbrev S1x1024 : Shape := ⟨2, ![1, 1024]⟩
abbrev S8192x1024 : Shape := ⟨2, ![8192, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x1024, .bf16⟩
  | .hbm, ⟨2, _⟩ => ⟨S8448x1024, .f32⟩
  | .hbm, ⟨3, _⟩ => ⟨S2x1x1024, .f32⟩
  | .hbm, ⟨4, _⟩ => ⟨S8448x4096, .f32⟩
  | .hbm, ⟨5, _⟩ => ⟨S4096x1024, .f32⟩
  | .hbm, ⟨6, _⟩ => ⟨S8448x1024, .f32⟩
  | .hbm, ⟨7, _⟩ => ⟨S256x1024, .f32⟩
  | .hbm, ⟨8, _⟩ => ⟨S1x1x1024, .f32⟩
  | .hbm, ⟨9, _⟩ => ⟨S1x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S8192x1024, .f32⟩
  | .hbm, ⟨15, _⟩ => ⟨S1x1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8448x1024, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Proof.Heads.lean ====
module

public import proofs.«01_k».proof.Proof.Gen.KernelIdeal.Skeleton
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What depends on the direction of a scan alone: which pairs of rows of a chunk it relates, how many steps lie between them,
and how many steps each row lies before the chunk's end (`kp`) and after its beginning (`qp`). -/
structure Dir (F : FTy → Type) where
  mask : IVec S256x256 1
  dpos : FVec F S256x256 .f32
  kp : FVec F S256x1 .f32
  qp : FVec F S256x1 .f32

/-- The position of a row in its chunk. -/
def posRow : FVec F S256x1 .f32 := sitofp .f32 (iota .tc S256x1 32 [0] iota_S256x1_d0_w32)

/-- Row minus column, and column minus row. -/
def diffF : IVec S256x256 32 := subi (iota .tc S256x256 32 [0] iota_S256x256_d0_w32) (iota .tc S256x256 32 [1] iota_S256x256_d1_w32)
def diffB : IVec S256x256 32 := subi (iota .tc S256x256 32 [1] iota_S256x256_d1_w32) (iota .tc S256x256 32 [0] iota_S256x256_d0_w32)

/-- The forward scan. -/
def dirF : Dir F where
  mask := cmpi .sge diffF (broadcast S256x256 0#32)
  dpos := sitofp .f32 (maxsi diffF (broadcast S256x256 0#32))
  kp := subf (broadcast S256x1 (Scalar.ofBits .f32 0x437F0000#32)) posRow
  qp := addf posRow (broadcast S256x1 (Scalar.ofBits .f32 0x3F800000#32))

/-- The backward scan. -/
def dirB : Dir F where
  mask := cmpi .sge diffB (broadcast S256x256 0#32)
  dpos := sitofp .f32 (maxsi diffB (broadcast S256x256 0#32))
  kp := posRow
  qp := subf (broadcast S256x1 (Scalar.ofBits .f32 0x43800000#32)) posRow

/-- The lane of the row of log decays that belongs to one direction and head. -/
def laneMask (n : BitVec 32) : IVec S1x128 1 := cmpi .eq (iota .tc S1x128 32 [1] iota_S1x128_d1_w32) (broadcast S1x128 n)

/-- The logarithm of a head's decay, minus the exponential of its entry of the row. -/
def lgOf (l : Vec F S1x128 .f32) (n : BitVec 32) : FVec F S1x1 .f32 :=
  shapeCast S1x1 (multiReduction .add [1] S1 (select (laneMask n)
    (subf (broadcast S1x128 (Scalar.ofBits .f32 0x00000000#32)) (exp (shapeCast S1x128 l shapeCasts_S1x128_S1x128)))
    (broadcast S1x128 (Scalar.ofBits .f32 0x00000000#32))) 0x00000000#32 reduces_S1x128_S1 (.inl rfl) rfl) shapeCasts_S1_S1x1

/-- What one head of one direction reads at a grid point: its rows of `q`, `k`, `v` and of the cotangent, the state entering the chunk,
the carried gradient of the state leaving it, and the logarithm of the decay. -/
structure Head (F : FTy → Type) where
  q : FVec F S256x128 .f32
  k : FVec F S256x128 .f32
  v : FVec F S256x128 .f32
  dy : FVec F S256x128 .f32
  s : FVec F S128x128 .f32
  g : FVec F S128x128 .f32
  lg : FVec F S1x1 .f32

section
variable (D : Dir F) (H : Head F)

/-- The decay between the rows of each pair, and the same over the related pairs only. -/
def eMat : FVec F S256x256 .f32 := exp (mulf D.dpos (broadcastTo S256x256 H.lg broadcasts_S1x1_S256x256))
def dMat : FVec F S256x256 .f32 := select D.mask (eMat D H) (broadcast S256x256 (Scalar.ofBits .f32 0x00000000#32))
/-- The decay from a row to the chunk's end, from its beginning to a row, and over the whole chunk. -/
def kW : FVec F S256x1 .f32 := exp (mulf D.kp (broadcastTo S256x1 H.lg broadcasts_S1x1_S256x1))
def qW : FVec F S256x1 .f32 := exp (mulf D.qp (broadcastTo S256x1 H.lg broadcasts_S1x1_S256x1))
def gam : FVec F S1x1 .f32 := exp (mulf (broadcast S1x1 (Scalar.ofBits .f32 0x43800000#32)) H.lg)
def kD : FVec F S256x128 .bf16 := truncf .bf16 (mulf H.k (broadcastTo S256x128 (kW D H) broadcasts_S256x1_S256x128)) bitsLt_bf16_f32
def vB : FVec F S256x128 .bf16 := truncf .bf16 H.v bitsLt_bf16_f32
def qB : FVec F S256x128 .bf16 := truncf .bf16 H.q bitsLt_bf16_f32
def kB : FVec F S256x128 .bf16 := truncf .bf16 H.k bitsLt_bf16_f32
def sB : FVec F S128x128 .bf16 := truncf .bf16 H.s bitsLt_bf16_f32
/-- The scores of the pairs of rows, plain and decayed. -/
def s0 : FVec F S256x256 .f32 := matmul dot_S256x128_S256x128_S256x256_1_1_0_0_n_n none (qB H) (kB H) (constant S256x256 .f32 0x00000000#32)
def sD : FVec F S256x256 .bf16 := truncf .bf16 (mulf (s0 H) (dMat D H)) bitsLt_bf16_f32
/-- The cotangent decayed back to the chunk's beginning. -/
def dyW : FVec F S256x128 .f32 := mulf H.dy (broadcastTo S256x128 (qW D H) broadcasts_S256x1_S256x128)
/-- The pairs' cotangents, and the same decayed. -/
def dS : FVec F S256x256 .f32 := extf .f32 (truncf .bf16 (matmul dot_S256x128_S256x128_S256x256_1_1_0_0_n_n none H.dy (vB H)
  (constant S256x256 .f32 0x00000000#32)) bitsLt_bf16_f32) bitsLt_bf16_f32
def dSm : FVec F S256x256 .f32 := mulf (dS H) (dMat D H)

/-- The gradient of the head's queries. -/
def dqH : FVec F S256x128 .f32 :=
  addf (extf .f32 (truncf .bf16 (matmul dot_S256x128_S128x128_S256x128_1_1_0_0_n_n none (dyW D H) (sB H)
      (constant S256x128 .f32 0x00000000#32)) bitsLt_bf16_f32) bitsLt_bf16_f32)
    (extf .f32 (truncf .bf16 (matmul dot_S256x256_S256x128_S256x128_1_0_0_1_n_n none (dSm D H) (kB H)
      (constant S256x128 .f32 0x00000000#32)) bitsLt_bf16_f32) bitsLt_bf16_f32)

/-- The carried gradient of the state, against the values. -/
def gV : FVec F S256x128 .f32 := extf .f32 (truncf .bf16 (transpose S256x128 [1, 0]
  (matmul dot_S128x128_S256x128_S128x256_1_1_0_0_n_n none (shapeCast S128x128 H.g shapeCasts_S128x128_S128x128) (vB H) (constant S128x256 .f32 0x00000000#32))
  transposes_S128x256_p1_0_S256x128) bitsLt_bf16_f32) bitsLt_bf16_f32

/-- The gradient of the head's keys. -/
def dkH : FVec F S256x128 .f32 :=
  addf (extf .f32 (truncf .bf16 (matmul dot_S256x256_S256x128_S256x128_0_0_1_1_n_n none (dSm D H) (qB H)
      (constant S256x128 .f32 0x00000000#32)) bitsLt_bf16_f32) bitsLt_bf16_f32)
    (mulf (gV H) (broadcastTo S256x128 (kW D H) broadcasts_S256x1_S256x128))

/-- The gradient of the head's values. -/
def dvH : FVec F S256x128 .f32 :=
  addf (extf .f32 (truncf .bf16 (transpose S256x128 [1, 0] (matmul dot_S256x128_S256x256_S128x256_0_0_1_1_n_n none H.dy (sD D H)
      (constant S128x256 .f32 0x00000000#32)) transposes_S128x256_p1_0_S256x128) bitsLt_bf16_f32) bitsLt_bf16_f32)
    (extf .f32 (truncf .bf16 (transpose S256x128 [1, 0] (matmul dot_S128x128_S256x128_S128x256_0_1_1_0_n_n none
      (shapeCast S128x128 H.g shapeCasts_S128x128_S128x128) (kD D H)
      (constant S128x256 .f32 0x00000000#32)) transposes_S128x256_p1_0_S256x128) bitsLt_bf16_f32) bitsLt_bf16_f32)

/-- The gradient of the state entering the chunk, carried to the next point. -/
def gNext : FVec F S128x128 .f32 :=
  addf (extf .f32 (truncf .bf16 (transpose S128x128 [1, 0] (matmul dot_S256x128_S256x128_S128x128_0_0_1_1_n_n none (dyW D H) (qB H)
      (constant S128x128 .f32 0x00000000#32)) transposes_S128x128_p1_0_S128x128) bitsLt_bf16_f32) bitsLt_bf16_f32)
    (mulf (shapeCast S128x128 H.g shapeCasts_S128x128_S128x128) (broadcastTo S128x128 (gam H) broadcasts_S1x1_S128x128))

/-- The four parts of the head's term of the gradient of its log decay: through the entering state, through the whole chunk's decay,
through the rows' decay to the chunk's end, and through the pairs. -/
def lgA : FVec F S1x1 .f32 :=
  shapeCast S1x1 (multiReduction .add [0] S1 (mulf D.qp (mulf (shapeCast S256x1 (multiReduction .add [1] S256
    (mulf (matmul dot_S256x128_S128x128_S256x128_1_0_0_1_n_n none (qB H) (sB H) (constant S256x128 .f32 0x00000000#32)) H.dy)
    0x00000000#32 reduces_S256x128_S256 (.inl rfl) rfl) shapeCasts_S256_S256x1) (qW D H)))
    0x00000000#32 reduces_S256x1_S1 (.inl rfl) rfl) shapeCasts_S1_S1x1
def lgB : FVec F S1x1 .f32 :=
  mulf (broadcast S1x1 (Scalar.ofBits .f32 0x43800000#32)) (mulf (broadcast S1x1 (extractAt ![0, 0, 0] (shapeCast S1x1x1 (multiReduction .add [1, 2] S1
    (shapeCast S1x128x128 (mulf H.s (shapeCast S128x128 H.g shapeCasts_S128x128_S128x128)) shapeCasts_S128x128_S1x128x128)
    0x00000000#32 reduces_S1x128x128_S1 (.inl rfl) rfl) shapeCasts_S1_S1x1x1) inpos_S1x1x1_p0_0_0)) (gam H))
def lgC : FVec F S1x1 .f32 :=
  shapeCast S1x1 (multiReduction .add [0] S1 (mulf D.kp (mulf (shapeCast S256x1 (multiReduction .add [1] S256 (mulf H.k (gV H))
    0x00000000#32 reduces_S256x128_S256 (.inl rfl) rfl) shapeCasts_S256_S256x1) (kW D H)))
    0x00000000#32 reduces_S256x1_S1 (.inl rfl) rfl) shapeCasts_S1_S1x1
def lgD : FVec F S1x1 .f32 :=
  broadcast S1x1 (extractAt ![0, 0, 0] (shapeCast S1x1x1 (multiReduction .add [1, 2] S1
    (shapeCast S1x256x256 (mulf D.dpos (mulf (select D.mask (mulf (s0 H) (dS H)) (broadcast S256x256 (Scalar.ofBits .f32 0x00000000#32))) (eMat D H)))
      shapeCasts_S256x256_S1x256x256) 0x00000000#32 reduces_S1x256x256_S1 (.inl rfl) rfl) shapeCasts_S1_S1x1x1) inpos_S1x1x1_p0_0_0)

/-- The head's term, on its own lane of a row. -/
def lgRow (n : BitVec 32) : FVec F S1x128 .f32 :=
  select (laneMask n) (broadcastTo S1x128 (shapeCast S1x1 (broadcast S1 (extractAt ![0, 0, 0] (shapeCast S1x1x1 (multiReduction .add [1, 2] S1
    (shapeCast S1x1x1 (addf (addf (addf (lgA D H) (lgB H)) (lgC D H)) (lgD D H)) shapeCasts_S1x1_S1x1x1)
    0x00000000#32 reduces_S1x1x1_S1 (.inl rfl) rfl) shapeCasts_S1_S1x1x1) inpos_S1x1x1_p0_0_0)) shapeCasts_S1_S1x1) broadcasts_S1x1_S1x128)
    (broadcast S1x128 (Scalar.ofBits .f32 0x00000000#32))

end

/-- A direction's term of the row of gradients: the heads' rows, times minus the exponential of the log decays. -/
def lgDir (l : Vec F S1x128 .f32) (r0 r1 r2 r3 : FVec F S1x128 .f32) : FVec F S1x128 .f32 :=
  mulf (subf (broadcast S1x128 (Scalar.ofBits .f32 0x00000000#32)) (addf (addf (addf r3 r2) r1) r0))
    (exp (shapeCast S1x128 l shapeCasts_S1x128_S1x128))

/-- Four heads side by side. -/
def cat4 (a b c d : FVec F S256x128 .f32) : FVec F S256x512 .f32 :=
  concatenate S256x512 1 [⟨S256x128, a⟩, ⟨S256x128, b⟩, ⟨S256x128, c⟩, ⟨S256x128, d⟩] concatenates_S256x128_S256x128_S256x128_S256x128_S256x512_d1

/-- A block of the scratch, and of the entering states, as a matrix. -/
def mat (t : Vec F S1x1x128x128 .f32) : FVec F S128x128 .f32 := shapeCast S128x128 t shapeCasts_S1x1x128x128_S128x128
def unmat (t : FVec F S128x128 .f32) : FVec F S1x1x128x128 .f32 := shapeCast S1x1x128x128 t shapeCasts_S128x128_S1x1x128x128

/-- A head's columns of the block of cotangents. -/
def dyCol : Fin 4 → Vec F S256x512 .f32 → FVec F S256x128 .f32
  | 0, y => extractStridedSlice S256x128 ![0, 0] y slices_S256x512_o0_0_S256x128
  | 1, y => extractStridedSlice S256x128 ![0, 128] y slices_S256x512_o0_128_S256x128
  | 2, y => extractStridedSlice S256x128 ![0, 256] y slices_S256x512_o0_256_S256x128
  | 3, y => extractStridedSlice S256x128 ![0, 384] y slices_S256x512_o0_384_S256x128

/-- Eight things, by direction and head. -/
def pick {α : Type} (a b c d e f g h : α) : Fin 2 → Fin 4 → α
  | 0, 0 => a | 0, 1 => b | 0, 2 => c | 0, 3 => d
  | 1, 0 => e | 1, 1 => f | 1, 2 => g | 1, 3 => h

/-- Two things, by direction. -/
def pick2 {α : Type} (a b : α) : Fin 2 → α
  | 0 => a | 1 => b

/-- What the body loads at a grid point, by direction and head. -/
structure Ins (F : FTy → Type) where
  q : Fin 2 → Fin 4 → FVec F S256x128 .f32
  k : Fin 2 → Fin 4 → FVec F S256x128 .f32
  v : Fin 2 → Fin 4 → FVec F S256x128 .f32
  y : Fin 2 → Vec F S256x512 .f32
  s : Fin 2 → Fin 4 → Vec F S1x1x128x128 .f32
  g : Fin 2 → Fin 4 → Vec F S1x1x128x128 .f32
  l : Vec F S1x128 .f32

/-- The lane of a direction and head. -/
def laneOf (d : Fin 2) (h : Fin 4) : BitVec 32 := pick 0#32 1#32 2#32 3#32 4#32 5#32 6#32 7#32 d h

def Ins.head (I : Ins F) (d : Fin 2) (h : Fin 4) : Head F :=
  ⟨I.q d h, I.k d h, I.v d h, dyCol h (I.y d), mat (I.s d h), mat (I.g d h), lgOf I.l (laneOf d h)⟩

def dirOf : Fin 2 → Dir F := pick2 dirF dirB

/-- What the body stores at a grid point: the gradients' blocks, the scratch's blocks and the row of the log decays' gradient. -/
def Ins.dq (I : Ins F) (d : Fin 2) : FVec F S256x512 .f32 :=
  cat4 (dqH (dirOf d) (I.head d 0)) (dqH (dirOf d) (I.head d 1)) (dqH (dirOf d) (I.head d 2)) (dqH (dirOf d) (I.head d 3))
def Ins.dk (I : Ins F) (d : Fin 2) : FVec F S256x512 .f32 :=
  cat4 (dkH (dirOf d) (I.head d 0)) (dkH (dirOf d) (I.head d 1)) (dkH (dirOf d) (I.head d 2)) (dkH (dirOf d) (I.head d 3))
def Ins.dv (I : Ins F) (d : Fin 2) : FVec F S256x512 .f32 :=
  cat4 (dvH (dirOf d) (I.head d 0)) (dvH (dirOf d) (I.head d 1)) (dvH (dirOf d) (I.head d 2)) (dvH (dirOf d) (I.head d 3))
def Ins.gNew (I : Ins F) (d : Fin 2) (h : Fin 4) : FVec F S1x1x128x128 .f32 := unmat (gNext (dirOf d) (I.head d h))
def Ins.row (I : Ins F) (d : Fin 2) (h : Fin 4) : FVec F S1x128 .f32 := lgRow (dirOf d) (I.head d h) (laneOf d h)
def Ins.lgs (I : Ins F) (d : Fin 2) : FVec F S1x128 .f32 := lgDir I.l (I.row d 0) (I.row d 1) (I.row d 2) (I.row d 3)
def Ins.tot (I : Ins F) : FVec F S1x128 .f32 := addf (I.lgs 0) (I.lgs 1)

end Cert.KernelIdeal.Own
-- ==== Proof.Loads.lean ====
module

public import proofs.«01_k».proof.Proof.Heads
public import Idealize.ShloMosaic.Lib.Pipeline.ReadBack
public import proofs.«01_k».proof.Proof.Gen.KernelIdeal.Skeleton
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The loads of the body, from windows held whole. -/
def ldRows (b : Memref sig .tc .vmem S256x128 .f32) (hb : b.IsWhole) (x : Vec F S256x128 .f32) : Vec F S256x128 .f32 :=
  (View.readAt (Elt F) b.view (Rect.unit ![0, 0] ![256, 128] inb_S256x128_S256x128_0_0).toLoadRect (hb.unread x) :)
def ldWide (b : Memref sig .tc .vmem S256x512 .f32) (hb : b.IsWhole) (x : Vec F S256x512 .f32) : Vec F S256x512 .f32 :=
  (View.readAt (Elt F) b.view (Rect.unit ![0, 0] ![256, 512] inb_S256x512_S256x512_0_0).toLoadRect (hb.unread x) :)
def ldRow (b : Memref sig .tc .vmem S1x128 .f32) (hb : b.IsWhole) (x : Vec F S1x128 .f32) : Vec F S1x128 .f32 :=
  (View.readAt (Elt F) b.view (Rect.unit ![0, 0] ![1, 128] inb_S1x128_S1x128_0_0).toLoadRect (hb.unread x) :)

/-- A head's block of the states, and a direction's and head's block of the scratch. -/
def stRect : Fin 4 → Rect S1x4x128x128
  | 0 => Rect.unit ![0, 0, 0, 0] ![1, 1, 128, 128] inb_S1x4x128x128_S1x1x128x128_0_0_0_0
  | 1 => Rect.unit ![0, 1, 0, 0] ![1, 1, 128, 128] inb_S1x4x128x128_S1x1x128x128_0_1_0_0
  | 2 => Rect.unit ![0, 2, 0, 0] ![1, 1, 128, 128] inb_S1x4x128x128_S1x1x128x128_0_2_0_0
  | 3 => Rect.unit ![0, 3, 0, 0] ![1, 1, 128, 128] inb_S1x4x128x128_S1x1x128x128_0_3_0_0
def ldSt : Fin 4 → (b : Memref sig .tc .vmem S1x4x128x128 .f32) → b.IsWhole → Vec F S1x4x128x128 .f32 → Vec F S1x1x128x128 .f32
  | 0, b, hb, x => (View.readAt (Elt F) b.view (Rect.unit ![0, 0, 0, 0] ![1, 1, 128, 128] inb_S1x4x128x128_S1x1x128x128_0_0_0_0).toLoadRect (hb.unread x) :)
  | 1, b, hb, x => (View.readAt (Elt F) b.view (Rect.unit ![0, 1, 0, 0] ![1, 1, 128, 128] inb_S1x4x128x128_S1x1x128x128_0_1_0_0).toLoadRect (hb.unread x) :)
  | 2, b, hb, x => (View.readAt (Elt F) b.view (Rect.unit ![0, 2, 0, 0] ![1, 1, 128, 128] inb_S1x4x128x128_S1x1x128x128_0_2_0_0).toLoadRect (hb.unread x) :)
  | 3, b, hb, x => (View.readAt (Elt F) b.view (Rect.unit ![0, 3, 0, 0] ![1, 1, 128, 128] inb_S1x4x128x128_S1x1x128x128_0_3_0_0).toLoadRect (hb.unread x) :)
def ldSc : Fin 2 → Fin 4 → (b : Memref sig .tc .vmem S2x4x128x128 .f32) → b.IsWhole → Vec F S2x4x128x128 .f32 → Vec F S1x1x128x128 .f32
  | 0, 0, b, hb, x => (View.readAt (Elt F) b.view (Rect.unit ![0, 0, 0, 0] ![1, 1, 128, 128] inb_S2x4x128x128_S1x1x128x128_0_0_0_0).toLoadRect (hb.unread x) :)
  | 0, 1, b, hb, x => (View.readAt (Elt F) b.view (Rect.unit ![0, 1, 0, 0] ![1, 1, 128, 128] inb_S2x4x128x128_S1x1x128x128_0_1_0_0).toLoadRect (hb.unread x) :)
  | 0, 2, b, hb, x => (View.readAt (Elt F) b.view (Rect.unit ![0, 2, 0, 0] ![1, 1, 128, 128] inb_S2x4x128x128_S1x1x128x128_0_2_0_0).toLoadRect (hb.unread x) :)
  | 0, 3, b, hb, x => (View.readAt (Elt F) b.view (Rect.unit ![0, 3, 0, 0] ![1, 1, 128, 128] inb_S2x4x128x128_S1x1x128x128_0_3_0_0).toLoadRect (hb.unread x) :)
  | 1, 0, b, hb, x => (View.readAt (Elt F) b.view (Rect.unit ![1, 0, 0, 0] ![1, 1, 128, 128] inb_S2x4x128x128_S1x1x128x128_1_0_0_0).toLoadRect (hb.unread x) :)
  | 1, 1, b, hb, x => (View.readAt (Elt F) b.view (Rect.unit ![1, 1, 0, 0] ![1, 1, 128, 128] inb_S2x4x128x128_S1x1x128x128_1_1_0_0).toLoadRect (hb.unread x) :)
  | 1, 2, b, hb, x => (View.readAt (Elt F) b.view (Rect.unit ![1, 2, 0, 0] ![1, 1, 128, 128] inb_S2x4x128x128_S1x1x128x128_1_2_0_0).toLoadRect (hb.unread x) :)
  | 1, 3, b, hb, x => (View.readAt (Elt F) b.view (Rect.unit ![1, 3, 0, 0] ![1, 1, 128, 128] inb_S2x4x128x128_S1x1x128x128_1_3_0_0).toLoadRect (hb.unread x) :)

/-- A direction's and head's block of the scratch, read back over the stores `L`. -/
def ldCov : Fin 2 → Fin 4 → Memref sig .tc .vmem S2x4x128x128 .f32 → List (View.Piece (Elt F) S2x4x128x128 .f32) → Vec F S1x1x128x128 .f32
  | 0, 0, b, L => (b.view.readCov L (Rect.unit (s := S2x4x128x128) ![0, 0, 0, 0] ![1, 1, 128, 128] inb_S2x4x128x128_S1x1x128x128_0_0_0_0).toLoadRect :)
  | 0, 1, b, L => (b.view.readCov L (Rect.unit (s := S2x4x128x128) ![0, 1, 0, 0] ![1, 1, 128, 128] inb_S2x4x128x128_S1x1x128x128_0_1_0_0).toLoadRect :)
  | 0, 2, b, L => (b.view.readCov L (Rect.unit (s := S2x4x128x128) ![0, 2, 0, 0] ![1, 1, 128, 128] inb_S2x4x128x128_S1x1x128x128_0_2_0_0).toLoadRect :)
  | 0, 3, b, L => (b.view.readCov L (Rect.unit (s := S2x4x128x128) ![0, 3, 0, 0] ![1, 1, 128, 128] inb_S2x4x128x128_S1x1x128x128_0_3_0_0).toLoadRect :)
  | 1, 0, b, L => (b.view.readCov L (Rect.unit (s := S2x4x128x128) ![1, 0, 0, 0] ![1, 1, 128, 128] inb_S2x4x128x128_S1x1x128x128_1_0_0_0).toLoadRect :)
  | 1, 1, b, L => (b.view.readCov L (Rect.unit (s := S2x4x128x128) ![1, 1, 0, 0] ![1, 1, 128, 128] inb_S2x4x128x128_S1x1x128x128_1_1_0_0).toLoadRect :)
  | 1, 2, b, L => (b.view.readCov L (Rect.unit (s := S2x4x128x128) ![1, 2, 0, 0] ![1, 1, 128, 128] inb_S2x4x128x128_S1x1x128x128_1_2_0_0).toLoadRect :)
  | 1, 3, b, L => (b.view.readCov L (Rect.unit (s := S2x4x128x128) ![1, 3, 0, 0] ![1, 1, 128, 128] inb_S2x4x128x128_S1x1x128x128_1_3_0_0).toLoadRect :)

/-- The scratch's pieces: the fill with zeros, and the blocks stored for each direction. -/
def fillL : List (View.Piece (Elt F) S2x4x128x128 .f32) := [⟨Rect.unit ![0, 0, 0, 0] ![2, 4, 128, 128] inb_S2x4x128x128_S2x4x128x128_0_0_0_0, k0_pay4⟩]
def piecesF (I : Ins F) (L : List (View.Piece (Elt F) S2x4x128x128 .f32)) : List (View.Piece (Elt F) S2x4x128x128 .f32) :=
  ⟨Rect.unit ![0, 3, 0, 0] ![1, 1, 128, 128] inb_S2x4x128x128_S1x1x128x128_0_3_0_0, I.gNew 0 3⟩ :: ⟨Rect.unit ![0, 2, 0, 0] ![1, 1, 128, 128] inb_S2x4x128x128_S1x1x128x128_0_2_0_0, I.gNew 0 2⟩ :: ⟨Rect.unit ![0, 1, 0, 0] ![1, 1, 128, 128] inb_S2x4x128x128_S1x1x128x128_0_1_0_0, I.gNew 0 1⟩ :: ⟨Rect.unit ![0, 0, 0, 0] ![1, 1, 128, 128] inb_S2x4x128x128_S1x1x128x128_0_0_0_0, I.gNew 0 0⟩ :: L
def piecesB (I : Ins F) (L : List (View.Piece (Elt F) S2x4x128x128 .f32)) : List (View.Piece (Elt F) S2x4x128x128 .f32) :=
  ⟨Rect.unit ![1, 3, 0, 0] ![1, 1, 128, 128] inb_S2x4x128x128_S1x1x128x128_1_3_0_0, I.gNew 1 3⟩ :: ⟨Rect.unit ![1, 2, 0, 0] ![1, 1, 128, 128] inb_S2x4x128x128_S1x1x128x128_1_2_0_0, I.gNew 1 2⟩ :: ⟨Rect.unit ![1, 1, 0, 0] ![1, 1, 128, 128] inb_S2x4x128x128_S1x1x128x128_1_1_0_0, I.gNew 1 1⟩ :: ⟨Rect.unit ![1, 0, 0, 0] ![1, 1, 128, 128] inb_S2x4x128x128_S1x1x128x128_1_0_0_0, I.gNew 1 0⟩ :: L

/-- What the body loads from its windows, over any blocks `g` of the scratch. -/
def rawIns (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S1x128 .f32) (harg25 : arg25.IsWhole) (arg26 : Memref sig .tc .vmem S1x4x128x128 .f32) (harg26 : arg26.IsWhole) (arg27 : Memref sig .tc .vmem S1x4x128x128 .f32) (harg27 : arg27.IsWhole) (arg28 : Memref sig .tc .vmem S256x512 .f32) (harg28 : arg28.IsWhole) (arg29 : Memref sig .tc .vmem S256x512 .f32) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (arg33 : Memref sig .tc .vmem S256x512 .f32) (harg33 : arg33.IsWhole) (arg34 : Memref sig .tc .vmem S256x512 .f32) (harg34 : arg34.IsWhole) (arg35 : Memref sig .tc .vmem S256x512 .f32) (harg35 : arg35.IsWhole) (arg36 : Memref sig .tc .vmem S1x128 .f32) (harg36 : arg36.IsWhole) (arg37 : Memref sig .tc .vmem S2x4x128x128 .f32) (harg37 : arg37.IsWhole) (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S256x128 .f32) (x12 : Vec F S256x128 .f32) (x13 : Vec F S256x128 .f32) (x14 : Vec F S256x128 .f32) (x15 : Vec F S256x128 .f32) (x16 : Vec F S256x128 .f32) (x17 : Vec F S256x128 .f32) (x18 : Vec F S256x128 .f32) (x19 : Vec F S256x128 .f32) (x20 : Vec F S256x128 .f32) (x21 : Vec F S256x128 .f32) (x22 : Vec F S256x128 .f32) (x23 : Vec F S256x128 .f32) (x24 : Vec F S1x128 .f32) (x25 : Vec F S1x4x128x128 .f32) (x26 : Vec F S1x4x128x128 .f32) (x27 : Vec F S256x512 .f32) (x28 : Vec F S256x512 .f32) (g : Fin 2 → Fin 4 → Vec F S1x1x128x128 .f32) : Ins F where
  q := pick (ldRows arg1 harg1 x0) (ldRows arg2 harg2 x1) (ldRows arg3 harg3 x2) (ldRows arg4 harg4 x3) (ldRows arg13 harg13 x12) (ldRows arg14 harg14 x13) (ldRows arg15 harg15 x14) (ldRows arg16 harg16 x15)
  k := pick (ldRows arg5 harg5 x4) (ldRows arg6 harg6 x5) (ldRows arg7 harg7 x6) (ldRows arg8 harg8 x7) (ldRows arg17 harg17 x16) (ldRows arg18 harg18 x17) (ldRows arg19 harg19 x18) (ldRows arg20 harg20 x19)
  v := pick (ldRows arg9 harg9 x8) (ldRows arg10 harg10 x9) (ldRows arg11 harg11 x10) (ldRows arg12 harg12 x11) (ldRows arg21 harg21 x20) (ldRows arg22 harg22 x21) (ldRows arg23 harg23 x22) (ldRows arg24 harg24 x23)
  y := pick2 (ldWide arg28 harg28 x27) (ldWide arg29 harg29 x28)
  s := fun d h => pick2 (ldSt h arg26 harg26 x25) (ldSt h arg27 harg27 x26) d
  l := ldRow arg25 harg25 x24
  g := g

/-- The blocks of the scratch that the first point loads: the fill, the second direction's over the first direction's stores. -/
def rawFirst (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S1x128 .f32) (harg25 : arg25.IsWhole) (arg26 : Memref sig .tc .vmem S1x4x128x128 .f32) (harg26 : arg26.IsWhole) (arg27 : Memref sig .tc .vmem S1x4x128x128 .f32) (harg27 : arg27.IsWhole) (arg28 : Memref sig .tc .vmem S256x512 .f32) (harg28 : arg28.IsWhole) (arg29 : Memref sig .tc .vmem S256x512 .f32) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (arg33 : Memref sig .tc .vmem S256x512 .f32) (harg33 : arg33.IsWhole) (arg34 : Memref sig .tc .vmem S256x512 .f32) (harg34 : arg34.IsWhole) (arg35 : Memref sig .tc .vmem S256x512 .f32) (harg35 : arg35.IsWhole) (arg36 : Memref sig .tc .vmem S1x128 .f32) (harg36 : arg36.IsWhole) (arg37 : Memref sig .tc .vmem S2x4x128x128 .f32) (harg37 : arg37.IsWhole) (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S256x128 .f32) (x12 : Vec F S256x128 .f32) (x13 : Vec F S256x128 .f32) (x14 : Vec F S256x128 .f32) (x15 : Vec F S256x128 .f32) (x16 : Vec F S256x128 .f32) (x17 : Vec F S256x128 .f32) (x18 : Vec F S256x128 .f32) (x19 : Vec F S256x128 .f32) (x20 : Vec F S256x128 .f32) (x21 : Vec F S256x128 .f32) (x22 : Vec F S256x128 .f32) (x23 : Vec F S256x128 .f32) (x24 : Vec F S1x128 .f32) (x25 : Vec F S1x4x128x128 .f32) (x26 : Vec F S1x4x128x128 .f32) (x27 : Vec F S256x512 .f32) (x28 : Vec F S256x512 .f32) : Ins F :=
  rawIns arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 fun d h => pick2 (ldCov 0 h arg37 fillL) (ldCov 1 h arg37 (piecesF (rawIns arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 fun _ h => ldCov 0 h arg37 fillL) fillL)) d

end Cert.KernelIdeal.Own
-- ==== Proof.RunFirst.lean ====
module

public import proofs.«01_k».proof.Proof.Gen.KernelIdeal.Frame
public import proofs.«01_k».proof.Proof.Gen.KernelIdeal.Skeleton
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A staging buffer held whole, at contents `f`. -/
abbrev held {s : Shape} {e : EltTy} (c : Dev nD) (b : Memref sig .tc .vmem s e) (f : Buf (Elt F) (b.view.loc (c : Thread nD τ))) : sProp 𝕄 :=
  b.view.loc (c : Thread nD τ) ↦[b.view.set]{fullShare} f

/-- The body at the first point: what it stores, as pieces, the carried scratch and the accumulated row at anything before it. -/
noncomputable def runFirst (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S1x128 .f32) (harg25 : arg25.IsWhole) (arg26 : Memref sig .tc .vmem S1x4x128x128 .f32) (harg26 : arg26.IsWhole) (arg27 : Memref sig .tc .vmem S1x4x128x128 .f32) (harg27 : arg27.IsWhole) (arg28 : Memref sig .tc .vmem S256x512 .f32) (harg28 : arg28.IsWhole) (arg29 : Memref sig .tc .vmem S256x512 .f32) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (arg33 : Memref sig .tc .vmem S256x512 .f32) (harg33 : arg33.IsWhole) (arg34 : Memref sig .tc .vmem S256x512 .f32) (harg34 : arg34.IsWhole) (arg35 : Memref sig .tc .vmem S256x512 .f32) (harg35 : arg35.IsWhole) (arg36 : Memref sig .tc .vmem S1x128 .f32) (harg36 : arg36.IsWhole) (arg37 : Memref sig .tc .vmem S2x4x128x128 .f32) (harg37 : arg37.IsWhole)
    (hc0 : Scalar.cmpi .ne (Scalar.extui (Scalar.cmpi .eq (BitVec.ofNat 32 (i 0).val) 0#32) : BitVec 32) 0#32 = 1#1) (hc1 : k0_cond2 i = 1#1) (hc2 : ¬k0_cond3 i = 1#1)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S256x128 .f32) (x12 : Vec F S256x128 .f32) (x13 : Vec F S256x128 .f32) (x14 : Vec F S256x128 .f32) (x15 : Vec F S256x128 .f32) (x16 : Vec F S256x128 .f32) (x17 : Vec F S256x128 .f32) (x18 : Vec F S256x128 .f32) (x19 : Vec F S256x128 .f32) (x20 : Vec F S256x128 .f32) (x21 : Vec F S256x128 .f32) (x22 : Vec F S256x128 .f32) (x23 : Vec F S256x128 .f32) (x24 : Vec F S1x128 .f32) (x25 : Vec F S1x4x128x128 .f32) (x26 : Vec F S1x4x128x128 .f32) (x27 : Vec F S256x512 .f32) (x28 : Vec F S256x512 .f32) :
    Σ' (L29 : List (View.Piece (Elt F) S256x512 .f32)), Σ' (L30 : List (View.Piece (Elt F) S256x512 .f32)), Σ' (L31 : List (View.Piece (Elt F) S256x512 .f32)), Σ' (L32 : List (View.Piece (Elt F) S256x512 .f32)), Σ' (L33 : List (View.Piece (Elt F) S256x512 .f32)), Σ' (L34 : List (View.Piece (Elt F) S256x512 .f32)), Σ' (L35 : List (View.Piece (Elt F) S1x128 .f32)), { LS : List (View.Piece (Elt F) S2x4x128x128 .f32) //
      ∀ (E : Set ℕ) (K : PUnit → sProp 𝕄),
        iprop(held c arg1 (harg1.unread x0) ∗ held c arg2 (harg2.unread x1) ∗ held c arg3 (harg3.unread x2) ∗ held c arg4 (harg4.unread x3) ∗ held c arg5 (harg5.unread x4) ∗ held c arg6 (harg6.unread x5) ∗ held c arg7 (harg7.unread x6) ∗ held c arg8 (harg8.unread x7) ∗ held c arg9 (harg9.unread x8) ∗ held c arg10 (harg10.unread x9) ∗ held c arg11 (harg11.unread x10) ∗ held c arg12 (harg12.unread x11) ∗ held c arg13 (harg13.unread x12) ∗ held c arg14 (harg14.unread x13) ∗ held c arg15 (harg15.unread x14) ∗ held c arg16 (harg16.unread x15) ∗ held c arg17 (harg17.unread x16) ∗ held c arg18 (harg18.unread x17) ∗ held c arg19 (harg19.unread x18) ∗ held c arg20 (harg20.unread x19) ∗ held c arg21 (harg21.unread x20) ∗ held c arg22 (harg22.unread x21) ∗ held c arg23 (harg23.unread x22) ∗ held c arg24 (harg24.unread x23) ∗ held c arg25 (harg25.unread x24) ∗ held c arg26 (harg26.unread x25) ∗ held c arg27 (harg27.unread x26) ∗ held c arg28 (harg28.unread x27) ∗ held c arg29 (harg29.unread x28) ∗ (∃ f, held c arg30 f) ∗ (∃ f, held c arg31 f) ∗ (∃ f, held c arg32 f) ∗ (∃ f, held c arg33 f) ∗ (∃ f, held c arg34 f) ∗ (∃ f, held c arg35 f) ∗ (∃ f, held c arg36 f) ∗ (∃ f, held c arg37 f)
            ∗ (iprop(held c arg1 (harg1.unread x0) ∗ held c arg2 (harg2.unread x1) ∗ held c arg3 (harg3.unread x2) ∗ held c arg4 (harg4.unread x3) ∗ held c arg5 (harg5.unread x4) ∗ held c arg6 (harg6.unread x5) ∗ held c arg7 (harg7.unread x6) ∗ held c arg8 (harg8.unread x7) ∗ held c arg9 (harg9.unread x8) ∗ held c arg10 (harg10.unread x9) ∗ held c arg11 (harg11.unread x10) ∗ held c arg12 (harg12.unread x11) ∗ held c arg13 (harg13.unread x12) ∗ held c arg14 (harg14.unread x13) ∗ held c arg15 (harg15.unread x14) ∗ held c arg16 (harg16.unread x15) ∗ held c arg17 (harg17.unread x16) ∗ held c arg18 (harg18.unread x17) ∗ held c arg19 (harg19.unread x18) ∗ held c arg20 (harg20.unread x19) ∗ held c arg21 (harg21.unread x20) ∗ held c arg22 (harg22.unread x21) ∗ held c arg23 (harg23.unread x22) ∗ held c arg24 (harg24.unread x23) ∗ held c arg25 (harg25.unread x24) ∗ held c arg26 (harg26.unread x25) ∗ held c arg27 (harg27.unread x26) ∗ held c arg28 (harg28.unread x27) ∗ held c arg29 (harg29.unread x28) ∗ (∃ f, held c arg30 (arg30.view.writes (Elt F) f L29)) ∗ (∃ f, held c arg31 (arg31.view.writes (Elt F) f L30)) ∗ (∃ f, held c arg32 (arg32.view.writes (Elt F) f L31)) ∗ (∃ f, held c arg33 (arg33.view.writes (Elt F) f L32)) ∗ (∃ f, held c arg34 (arg34.view.writes (Elt F) f L33)) ∗ (∃ f, held c arg35 (arg35.view.writes (Elt F) f L34)) ∗ (∃ f, held c arg36 (arg36.view.writes (Elt F) f L35)) ∗ (∃ f, held c arg37 (arg37.view.writes (Elt F) f LS))) -∗ K ⟨⟩))
          ⊢ wp frame (wpE (defs₀ (F := F)) Variants.none c none) E (cc0_ret_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K } := by
  refine ⟨?_, ?_, ?_, ?_, ?_, ?_, ?_, ?_, fun E K => ?run⟩
  case run =>
    simp only [cc0_ret_bwd_eq_skeleton]; unfold cc0_ret_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    iintro ⟨H0, H1, H2, H3, H4, H5, H6, H7, H8, H9, H10, H11, H12, H13, H14, H15, H16, H17, H18, H19, H20, H21, H22, H23, H24, H25, H26, H27, H28, ⟨%f29, H29⟩, ⟨%f30, H30⟩, ⟨%f31, H31⟩, ⟨%f32, H32⟩, ⟨%f33, H33⟩, ⟨%f34, H34⟩, ⟨%f35, H35⟩, ⟨%fs, HS⟩, Hk⟩
    sl_exec (disch := first | sl_exact hc0 | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    iexists _; iexact HS

end Cert.KernelIdeal.Own

end
-- ==== Proof.StoresFirst.lean ====
module

public import proofs.«01_k».proof.Proof.Loads
public import proofs.«01_k».proof.Proof.RunFirst
public import Idealize.ShloMosaic.Lib.Pipeline.ReadBack
public import proofs.«01_k».proof.Proof.Gen.KernelIdeal.Skeleton
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 20000000 in
/-- The stores of the first point's body, in the heads' terms. -/
theorem storesFirst  (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S1x128 .f32) (harg25 : arg25.IsWhole) (arg26 : Memref sig .tc .vmem S1x4x128x128 .f32) (harg26 : arg26.IsWhole) (arg27 : Memref sig .tc .vmem S1x4x128x128 .f32) (harg27 : arg27.IsWhole) (arg28 : Memref sig .tc .vmem S256x512 .f32) (harg28 : arg28.IsWhole) (arg29 : Memref sig .tc .vmem S256x512 .f32) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (arg33 : Memref sig .tc .vmem S256x512 .f32) (harg33 : arg33.IsWhole) (arg34 : Memref sig .tc .vmem S256x512 .f32) (harg34 : arg34.IsWhole) (arg35 : Memref sig .tc .vmem S256x512 .f32) (harg35 : arg35.IsWhole) (arg36 : Memref sig .tc .vmem S1x128 .f32) (harg36 : arg36.IsWhole) (arg37 : Memref sig .tc .vmem S2x4x128x128 .f32) (harg37 : arg37.IsWhole)
    (hc0 : Scalar.cmpi .ne (Scalar.extui (Scalar.cmpi .eq (BitVec.ofNat 32 (i 0).val) 0#32) : BitVec 32) 0#32 = 1#1) (hc1 : k0_cond2 i = 1#1) (hc2 : ¬k0_cond3 i = 1#1)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S256x128 .f32) (x12 : Vec F S256x128 .f32) (x13 : Vec F S256x128 .f32) (x14 : Vec F S256x128 .f32) (x15 : Vec F S256x128 .f32) (x16 : Vec F S256x128 .f32) (x17 : Vec F S256x128 .f32) (x18 : Vec F S256x128 .f32) (x19 : Vec F S256x128 .f32) (x20 : Vec F S256x128 .f32) (x21 : Vec F S256x128 .f32) (x22 : Vec F S256x128 .f32) (x23 : Vec F S256x128 .f32) (x24 : Vec F S1x128 .f32) (x25 : Vec F S1x4x128x128 .f32) (x26 : Vec F S1x4x128x128 .f32) (x27 : Vec F S256x512 .f32) (x28 : Vec F S256x512 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28).1 = [⟨Rect.unit ![0, 0] ![256, 512] inb_S256x512_S256x512_0_0, (rawFirst arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).dq 0⟩] ∧
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28).2.1 = [⟨Rect.unit ![0, 0] ![256, 512] inb_S256x512_S256x512_0_0, (rawFirst arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).dk 0⟩] ∧
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28).2.2.1 = [⟨Rect.unit ![0, 0] ![256, 512] inb_S256x512_S256x512_0_0, (rawFirst arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).dv 0⟩] ∧
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28).2.2.2.1 = [⟨Rect.unit ![0, 0] ![256, 512] inb_S256x512_S256x512_0_0, (rawFirst arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).dq 1⟩] ∧
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28).2.2.2.2.1 = [⟨Rect.unit ![0, 0] ![256, 512] inb_S256x512_S256x512_0_0, (rawFirst arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).dk 1⟩] ∧
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28).2.2.2.2.2.1 = [⟨Rect.unit ![0, 0] ![256, 512] inb_S256x512_S256x512_0_0, (rawFirst arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).dv 1⟩] ∧
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28).2.2.2.2.2.2.1 = [⟨Rect.unit ![0, 0] ![1, 128] inb_S1x128_S1x128_0_0, (rawFirst arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28).tot⟩] ∧
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28).2.2.2.2.2.2.2.1 = piecesB (rawFirst arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28) (piecesF (rawFirst arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28) fillL) := by
  unfold runFirst; dsimp only
  exact ⟨rfl, rfl, rfl, rfl, rfl, rfl, rfl, rfl⟩

end Cert.KernelIdeal.Own
-- ==== Proof.StoresLater.lean ====
module

public import proofs.«01_k».proof.Proof.Loads
public import proofs.«01_k».proof.Proof.RunLater
public import Idealize.ShloMosaic.Lib.Pipeline.ReadBack
public import proofs.«01_k».proof.Proof.Gen.KernelIdeal.Skeleton
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The stores of a later point's body, in the heads' terms. -/
theorem storesLater  (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S1x128 .f32) (harg25 : arg25.IsWhole) (arg26 : Memref sig .tc .vmem S1x4x128x128 .f32) (harg26 : arg26.IsWhole) (arg27 : Memref sig .tc .vmem S1x4x128x128 .f32) (harg27 : arg27.IsWhole) (arg28 : Memref sig .tc .vmem S256x512 .f32) (harg28 : arg28.IsWhole) (arg29 : Memref sig .tc .vmem S256x512 .f32) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (arg33 : Memref sig .tc .vmem S256x512 .f32) (harg33 : arg33.IsWhole) (arg34 : Memref sig .tc .vmem S256x512 .f32) (harg34 : arg34.IsWhole) (arg35 : Memref sig .tc .vmem S256x512 .f32) (harg35 : arg35.IsWhole) (arg36 : Memref sig .tc .vmem S1x128 .f32) (harg36 : arg36.IsWhole) (arg37 : Memref sig .tc .vmem S2x4x128x128 .f32) (harg37 : arg37.IsWhole)
    (hc0 : ¬Scalar.cmpi .ne (Scalar.extui (Scalar.cmpi .eq (BitVec.ofNat 32 (i 0).val) 0#32) : BitVec 32) 0#32 = 1#1) (hc1 : ¬k0_cond2 i = 1#1) (hc2 : k0_cond3 i = 1#1)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S256x128 .f32) (x12 : Vec F S256x128 .f32) (x13 : Vec F S256x128 .f32) (x14 : Vec F S256x128 .f32) (x15 : Vec F S256x128 .f32) (x16 : Vec F S256x128 .f32) (x17 : Vec F S256x128 .f32) (x18 : Vec F S256x128 .f32) (x19 : Vec F S256x128 .f32) (x20 : Vec F S256x128 .f32) (x21 : Vec F S256x128 .f32) (x22 : Vec F S256x128 .f32) (x23 : Vec F S256x128 .f32) (x24 : Vec F S1x128 .f32) (x25 : Vec F S1x4x128x128 .f32) (x26 : Vec F S1x4x128x128 .f32) (x27 : Vec F S256x512 .f32) (x28 : Vec F S256x512 .f32) (g : Vec F S1x128 .f32) (G : Vec F S2x4x128x128 .f32) :
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28 g G).1 = [⟨Rect.unit ![0, 0] ![256, 512] inb_S256x512_S256x512_0_0, (rawIns arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 fun d h => ldSc d h arg37 harg37 G).dq 0⟩] ∧
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28 g G).2.1 = [⟨Rect.unit ![0, 0] ![256, 512] inb_S256x512_S256x512_0_0, (rawIns arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 fun d h => ldSc d h arg37 harg37 G).dk 0⟩] ∧
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28 g G).2.2.1 = [⟨Rect.unit ![0, 0] ![256, 512] inb_S256x512_S256x512_0_0, (rawIns arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 fun d h => ldSc d h arg37 harg37 G).dv 0⟩] ∧
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28 g G).2.2.2.1 = [⟨Rect.unit ![0, 0] ![256, 512] inb_S256x512_S256x512_0_0, (rawIns arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 fun d h => ldSc d h arg37 harg37 G).dq 1⟩] ∧
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28 g G).2.2.2.2.1 = [⟨Rect.unit ![0, 0] ![256, 512] inb_S256x512_S256x512_0_0, (rawIns arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 fun d h => ldSc d h arg37 harg37 G).dk 1⟩] ∧
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28 g G).2.2.2.2.2.1 = [⟨Rect.unit ![0, 0] ![256, 512] inb_S256x512_S256x512_0_0, (rawIns arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 fun d h => ldSc d h arg37 harg37 G).dv 1⟩] ∧
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28 g G).2.2.2.2.2.2.1 = [⟨Rect.unit ![0, 0] ![1, 128] inb_S1x128_S1x128_0_0, k0_pay2 (rawIns arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 fun d h => ldSc d h arg37 harg37 G).tot (ldRow arg36 harg36 g)⟩] ∧
    (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28 g G).2.2.2.2.2.2.2.1 = piecesB (rawIns arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 fun d h => ldSc d h arg37 harg37 G) (piecesF (rawIns arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 fun d h => ldSc d h arg37 harg37 G) []) := by
  unfold runLater; dsimp only
  exact ⟨rfl, rfl, rfl, rfl, rfl, rfl, rfl, rfl⟩

end Cert.KernelIdeal.Own
-- ==== Proof.Carry.lean ====
module

public import proofs.«01_k».proof.Proof.Loads
public import Idealize.ShloMosaic.Lib.Pipeline.ReadBack
public import Idealize.ShloMosaic.Lib.VecWindow
public import Idealize.ShloMosaic.Lib.Ring
public import Idealize.ShloMosaic.Lib.WholeRead
public import Idealize.ShloMosaic.Lib.Pointwise.Index

@[expose] public section

set_option maxRecDepth 16384

noncomputable section

namespace Cert.KernelIdeal.Own

open Idealize.ShloMosaic Idealize.ShloMosaic.TcCoe
open Cert.KernelIdeal.Gen

variable {F : FTy → Type} [FloatOps F]

/-- A head's block of the states. -/
def blkSt (h : Fin 4) (X : Vec F S1x4x128x128 .f32) : Vec F S1x1x128x128 .f32 := fun j => X (ix4 0 h (j 2) (j 3))

/-- The scratch holding the blocks `g`. -/
def asm (g : Fin 2 → Fin 4 → Vec F S1x1x128x128 .f32) : Vec F S2x4x128x128 .f32 := fun i => g (i 0) (i 1) (ix4 0 0 (i 2) (i 3))

/-- The block of the scratch filled with zeros. -/
def zeroBlk : Vec F S1x1x128x128 .f32 := fun _ => Scalar.ofBits .f32 0x00000000#32

theorem ldRows_eq (b : Memref sig .tc .vmem S256x128 .f32) (hb : b.IsWhole) (x : Vec F S256x128 .f32) : ldRows b hb x = x := by
  funext j
  unfold ldRows
  rw [Memref.IsWhole.readAt_unread]
  congr 1
  funext a; apply Fin.ext
  match a with
  | ⟨0, _⟩ => simp [LoadRect.idx, Rect.unit]
  | ⟨1, _⟩ => simp [LoadRect.idx, Rect.unit]

theorem ldWide_eq (b : Memref sig .tc .vmem S256x512 .f32) (hb : b.IsWhole) (x : Vec F S256x512 .f32) : ldWide b hb x = x := by
  funext j
  unfold ldWide
  rw [Memref.IsWhole.readAt_unread]
  congr 1
  funext a; apply Fin.ext
  match a with
  | ⟨0, _⟩ => simp [LoadRect.idx, Rect.unit]
  | ⟨1, _⟩ => simp [LoadRect.idx, Rect.unit]

theorem ldRow_eq (b : Memref sig .tc .vmem S1x128 .f32) (hb : b.IsWhole) (x : Vec F S1x128 .f32) : ldRow b hb x = x := by
  funext j
  unfold ldRow
  rw [Memref.IsWhole.readAt_unread]
  congr 1
  funext a; apply Fin.ext
  match a with
  | ⟨0, _⟩ => simp [LoadRect.idx, Rect.unit]
  | ⟨1, _⟩ => simp [LoadRect.idx, Rect.unit]

theorem ldSt_eq (h : Fin 4) (b : Memref sig .tc .vmem S1x4x128x128 .f32) (hb : b.IsWhole) (x : Vec F S1x4x128x128 .f32) :
    ldSt h b hb x = blkSt h x := by
  funext j
  have h0 : (j 0).val = 0 := by have := (j 0).isLt; simp at this; omega
  have h1 : (j 1).val = 0 := by have := (j 1).isLt; simp at this; omega
  fin_cases h <;>
  · simp only [ldSt, blkSt]
    erw [Memref.IsWhole.readAt_unread]
    congr 1
    funext a; apply Fin.ext
    match a with
    | ⟨0, _⟩ => simp [LoadRect.idx, Rect.unit, ix4, h0]
    | ⟨1, _⟩ => simp [LoadRect.idx, Rect.unit, ix4, h1]
    | ⟨2, _⟩ => simp [LoadRect.idx, Rect.unit, ix4]
    | ⟨3, _⟩ => simp [LoadRect.idx, Rect.unit, ix4]

theorem ldSc_asm (d : Fin 2) (h : Fin 4) (b : Memref sig .tc .vmem S2x4x128x128 .f32) (hb : b.IsWhole) (g : Fin 2 → Fin 4 → Vec F S1x1x128x128 .f32) :
    ldSc d h b hb (asm g) = g d h := by
  funext j
  have h0 : (j 0).val = 0 := by have := (j 0).isLt; simp at this; omega
  have h1 : (j 1).val = 0 := by have := (j 1).isLt; simp at this; omega
  fin_cases d <;> fin_cases h <;>
  · simp only [ldSc]
    erw [Memref.IsWhole.readAt_unread]
    refine congr (congr (congrArg g ?_) ?_) ?_
    · apply Fin.ext; simp [LoadRect.idx, Rect.unit, h0]
    · apply Fin.ext; simp [LoadRect.idx, Rect.unit, h1]
    · funext a; apply Fin.ext
      match a with
      | ⟨0, _⟩ => simp [ix4, h0]
      | ⟨1, _⟩ => simp [ix4, h1]
      | ⟨2, _⟩ => simp [LoadRect.idx, Rect.unit, ix4]
      | ⟨3, _⟩ => simp [LoadRect.idx, Rect.unit, ix4]

theorem ldCov_fill (h : Fin 4) (b : Memref sig .tc .vmem S2x4x128x128 .f32) :
    ldCov (F := F) 0 h b fillL = zeroBlk := by
  fin_cases h <;>
  · simp only [ldCov, fillL]
    erw [View.readCov_fill _ _ _ _ (Rect.unit (s := S2x4x128x128) _ _ _) (by decide)]
    rfl

theorem ldCov_skip (h : Fin 4) (b : Memref sig .tc .vmem S2x4x128x128 .f32) (I : Ins F) :
    ldCov 1 h b (piecesF I fillL) = zeroBlk := by
  fin_cases h <;>
  · simp only [ldCov, fillL, piecesF]
    iterate 4 erw [View.readCov_skip _ _ _ _ _ (by decide)]
    erw [View.readCov_fill _ _ _ _ (Rect.unit (s := S2x4x128x128) _ _ _) (by decide)]
    rfl

/-- What a grid point loads, from its windows' blocks and the carried blocks `g`. -/
def insOf (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S256x128 .f32) (x12 : Vec F S256x128 .f32) (x13 : Vec F S256x128 .f32) (x14 : Vec F S256x128 .f32) (x15 : Vec F S256x128 .f32) (x16 : Vec F S256x128 .f32) (x17 : Vec F S256x128 .f32) (x18 : Vec F S256x128 .f32) (x19 : Vec F S256x128 .f32) (x20 : Vec F S256x128 .f32) (x21 : Vec F S256x128 .f32) (x22 : Vec F S256x128 .f32) (x23 : Vec F S256x128 .f32) (x24 : Vec F S1x128 .f32) (x25 : Vec F S1x4x128x128 .f32) (x26 : Vec F S1x4x128x128 .f32) (x27 : Vec F S256x512 .f32) (x28 : Vec F S256x512 .f32) (g : Fin 2 → Fin 4 → Vec F S1x1x128x128 .f32) : Ins F where
  q := pick x0 x1 x2 x3 x12 x13 x14 x15
  k := pick x4 x5 x6 x7 x16 x17 x18 x19
  v := pick x8 x9 x10 x11 x20 x21 x22 x23
  y := pick2 x27 x28
  s := fun d h => blkSt h (pick2 x25 x26 d)
  l := x24
  g := g

theorem rawIns_eq (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S1x128 .f32) (harg25 : arg25.IsWhole) (arg26 : Memref sig .tc .vmem S1x4x128x128 .f32) (harg26 : arg26.IsWhole) (arg27 : Memref sig .tc .vmem S1x4x128x128 .f32) (harg27 : arg27.IsWhole) (arg28 : Memref sig .tc .vmem S256x512 .f32) (harg28 : arg28.IsWhole) (arg29 : Memref sig .tc .vmem S256x512 .f32) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (arg33 : Memref sig .tc .vmem S256x512 .f32) (harg33 : arg33.IsWhole) (arg34 : Memref sig .tc .vmem S256x512 .f32) (harg34 : arg34.IsWhole) (arg35 : Memref sig .tc .vmem S256x512 .f32) (harg35 : arg35.IsWhole) (arg36 : Memref sig .tc .vmem S1x128 .f32) (harg36 : arg36.IsWhole) (arg37 : Memref sig .tc .vmem S2x4x128x128 .f32) (harg37 : arg37.IsWhole) (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S256x128 .f32) (x12 : Vec F S256x128 .f32) (x13 : Vec F S256x128 .f32) (x14 : Vec F S256x128 .f32) (x15 : Vec F S256x128 .f32) (x16 : Vec F S256x128 .f32) (x17 : Vec F S256x128 .f32) (x18 : Vec F S256x128 .f32) (x19 : Vec F S256x128 .f32) (x20 : Vec F S256x128 .f32) (x21 : Vec F S256x128 .f32) (x22 : Vec F S256x128 .f32) (x23 : Vec F S256x128 .f32) (x24 : Vec F S1x128 .f32) (x25 : Vec F S1x4x128x128 .f32) (x26 : Vec F S1x4x128x128 .f32) (x27 : Vec F S256x512 .f32) (x28 : Vec F S256x512 .f32) (g : Fin 2 → Fin 4 → Vec F S1x1x128x128 .f32) :
    rawIns arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 g = insOf x0 x1 x2 x3 x4 x5 x6 x7 x8 x9 x10 x11 x12 x13 x14 x15 x16 x17 x18 x19 x20 x21 x22 x23 x24 x25 x26 x27 x28 g := by
  unfold rawIns insOf
  simp only [ldRows_eq, ldWide_eq, ldRow_eq, ldSt_eq]
  congr 1
  funext d h
  fin_cases d <;> rfl

theorem rawFirst_eq (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S1x128 .f32) (harg25 : arg25.IsWhole) (arg26 : Memref sig .tc .vmem S1x4x128x128 .f32) (harg26 : arg26.IsWhole) (arg27 : Memref sig .tc .vmem S1x4x128x128 .f32) (harg27 : arg27.IsWhole) (arg28 : Memref sig .tc .vmem S256x512 .f32) (harg28 : arg28.IsWhole) (arg29 : Memref sig .tc .vmem S256x512 .f32) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (arg33 : Memref sig .tc .vmem S256x512 .f32) (harg33 : arg33.IsWhole) (arg34 : Memref sig .tc .vmem S256x512 .f32) (harg34 : arg34.IsWhole) (arg35 : Memref sig .tc .vmem S256x512 .f32) (harg35 : arg35.IsWhole) (arg36 : Memref sig .tc .vmem S1x128 .f32) (harg36 : arg36.IsWhole) (arg37 : Memref sig .tc .vmem S2x4x128x128 .f32) (harg37 : arg37.IsWhole) (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S256x128 .f32) (x12 : Vec F S256x128 .f32) (x13 : Vec F S256x128 .f32) (x14 : Vec F S256x128 .f32) (x15 : Vec F S256x128 .f32) (x16 : Vec F S256x128 .f32) (x17 : Vec F S256x128 .f32) (x18 : Vec F S256x128 .f32) (x19 : Vec F S256x128 .f32) (x20 : Vec F S256x128 .f32) (x21 : Vec F S256x128 .f32) (x22 : Vec F S256x128 .f32) (x23 : Vec F S256x128 .f32) (x24 : Vec F S1x128 .f32) (x25 : Vec F S1x4x128x128 .f32) (x26 : Vec F S1x4x128x128 .f32) (x27 : Vec F S256x512 .f32) (x28 : Vec F S256x512 .f32) :
    rawFirst arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 = insOf x0 x1 x2 x3 x4 x5 x6 x7 x8 x9 x10 x11 x12 x13 x14 x15 x16 x17 x18 x19 x20 x21 x22 x23 x24 x25 x26 x27 x28 (fun _ _ => zeroBlk) := by
  unfold rawFirst
  rw [rawIns_eq]
  congr 1
  funext d h
  fin_cases d
  · exact ldCov_fill h arg37
  · exact ldCov_skip h arg37 _

/-- The scratch after a point's stores, over any earlier stores and contents: the blocks stored. -/
theorem read_pieces (b : Memref sig .tc .vmem S2x4x128x128 .f32) (f : b.view.ty.Contents (Elt F)) (I : Ins F) (L : List (View.Piece (Elt F) S2x4x128x128 .f32)) :
    b.view.read (Elt F) (b.view.writes (Elt F) f (piecesB I (piecesF I L))) = asm I.gNew := by
  have hL : piecesB I (piecesF I L) = piecesB I (piecesF I []) ++ L := rfl
  have hc : ∀ y : S2x4x128x128.Idx, ∃ p ∈ piecesB I (piecesF I []), y ∈ p.1.set :=
    View.cover_of_tiledL _ ![1, 1, 128, 128] rfl
  have hG : View.PiecesOf (asm I.gNew) (piecesB I (piecesF I [])) := by
    refine ⟨fun j => ?_, fun j => ?_, fun j => ?_, fun j => ?_, fun j => ?_, fun j => ?_, fun j => ?_, fun j => ?_, trivial⟩ <;>
    · have h0 : (j 0).val = 0 := by have := (j 0).isLt; simp at this; omega
      have h1 : (j 1).val = 0 := by have := (j 1).isLt; simp at this; omega
      refine congr (congr (congrArg I.gNew ?_) ?_) ?_
      · apply Fin.ext; simp [Rect.emb, LoadRect.idx, Rect.unit, h0]
      · apply Fin.ext; simp [Rect.emb, LoadRect.idx, Rect.unit, h1]
      · funext a; apply Fin.ext
        match a with
        | ⟨0, _⟩ => simp [ix4, h0]
        | ⟨1, _⟩ => simp [ix4, h1]
        | ⟨2, _⟩ => simp [Rect.emb, LoadRect.idx, Rect.unit, ix4]
        | ⟨3, _⟩ => simp [Rect.emb, LoadRect.idx, Rect.unit, ix4]
  rw [hL, View.writes_append]
  funext y
  exact View.read_writes_apply_of_pieces _ _ _ _ hG.mem y (hc y)

end Cert.KernelIdeal.Own
-- ==== Proof.Body.lean ====
module

public import proofs.«01_k».proof.Proof.StoresFirst
public import proofs.«01_k».proof.Proof.StoresLater
public import proofs.«01_k».proof.Proof.Carry
public import proofs.«01_k».proof.Proof.Gen.KernelIdeal.Skeleton
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What a run proves of the lists of stores that it finds, at the lists that they are. -/
theorem of_stores {A B C D E G H I : Type} {P : A → B → C → D → E → G → H → I → Prop}
    (R : Σ' (a : A), Σ' (b : B), Σ' (c : C), Σ' (d : D), Σ' (e : E), Σ' (g : G), Σ' (h : H), { i : I // P a b c d e g h i })
    {a : A} {b : B} {c : C} {d : D} {e : E} {g : G} {h : H} {i : I}
    (S : R.1 = a ∧ R.2.1 = b ∧ R.2.2.1 = c ∧ R.2.2.2.1 = d ∧ R.2.2.2.2.1 = e ∧ R.2.2.2.2.2.1 = g ∧ R.2.2.2.2.2.2.1 = h ∧ R.2.2.2.2.2.2.2.1 = i) :
    P a b c d e g h i := by
  obtain ⟨a, b, c, d, e, g, h, i, hi⟩ := R
  obtain ⟨rfl, rfl, rfl, rfl, rfl, rfl, rfl, rfl⟩ := S
  exact hi

theorem owns_unread {s : Shape} {e : EltTy} {c : Dev nD} (b : Memref sig .tc .vmem s e) (hb : b.IsWhole) (x : s.Idx → Elt F e) :
    owns (c : Thread nD τ) b fullShare x ⊢ (held c b (hb.unread x) : sProp 𝕄) := by
  unfold owns
  iintro ⟨%f, %hf, H⟩
  obtain rfl := hb.eq_unread hf
  iexact H

theorem unread_owns {s : Shape} {e : EltTy} {c : Dev nD} (b : Memref sig .tc .vmem s e) (hb : b.IsWhole) (x : s.Idx → Elt F e) :
    (held c b (hb.unread x) : sProp 𝕄) ⊢ owns (c : Thread nD τ) b fullShare x := by
  unfold owns
  iintro H
  iexists _; isplitr
  swap; · iexact H
  ipureintro; exact hb.read_unread x

theorem owns_any {s : Shape} {e : EltTy} {c : Dev nD} (b : Memref sig .tc .vmem s e) :
    iprop(∃ d, owns (c : Thread nD τ) b fullShare d) ⊢ (iprop(∃ f, held c b f) : sProp 𝕄) := by
  unfold owns
  iintro ⟨%d, %f, %hf, H⟩
  iexists f; iexact H

theorem held_owns {s : Shape} {e : EltTy} {c : Dev nD} {b : Memref sig .tc .vmem s e} {x : s.Idx → Elt F e}
    {L : List (View.Piece (Elt F) s e)} (h : ∀ f, b.view.read (Elt F) (b.view.writes (Elt F) f L) = x) :
    iprop(∃ f, held c b (b.view.writes (Elt F) f L)) ⊢ (owns (c : Thread nD τ) b fullShare x : sProp 𝕄) := by
  unfold owns
  iintro ⟨%f, H⟩
  iexists _; isplitr
  swap; · iexact H
  ipureintro; exact h f

/-- The body at the first point, from its windows' contents to what it leaves in each. -/
theorem bodyFirst  (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S1x128 .f32) (harg25 : arg25.IsWhole) (arg26 : Memref sig .tc .vmem S1x4x128x128 .f32) (harg26 : arg26.IsWhole) (arg27 : Memref sig .tc .vmem S1x4x128x128 .f32) (harg27 : arg27.IsWhole) (arg28 : Memref sig .tc .vmem S256x512 .f32) (harg28 : arg28.IsWhole) (arg29 : Memref sig .tc .vmem S256x512 .f32) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (arg33 : Memref sig .tc .vmem S256x512 .f32) (harg33 : arg33.IsWhole) (arg34 : Memref sig .tc .vmem S256x512 .f32) (harg34 : arg34.IsWhole) (arg35 : Memref sig .tc .vmem S256x512 .f32) (harg35 : arg35.IsWhole) (arg36 : Memref sig .tc .vmem S1x128 .f32) (harg36 : arg36.IsWhole) (arg37 : Memref sig .tc .vmem S2x4x128x128 .f32) (harg37 : arg37.IsWhole)
    (hc0 : Scalar.cmpi .ne (Scalar.extui (Scalar.cmpi .eq (BitVec.ofNat 32 (i 0).val) 0#32) : BitVec 32) 0#32 = 1#1) (hc1 : k0_cond2 i = 1#1) (hc2 : ¬k0_cond3 i = 1#1)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S256x128 .f32) (x12 : Vec F S256x128 .f32) (x13 : Vec F S256x128 .f32) (x14 : Vec F S256x128 .f32) (x15 : Vec F S256x128 .f32) (x16 : Vec F S256x128 .f32) (x17 : Vec F S256x128 .f32) (x18 : Vec F S256x128 .f32) (x19 : Vec F S256x128 .f32) (x20 : Vec F S256x128 .f32) (x21 : Vec F S256x128 .f32) (x22 : Vec F S256x128 .f32) (x23 : Vec F S256x128 .f32) (x24 : Vec F S1x128 .f32) (x25 : Vec F S1x4x128x128 .f32) (x26 : Vec F S1x4x128x128 .f32) (x27 : Vec F S256x512 .f32) (x28 : Vec F S256x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare ((insOf x0 x1 x2 x3 x4 x5 x6 x7 x8 x9 x10 x11 x12 x13 x14 x15 x16 x17 x18 x19 x20 x21 x22 x23 x24 x25 x26 x27 x28 fun _ _ => zeroBlk).dq 0) ∗ owns (c : Thread nD τ) arg31 fullShare ((insOf x0 x1 x2 x3 x4 x5 x6 x7 x8 x9 x10 x11 x12 x13 x14 x15 x16 x17 x18 x19 x20 x21 x22 x23 x24 x25 x26 x27 x28 fun _ _ => zeroBlk).dk 0) ∗ owns (c : Thread nD τ) arg32 fullShare ((insOf x0 x1 x2 x3 x4 x5 x6 x7 x8 x9 x10 x11 x12 x13 x14 x15 x16 x17 x18 x19 x20 x21 x22 x23 x24 x25 x26 x27 x28 fun _ _ => zeroBlk).dv 0) ∗ owns (c : Thread nD τ) arg33 fullShare ((insOf x0 x1 x2 x3 x4 x5 x6 x7 x8 x9 x10 x11 x12 x13 x14 x15 x16 x17 x18 x19 x20 x21 x22 x23 x24 x25 x26 x27 x28 fun _ _ => zeroBlk).dq 1) ∗ owns (c : Thread nD τ) arg34 fullShare ((insOf x0 x1 x2 x3 x4 x5 x6 x7 x8 x9 x10 x11 x12 x13 x14 x15 x16 x17 x18 x19 x20 x21 x22 x23 x24 x25 x26 x27 x28 fun _ _ => zeroBlk).dk 1) ∗ owns (c : Thread nD τ) arg35 fullShare ((insOf x0 x1 x2 x3 x4 x5 x6 x7 x8 x9 x10 x11 x12 x13 x14 x15 x16 x17 x18 x19 x20 x21 x22 x23 x24 x25 x26 x27 x28 fun _ _ => zeroBlk).dv 1) ∗ owns (c : Thread nD τ) arg36 fullShare (insOf x0 x1 x2 x3 x4 x5 x6 x7 x8 x9 x10 x11 x12 x13 x14 x15 x16 x17 x18 x19 x20 x21 x22 x23 x24 x25 x26 x27 x28 fun _ _ => zeroBlk).tot ∗ owns (c : Thread nD τ) arg37 fullShare (asm (insOf x0 x1 x2 x3 x4 x5 x6 x7 x8 x9 x10 x11 x12 x13 x14 x15 x16 x17 x18 x19 x20 x21 x22 x23 x24 x25 x26 x27 x28 fun _ _ => zeroBlk).gNew)) -∗ K ⟨⟩))
      ⊢ wp frame (wpE (defs₀ (F := F)) Variants.none c none) E (cc0_ret_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
  have S := storesFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28
  simp only [rawFirst_eq] at S
  refine BIBase.Entails.trans ?_ (of_stores (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28) S E K)
  iterate 29 refine BIClass.sep_mono (owns_unread _ _ _) ?_
  iterate 8 refine BIClass.sep_mono (owns_any _) ?_

  refine wand_mono ?_ .rfl
  iterate 29 refine BIClass.sep_mono (unread_owns _ _ _) ?_
  iterate 7 refine BIClass.sep_mono (held_owns fun f => View.read_writes_full _ _ _ _ _) ?_
  exact held_owns fun f => read_pieces _ _ _ _

/-- The body at a later point, from its windows' contents to what it leaves in each. -/
theorem bodyLater  (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S1x128 .f32) (harg25 : arg25.IsWhole) (arg26 : Memref sig .tc .vmem S1x4x128x128 .f32) (harg26 : arg26.IsWhole) (arg27 : Memref sig .tc .vmem S1x4x128x128 .f32) (harg27 : arg27.IsWhole) (arg28 : Memref sig .tc .vmem S256x512 .f32) (harg28 : arg28.IsWhole) (arg29 : Memref sig .tc .vmem S256x512 .f32) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (arg33 : Memref sig .tc .vmem S256x512 .f32) (harg33 : arg33.IsWhole) (arg34 : Memref sig .tc .vmem S256x512 .f32) (harg34 : arg34.IsWhole) (arg35 : Memref sig .tc .vmem S256x512 .f32) (harg35 : arg35.IsWhole) (arg36 : Memref sig .tc .vmem S1x128 .f32) (harg36 : arg36.IsWhole) (arg37 : Memref sig .tc .vmem S2x4x128x128 .f32) (harg37 : arg37.IsWhole)
    (hc0 : ¬Scalar.cmpi .ne (Scalar.extui (Scalar.cmpi .eq (BitVec.ofNat 32 (i 0).val) 0#32) : BitVec 32) 0#32 = 1#1) (hc1 : ¬k0_cond2 i = 1#1) (hc2 : k0_cond3 i = 1#1)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S256x128 .f32) (x8 : Vec F S256x128 .f32) (x9 : Vec F S256x128 .f32) (x10 : Vec F S256x128 .f32) (x11 : Vec F S256x128 .f32) (x12 : Vec F S256x128 .f32) (x13 : Vec F S256x128 .f32) (x14 : Vec F S256x128 .f32) (x15 : Vec F S256x128 .f32) (x16 : Vec F S256x128 .f32) (x17 : Vec F S256x128 .f32) (x18 : Vec F S256x128 .f32) (x19 : Vec F S256x128 .f32) (x20 : Vec F S256x128 .f32) (x21 : Vec F S256x128 .f32) (x22 : Vec F S256x128 .f32) (x23 : Vec F S256x128 .f32) (x24 : Vec F S1x128 .f32) (x25 : Vec F S1x4x128x128 .f32) (x26 : Vec F S1x4x128x128 .f32) (x27 : Vec F S256x512 .f32) (x28 : Vec F S256x512 .f32) (g : Vec F S1x128 .f32) (G : Fin 2 → Fin 4 → Vec F S1x1x128x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ owns (c : Thread nD τ) arg36 fullShare g ∗ owns (c : Thread nD τ) arg37 fullShare (asm G)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare ((insOf x0 x1 x2 x3 x4 x5 x6 x7 x8 x9 x10 x11 x12 x13 x14 x15 x16 x17 x18 x19 x20 x21 x22 x23 x24 x25 x26 x27 x28 G).dq 0) ∗ owns (c : Thread nD τ) arg31 fullShare ((insOf x0 x1 x2 x3 x4 x5 x6 x7 x8 x9 x10 x11 x12 x13 x14 x15 x16 x17 x18 x19 x20 x21 x22 x23 x24 x25 x26 x27 x28 G).dk 0) ∗ owns (c : Thread nD τ) arg32 fullShare ((insOf x0 x1 x2 x3 x4 x5 x6 x7 x8 x9 x10 x11 x12 x13 x14 x15 x16 x17 x18 x19 x20 x21 x22 x23 x24 x25 x26 x27 x28 G).dv 0) ∗ owns (c : Thread nD τ) arg33 fullShare ((insOf x0 x1 x2 x3 x4 x5 x6 x7 x8 x9 x10 x11 x12 x13 x14 x15 x16 x17 x18 x19 x20 x21 x22 x23 x24 x25 x26 x27 x28 G).dq 1) ∗ owns (c : Thread nD τ) arg34 fullShare ((insOf x0 x1 x2 x3 x4 x5 x6 x7 x8 x9 x10 x11 x12 x13 x14 x15 x16 x17 x18 x19 x20 x21 x22 x23 x24 x25 x26 x27 x28 G).dk 1) ∗ owns (c : Thread nD τ) arg35 fullShare ((insOf x0 x1 x2 x3 x4 x5 x6 x7 x8 x9 x10 x11 x12 x13 x14 x15 x16 x17 x18 x19 x20 x21 x22 x23 x24 x25 x26 x27 x28 G).dv 1) ∗ owns (c : Thread nD τ) arg36 fullShare (k0_pay2 (insOf x0 x1 x2 x3 x4 x5 x6 x7 x8 x9 x10 x11 x12 x13 x14 x15 x16 x17 x18 x19 x20 x21 x22 x23 x24 x25 x26 x27 x28 G).tot g) ∗ owns (c : Thread nD τ) arg37 fullShare (asm (insOf x0 x1 x2 x3 x4 x5 x6 x7 x8 x9 x10 x11 x12 x13 x14 x15 x16 x17 x18 x19 x20 x21 x22 x23 x24 x25 x26 x27 x28 G).gNew)) -∗ K ⟨⟩))
      ⊢ wp frame (wpE (defs₀ (F := F)) Variants.none c none) E (cc0_ret_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
  have S := storesLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28 g (asm G)
  simp only [rawIns_eq, ldSc_asm, ldRow_eq] at S
  refine BIBase.Entails.trans ?_ (of_stores (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 hc2 x0 x1 x2 x3 x4 x5 x6 x7 x8 x9 x10 x11 x12 x13 x14 x15 x16 x17 x18 x19 x20 x21 x22 x23 x24 x25 x26 x27 x28 g (asm G)) S E K)
  iterate 29 refine BIClass.sep_mono (owns_unread _ _ _) ?_
  iterate 6 refine BIClass.sep_mono (owns_any _) ?_
  refine BIClass.sep_mono (owns_unread _ _ _) (BIClass.sep_mono (owns_unread _ _ _) ?_)
  refine wand_mono ?_ .rfl
  iterate 29 refine BIClass.sep_mono (unread_owns _ _ _) ?_
  iterate 7 refine BIClass.sep_mono (held_owns fun f => View.read_writes_full _ _ _ _ _) ?_
  exact held_owns fun f => read_pieces _ _ _ _

end Cert.KernelIdeal.Own
-- ==== Proof.Whole.lean ====
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Kit
public import Idealize.ShloMosaic.Lib.Claim
public import proofs.«01_k».proof.Proof.Gen.KernelIdeal.Skeleton
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the heads read and carry at each point of the grid -/

/-- What the heads read at point `t`, with `g` the states that they carry there. -/
def insAt (c : Dev nD) (t : Fin cfg0.N) (g : Fin 2 → Fin 4 → Vec F S1x1x128x128 .f32) : Ins F :=
  insOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) g

/-- The states that the heads carry into point `n`: zero into the first, and into a later one what the point before left. -/
def carried (c : Dev nD) : (n : ℕ) → n ≤ cfg0.N → Fin 2 → Fin 4 → Vec F S1x1x128x128 .f32
  | 0, _ => fun _ _ => zeroBlk
  | n + 1, h => (insAt m c ⟨n, h⟩ (carried c n (Nat.le_of_succ_le h))).gNew

/-- What the heads read at point `t`, with the states that they carry into it. -/
def insPt (c : Dev nD) (t : Fin cfg0.N) : Ins F := insAt m c t (carried m c t.val (Nat.le_of_lt t.isLt))

/-- The row of the log decay's gradient after point `n`: the points' shares added up so far. -/
def rowTo (c : Dev nD) : (n : ℕ) → n < cfg0.N → Vec F S1x128 .f32
  | 0, h => (insPt m c ⟨0, h⟩).tot
  | n + 1, h => k0_pay2 (insPt m c ⟨n + 1, h⟩).tot (rowTo c n (Nat.lt_of_succ_lt h))

/-! ## What each point finds and leaves -/

/-- The scratch memory, whole. -/
abbrev scM0_0 : Memref sig .tc .vmem S2x4x128x128 .f32 := Memref.whole cc0_scratch0

/-- What is held between the points besides the windows: the scratch memory, holding after point `n` the carried states. -/
def PhiS (c : Dev nD) : (n : ℕ) → n ≤ cfg0.N → sProp 𝕄
  | 0, _ => Pipeline.ΦA spec0 c
  | n + 1, h => iprop(owns (c : Thread nD τ) scM0_0 fullShare (asm (carried m c (n + 1) h)) ∗ (∃ r, prngReg c r))

/-- The launch hands over the scratch memory with something in it. -/
theorem PhiA_eq (c : Dev nD) : (Pipeline.ΦA spec0 c : sProp 𝕄) = iprop((∃ d, owns (c : Thread nD τ) scM0_0 fullShare d) ∗ (∃ r, prngReg c r)) := by
  unfold Pipeline.ΦA
  rw [scopedRest0_eq]
  simp only [scM0_0, owns_whole]
  try rfl

/-- What each point leaves: its inputs as they were, the six gradients' blocks of rows, and the row added up so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => (insPt m c t).dq 0
    | ⟨30, _⟩ => (insPt m c t).dk 0
    | ⟨31, _⟩ => (insPt m c t).dv 0
    | ⟨32, _⟩ => (insPt m c t).dq 1
    | ⟨33, _⟩ => (insPt m c t).dk 1
    | ⟨34, _⟩ => (insPt m c t).dv 1
    | ⟨35, _⟩ => rowTo m c t.val t.isLt
    | ⟨_ + 36, h⟩ => absurd h (Nat.not_lt.2 (Nat.le_add_left _ _))
  Φ t := PhiS m c t.val (Nat.le_of_lt_succ t.isLt)
  q w := Pipeline.shareOf spec0 w
  owed _ := 0

/-- The arrays are those that the region is entered with. -/
theorem A_eq (c : Dev nD) (w : Fin cfg0.W) : (dats m 0 c).A w = V m c (Pipeline.arrRef spec0 w) := by dsimp only [dats]

/-- Input 0 holds its block at every point. -/
theorem before_0 (c : Dev nD) (t : Fin cfg0.N) (d) : (dats m 0 c).before 0 t d = iblk m c 0 t :=
  before0_0_of m (dats m 0 c) (A_eq m c 0) (fun t => by dsimp only [dats]) t d
/-- Input 1 holds its block at every point. -/
theorem before_1 (c : Dev nD) (t : Fin cfg0.N) (d) : (dats m 0 c).before 1 t d = iblk m c 1 t :=
  before0_1_of m (dats m 0 c) (A_eq m c 1) (fun t => by dsimp only [dats]) t d
/-- Input 2 holds its block at every point. -/
theorem before_2 (c : Dev nD) (t : Fin cfg0.N) (d) : (dats m 0 c).before 2 t d = iblk m c 2 t :=
  before0_2_of m (dats m 0 c) (A_eq m c 2) (fun t => by dsimp only [dats]) t d
/-- Input 3 holds its block at every point. -/
theorem before_3 (c : Dev nD) (t : Fin cfg0.N) (d) : (dats m 0 c).before 3 t d = iblk m c 3 t :=
  before0_3_of m (dats m 0 c) (A_eq m c 3) (fun t => by dsimp only [dats]) t d
/-- Input 4 holds its block at every point. -/
theorem before_4 (c : Dev nD) (t : Fin cfg0.N) (d) : (dats m 0 c).before 4 t d = iblk m c 4 t :=
  before0_4_of m (dats m 0 c) (A_eq m c 4) (fun t => by dsimp only [dats]) t d
/-- Input 5 holds its block at every point. -/
theorem before_5 (c : Dev nD) (t : Fin cfg0.N) (d) : (dats m 0 c).before 5 t d = iblk m c 5 t :=
  before0_5_of m (dats m 0 c) (A_eq m c 5) (fun t => by dsimp only [dats]) t d
/-- Input 6 holds its block at every point. -/
theorem before_6 (c : Dev nD) (t : Fin cfg0.N) (d) : (dats m 0 c).before 6 t d = iblk m c 6 t :=
  before0_6_of m (dats m 0 c) (A_eq m c 6) (fun t => by dsimp only [dats]) t d
/-- Input 7 holds its block at every point. -/
theorem before_7 (c : Dev nD) (t : Fin cfg0.N) (d) : (dats m 0 c).before 7 t d = iblk m c 7 t :=
  before0_7_of m (dats m 0 c) (A_eq m c 7) (fun t => by dsimp only [dats]) t d
/-- Input 8 holds its block at every point. -/
theorem before_8 (c : Dev nD) (t : Fin cfg0.N) (d) : (dats m 0 c).before 8 t d = iblk m c 8 t :=
  before0_8_of m (dats m 0 c) (A_eq m c 8) (fun t => by dsimp only [dats]) t d
/-- Input 9 holds its block at every point. -/
theorem before_9 (c : Dev nD) (t : Fin cfg0.N) (d) : (dats m 0 c).before 9 t d = iblk m c 9 t :=
  before0_9_of m (dats m 0 c) (A_eq m c 9) (fun t => by dsimp only [dats]) t d
/-- Input 10 holds its block at every point. -/
theorem before_10 (c : Dev nD) (t : Fin cfg0.N) (d) : (dats m 0 c).before 10 t d = iblk m c 10 t :=
  before0_10_of m (dats m 0 c) (A_eq m c 10) (fun t => by dsimp only [dats]) t d
/-- Input 11 holds its block at every point. -/
theorem before_11 (c : Dev nD) (t : Fin cfg0.N) (d) : (dats m 0 c).before 11 t d = iblk m c 11 t :=
  before0_11_of m (dats m 0 c) (A_eq m c 11) (fun t => by dsimp only [dats]) t d
/-- Input 12 holds its block at every point. -/
theorem before_12 (c : Dev nD) (t : Fin cfg0.N) (d) : (dats m 0 c).before 12 t d = iblk m c 12 t :=
  before0_12_of m (dats m 0 c) (A_eq m c 12) (fun t => by dsimp only [dats]) t d
/-- Input 13 holds its block at every point. -/
theorem before_13 (c : Dev nD) (t : Fin cfg0.N) (d) : (dats m 0 c).before 13 t d = iblk m c 13 t :=
  before0_13_of m (dats m 0 c) (A_eq m c 13) (fun t => by dsimp only [dats]) t d
/-- Input 14 holds its block at every point. -/
theorem before_14 (c : Dev nD) (t : Fin cfg0.N) (d) : (dats m 0 c).before 14 t d = iblk m c 14 t :=
  before0_14_of m (dats m 0 c) (A_eq m c 14) (fun t => by dsimp only [dats]) t d
/-- Input 15 holds its block at every point. -/
theorem before_15 (c : Dev nD) (t : Fin cfg0.N) (d) : (dats m 0 c).before 15 t d = iblk m c 15 t :=
  before0_15_of m (dats m 0 c) (A_eq m c 15) (fun t => by dsimp only [dats]) t d
/-- Input 16 holds its block at every point. -/
theorem before_16 (c : Dev nD) (t : Fin cfg0.N) (d) : (dats m 0 c).before 16 t d = iblk m c 16 t :=
  before0_16_of m (dats m 0 c) (A_eq m c 16) (fun t => by dsimp only [dats]) t d
/-- Input 17 holds its block at every point. -/
theorem before_17 (c : Dev nD) (t : Fin cfg0.N) (d) : (dats m 0 c).before 17 t d = iblk m c 17 t :=
  before0_17_of m (dats m 0 c) (A_eq m c 17) (fun t => by dsimp only [dats]) t d
/-- Input 18 holds its block at every point. -/
theorem before_18 (c : Dev nD) (t : Fin cfg0.N) (d) : (dats m 0 c).before 18 t d = iblk m c 18 t :=
  before0_18_of m (dats m 0 c) (A_eq m c 18) (fun t => by dsimp only [dats]) t d
/-- Input 19 holds its block at every point. -/
theorem before_19 (c : Dev nD) (t : Fin cfg0.N) (d) : (dats m 0 c).before 19 t d = iblk m c 19 t :=
  before0_19_of m (dats m 0 c) (A_eq m c 19) (fun t => by dsimp only [dats]) t d
/-- Input 20 holds its block at every point. -/
theorem before_20 (c : Dev nD) (t : Fin cfg0.N) (d) : (dats m 0 c).before 20 t d = iblk m c 20 t :=
  before0_20_of m (dats m 0 c) (A_eq m c 20) (fun t => by dsimp only [dats]) t d
/-- Input 21 holds its block at every point. -/
theorem before_21 (c : Dev nD) (t : Fin cfg0.N) (d) : (dats m 0 c).before 21 t d = iblk m c 21 t :=
  before0_21_of m (dats m 0 c) (A_eq m c 21) (fun t => by dsimp only [dats]) t d
/-- Input 22 holds its block at every point. -/
theorem before_22 (c : Dev nD) (t : Fin cfg0.N) (d) : (dats m 0 c).before 22 t d = iblk m c 22 t :=
  before0_22_of m (dats m 0 c) (A_eq m c 22) (fun t => by dsimp only [dats]) t d
/-- Input 23 holds its block at every point. -/
theorem before_23 (c : Dev nD) (t : Fin cfg0.N) (d) : (dats m 0 c).before 23 t d = iblk m c 23 t :=
  before0_23_of m (dats m 0 c) (A_eq m c 23) (fun t => by dsimp only [dats]) t d
/-- Input 24 holds its block at every point. -/
theorem before_24 (c : Dev nD) (t : Fin cfg0.N) (d) : (dats m 0 c).before 24 t d = iblk m c 24 t :=
  before0_24_of m (dats m 0 c) (A_eq m c 24) (fun t => by dsimp only [dats]) t d
/-- Input 25 holds its block at every point. -/
theorem before_25 (c : Dev nD) (t : Fin cfg0.N) (d) : (dats m 0 c).before 25 t d = iblk m c 25 t :=
  before0_25_of m (dats m 0 c) (A_eq m c 25) (fun t => by dsimp only [dats]) t d
/-- Input 26 holds its block at every point. -/
theorem before_26 (c : Dev nD) (t : Fin cfg0.N) (d) : (dats m 0 c).before 26 t d = iblk m c 26 t :=
  before0_26_of m (dats m 0 c) (A_eq m c 26) (fun t => by dsimp only [dats]) t d
/-- Input 27 holds its block at every point. -/
theorem before_27 (c : Dev nD) (t : Fin cfg0.N) (d) : (dats m 0 c).before 27 t d = iblk m c 27 t :=
  before0_27_of m (dats m 0 c) (A_eq m c 27) (fun t => by dsimp only [dats]) t d
/-- Input 28 holds its block at every point. -/
theorem before_28 (c : Dev nD) (t : Fin cfg0.N) (d) : (dats m 0 c).before 28 t d = iblk m c 28 t :=
  before0_28_of m (dats m 0 c) (A_eq m c 28) (fun t => by dsimp only [dats]) t d

/-- No point leaves a window alone. -/
theorem live : ∀ (t : Fin cfg0.N) (w : Fin cfg0.W), cfg0.idle w (grid0.coords t) = false :=
  (by decide +kernel : ∀ (t : Fin grid0.N) (w : Fin 36), cfg0.idle w (grid0.coords t) = false)

/-- A point leaves in a window's memory what the data say. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact
  rw [live t w]

/-- The row's memory is carried from the first point on. -/
theorem notFresh : ∀ t : Fin cfg0.N, t.val ≠ 0 → cfg0.fresh 35 t.val = false :=
  (by decide +kernel : ∀ t : Fin grid0.N, t.val ≠ 0 → cfg0.fresh 35 t.val = false)

/-- A later point finds in the row's memory what the point before left. -/
theorem before_35 (c : Dev nD) (t : Fin cfg0.N) (h : t.val ≠ 0) (d) :
    (dats m 0 c).before 35 t d = rowTo m c (t.val - 1) (Nat.lt_of_le_of_lt (Nat.sub_le _ _) t.isLt) := by
  rw [Dat.before_out_traj _ 35 rfl (fun _ _ => rfl) (fun t _ hi => absurd ((live t 35).symm.trans hi) Bool.false_ne_true) t.val t rfl d,
    if_neg (by rw [notFresh t h]; exact Bool.false_ne_true)]
  dsimp only [dats]

/-! ## The branches of the body at each point -/

/-- The first point sets the carried states and writes the row. -/
theorem conds_first : ∀ t : Fin cfg0.N, t.val = 0 →
    Scalar.cmpi .ne (Scalar.extui (Scalar.cmpi .eq (BitVec.ofNat 32 (grid0.coords t 0).val) 0#32) : BitVec 32) 0#32 = 1#1
      ∧ k0_cond2 (grid0.coords t) = 1#1 ∧ ¬k0_cond3 (grid0.coords t) = 1#1 :=
  (by decide +kernel : ∀ t : Fin grid0.N, t.val = 0 →
    Scalar.cmpi .ne (Scalar.extui (Scalar.cmpi .eq (BitVec.ofNat 32 (grid0.coords t 0).val) 0#32) : BitVec 32) 0#32 = 1#1
      ∧ k0_cond2 (grid0.coords t) = 1#1 ∧ ¬k0_cond3 (grid0.coords t) = 1#1)

/-- A later point keeps the carried states and adds to the row. -/
theorem conds_later : ∀ t : Fin cfg0.N, t.val ≠ 0 →
    ¬Scalar.cmpi .ne (Scalar.extui (Scalar.cmpi .eq (BitVec.ofNat 32 (grid0.coords t 0).val) 0#32) : BitVec 32) 0#32 = 1#1
      ∧ ¬k0_cond2 (grid0.coords t) = 1#1 ∧ k0_cond3 (grid0.coords t) = 1#1 :=
  (by decide +kernel : ∀ t : Fin grid0.N, t.val ≠ 0 →
    ¬Scalar.cmpi .ne (Scalar.extui (Scalar.cmpi .eq (BitVec.ofNat 32 (grid0.coords t 0).val) 0#32) : BitVec 32) 0#32 = 1#1
      ∧ ¬k0_cond2 (grid0.coords t) = 1#1 ∧ k0_cond3 (grid0.coords t) = 1#1)

/-! ## The body at a generic point -/

/-- The next conjunct passed to the other side, what is kept staying in front. -/
theorem pass {X A B P Q : sProp 𝕄} (h : A ⊢ B) (k : iprop(X ∗ P) ⊢ Q) : iprop(X ∗ (A ∗ P)) ⊢ iprop(B ∗ Q) :=
  BIBase.Entails.trans (by
    iintro ⟨HX, HA, HP⟩
    isplitl [HA]
    · iexact HA
    isplitl [HX]
    · iexact HX
    iexact HP) (BIClass.sep_mono h k)

/-- The last conjunct brought to the front past the next one. -/
theorem bring {A P Y Q : sProp 𝕄} (k : P ⊢ iprop(Y ∗ Q)) : iprop(A ∗ P) ⊢ iprop(Y ∗ (A ∗ Q)) :=
  BIBase.Entails.trans (BIClass.sep_mono .rfl k) (by
    iintro ⟨HA, HY, HQ⟩
    isplitl [HY]
    · iexact HY
    isplitl [HA]
    · iexact HA
    iexact HQ)

/-- The two conjuncts changed about. -/
theorem turn {A B : sProp 𝕄} : iprop(A ∗ B) ⊢ iprop(B ∗ A) := by
  iintro ⟨HA, HB⟩
  isplitl [HB]
  · iexact HB
  iexact HA

/-- What does not depend on the witness holds without it. -/
theorem drop {α : Type} {P : sProp 𝕄} : iprop(∃ _ : α, P) ⊢ P := by
  iintro ⟨%_, H⟩; iexact H

/-- Some value is some value. -/
theorem some_of {α β : Type} {P : β → sProp 𝕄} (f : α → β) : iprop(∃ d, P (f d)) ⊢ iprop(∃ x, P x) := by
  iintro ⟨%d, H⟩; iexists _; iexact H

/-- What is held at a point's entry, window by window. -/
def bodyPre (c : Dev nD) (t : Fin cfg0.N) : sProp 𝕄 :=
  iprop(((dats m 0 c).Φ t.castSucc ∗ (dats m 0 c).owesAt () t.castSucc)
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d)))

/-- What is held at its exit. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t
    ∗ (dats m 0 c).leavesExact 34 t
    ∗ (dats m 0 c).leavesExact 35 t)

set_option maxHeartbeats 4000000 in
/-- What the body leaves in the windows' memories and in the scratch memory is what the point leaves. -/
theorem leave (c : Dev nD) (t : Fin cfg0.N) :
    iprop(((dats m 0 c).owesAt () t.castSucc ∗ (∃ r, prngReg c r))
      ∗ (owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t) ∗ owns (c : Thread nD τ) (st0_14 t) fullShare (iblk m c 14 t) ∗ owns (c : Thread nD τ) (st0_15 t) fullShare (iblk m c 15 t) ∗ owns (c : Thread nD τ) (st0_16 t) fullShare (iblk m c 16 t) ∗ owns (c : Thread nD τ) (st0_17 t) fullShare (iblk m c 17 t) ∗ owns (c : Thread nD τ) (st0_18 t) fullShare (iblk m c 18 t) ∗ owns (c : Thread nD τ) (st0_19 t) fullShare (iblk m c 19 t) ∗ owns (c : Thread nD τ) (st0_20 t) fullShare (iblk m c 20 t) ∗ owns (c : Thread nD τ) (st0_21 t) fullShare (iblk m c 21 t) ∗ owns (c : Thread nD τ) (st0_22 t) fullShare (iblk m c 22 t) ∗ owns (c : Thread nD τ) (st0_23 t) fullShare (iblk m c 23 t) ∗ owns (c : Thread nD τ) (st0_24 t) fullShare (iblk m c 24 t) ∗ owns (c : Thread nD τ) (st0_25 t) fullShare (iblk m c 25 t) ∗ owns (c : Thread nD τ) (st0_26 t) fullShare (iblk m c 26 t) ∗ owns (c : Thread nD τ) (st0_27 t) fullShare (iblk m c 27 t) ∗ owns (c : Thread nD τ) (st0_28 t) fullShare (iblk m c 28 t) ∗ owns (c : Thread nD τ) (st0_29 t) fullShare ((insPt m c t).dq 0) ∗ owns (c : Thread nD τ) (st0_30 t) fullShare ((insPt m c t).dk 0) ∗ owns (c : Thread nD τ) (st0_31 t) fullShare ((insPt m c t).dv 0) ∗ owns (c : Thread nD τ) (st0_32 t) fullShare ((insPt m c t).dq 1) ∗ owns (c : Thread nD τ) (st0_33 t) fullShare ((insPt m c t).dk 1) ∗ owns (c : Thread nD τ) (st0_34 t) fullShare ((insPt m c t).dv 1) ∗ owns (c : Thread nD τ) (st0_35 t) fullShare (rowTo m c t.val t.isLt) ∗ owns (c : Thread nD τ) scM0_0 fullShare (asm (insPt m c t).gNew))) ⊢ bodyPost m c t := by
  unfold bodyPost
  rw [show (dats m 0 c).owesAt () t.succ = (dats m 0 c).owesAt () t.castSucc from rfl]
  rw [show (dats m 0 c).Φ t.succ = iprop(owns (c : Thread nD τ) scM0_0 fullShare (asm (insPt m c t).gNew) ∗ (∃ r, prngReg c r)) from rfl]
  simp only [leaves]
  refine BIBase.Entails.trans (BIClass.sep_mono .rfl (?_ : _ ⊢ iprop(owns (c : Thread nD τ) scM0_0 fullShare (asm (insPt m c t).gNew) ∗ (owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ owns (c : Thread nD τ) (st0_19 t) fullShare ((dats m 0 c).after 19 t) ∗ owns (c : Thread nD τ) (st0_20 t) fullShare ((dats m 0 c).after 20 t) ∗ owns (c : Thread nD τ) (st0_21 t) fullShare ((dats m 0 c).after 21 t) ∗ owns (c : Thread nD τ) (st0_22 t) fullShare ((dats m 0 c).after 22 t) ∗ owns (c : Thread nD τ) (st0_23 t) fullShare ((dats m 0 c).after 23 t) ∗ owns (c : Thread nD τ) (st0_24 t) fullShare ((dats m 0 c).after 24 t) ∗ owns (c : Thread nD τ) (st0_25 t) fullShare ((dats m 0 c).after 25 t) ∗ owns (c : Thread nD τ) (st0_26 t) fullShare ((dats m 0 c).after 26 t) ∗ owns (c : Thread nD τ) (st0_27 t) fullShare ((dats m 0 c).after 27 t) ∗ owns (c : Thread nD τ) (st0_28 t) fullShare ((dats m 0 c).after 28 t) ∗ owns (c : Thread nD τ) (st0_29 t) fullShare ((dats m 0 c).after 29 t) ∗ owns (c : Thread nD τ) (st0_30 t) fullShare ((dats m 0 c).after 30 t) ∗ owns (c : Thread nD τ) (st0_31 t) fullShare ((dats m 0 c).after 31 t) ∗ owns (c : Thread nD τ) (st0_32 t) fullShare ((dats m 0 c).after 32 t) ∗ owns (c : Thread nD τ) (st0_33 t) fullShare ((dats m 0 c).after 33 t) ∗ owns (c : Thread nD τ) (st0_34 t) fullShare ((dats m 0 c).after 34 t) ∗ owns (c : Thread nD τ) (st0_35 t) fullShare ((dats m 0 c).after 35 t))))) ?_
  · iterate 35 refine bring (F := F) ?_
    exact turn (F := F)
  · iintro ⟨⟨HO, HR⟩, HS, HW⟩
    isplitl [HS HR]
    · isplitl [HS]
      · iexact HS
      iexact HR
    isplitl [HO]
    · iexact HO
    iexact HW

set_option maxHeartbeats 4000000 in
/-- The body at any point: it finds its blocks and what the points before carried, and leaves what the data say. -/
theorem sound_body (c : Dev nD) (t : Fin cfg0.N) :
    bodyPre m c t ⊢ wp frame (wpE (defs₀ (F := F)) Variants.none c none) Set.univ (bodyAt0 t) (fun _ => bodyPost m c t) := by
  have hl := leave m c t
  revert hl
  generalize bodyPost m c t = K
  intro hl
  unfold bodyPre
  simp only [before_0 m c t, before_1 m c t, before_2 m c t, before_3 m c t, before_4 m c t, before_5 m c t, before_6 m c t, before_7 m c t, before_8 m c t, before_9 m c t, before_10 m c t, before_11 m c t, before_12 m c t, before_13 m c t, before_14 m c t, before_15 m c t, before_16 m c t, before_17 m c t, before_18 m c t, before_19 m c t, before_20 m c t, before_21 m c t, before_22 m c t, before_23 m c t, before_24 m c t, before_25 m c t, before_26 m c t, before_27 m c t, before_28 m c t]
  rcases t with ⟨_ | n, ht⟩
  · obtain ⟨h0, h1, h2⟩ := conds_first ⟨0, ht⟩ rfl
    rw [show (dats m 0 c).Φ (Fin.castSucc ⟨0, ht⟩) = Pipeline.ΦA spec0 c from rfl, PhiA_eq]
    refine BIBase.Entails.trans ?_ (bodyFirst c (grid0.coords ⟨0, ht⟩) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ h0 h1 h2 (iblk m c 0 ⟨0, ht⟩) (iblk m c 1 ⟨0, ht⟩) (iblk m c 2 ⟨0, ht⟩) (iblk m c 3 ⟨0, ht⟩) (iblk m c 4 ⟨0, ht⟩) (iblk m c 5 ⟨0, ht⟩) (iblk m c 6 ⟨0, ht⟩) (iblk m c 7 ⟨0, ht⟩) (iblk m c 8 ⟨0, ht⟩) (iblk m c 9 ⟨0, ht⟩) (iblk m c 10 ⟨0, ht⟩) (iblk m c 11 ⟨0, ht⟩) (iblk m c 12 ⟨0, ht⟩) (iblk m c 13 ⟨0, ht⟩) (iblk m c 14 ⟨0, ht⟩) (iblk m c 15 ⟨0, ht⟩) (iblk m c 16 ⟨0, ht⟩) (iblk m c 17 ⟨0, ht⟩) (iblk m c 18 ⟨0, ht⟩) (iblk m c 19 ⟨0, ht⟩) (iblk m c 20 ⟨0, ht⟩) (iblk m c 21 ⟨0, ht⟩) (iblk m c 22 ⟨0, ht⟩) (iblk m c 23 ⟨0, ht⟩) (iblk m c 24 ⟨0, ht⟩) (iblk m c 25 ⟨0, ht⟩) (iblk m c 26 ⟨0, ht⟩) (iblk m c 27 ⟨0, ht⟩) (iblk m c 28 ⟨0, ht⟩) Set.univ (fun _ => K))
    iterate 29 refine pass (drop (F := F)) ?_
    iterate 6 refine pass (some_of (F := F) _) ?_
    iintro ⟨⟨⟨HS, HR⟩, HO⟩, ⟨%d, H⟩⟩
    isplitl [H]
    · iexists _
      iexact H
    isplitl [HS]
    · iexact HS
    iintro Hp
    iapply hl
    isplitl [HO HR]
    · isplitl [HO]
      · iexact HO
      iexact HR
    iexact Hp
  · obtain ⟨h0, h1, h2⟩ := conds_later ⟨n + 1, ht⟩ (Nat.succ_ne_zero n)
    rw [show (dats m 0 c).Φ (Fin.castSucc ⟨n + 1, ht⟩) = iprop(owns (c : Thread nD τ) scM0_0 fullShare (asm (carried m c (n + 1) (Nat.le_of_lt ht))) ∗ (∃ r, prngReg c r)) from rfl]
    simp only [before_35 m c ⟨n + 1, ht⟩ (Nat.succ_ne_zero n)]
    refine BIBase.Entails.trans ?_ (bodyLater c (grid0.coords ⟨n + 1, ht⟩) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ h0 h1 h2 (iblk m c 0 ⟨n + 1, ht⟩) (iblk m c 1 ⟨n + 1, ht⟩) (iblk m c 2 ⟨n + 1, ht⟩) (iblk m c 3 ⟨n + 1, ht⟩) (iblk m c 4 ⟨n + 1, ht⟩) (iblk m c 5 ⟨n + 1, ht⟩) (iblk m c 6 ⟨n + 1, ht⟩) (iblk m c 7 ⟨n + 1, ht⟩) (iblk m c 8 ⟨n + 1, ht⟩) (iblk m c 9 ⟨n + 1, ht⟩) (iblk m c 10 ⟨n + 1, ht⟩) (iblk m c 11 ⟨n + 1, ht⟩) (iblk m c 12 ⟨n + 1, ht⟩) (iblk m c 13 ⟨n + 1, ht⟩) (iblk m c 14 ⟨n + 1, ht⟩) (iblk m c 15 ⟨n + 1, ht⟩) (iblk m c 16 ⟨n + 1, ht⟩) (iblk m c 17 ⟨n + 1, ht⟩) (iblk m c 18 ⟨n + 1, ht⟩) (iblk m c 19 ⟨n + 1, ht⟩) (iblk m c 20 ⟨n + 1, ht⟩) (iblk m c 21 ⟨n + 1, ht⟩) (iblk m c 22 ⟨n + 1, ht⟩) (iblk m c 23 ⟨n + 1, ht⟩) (iblk m c 24 ⟨n + 1, ht⟩) (iblk m c 25 ⟨n + 1, ht⟩) (iblk m c 26 ⟨n + 1, ht⟩) (iblk m c 27 ⟨n + 1, ht⟩) (iblk m c 28 ⟨n + 1, ht⟩) (rowTo m c n (Nat.lt_of_succ_lt ht)) (carried m c (n + 1) (Nat.le_of_lt ht)) Set.univ (fun _ => K))
    iterate 29 refine pass (drop (F := F)) ?_
    iterate 6 refine pass (some_of (F := F) _) ?_
    iintro ⟨⟨⟨HS, HR⟩, HO⟩, ⟨%d, H⟩⟩
    isplitl [H]
    · iexact H

    isplitl [HS]
    · iexact HS
    iintro Hp
    iapply hl
    isplitl [HO HR]
    · isplitl [HO]
      · iexact HO
      iexact HR
    iexact Hp

/-- The body that a point calls. -/
theorem defs₀_row (t : Fin cfg0.N) : defs₀ (F := F) .tc cfg0.body (cfg0.bodyArgs t (cfg0.slots t)) = bodyAt0 t := by
  unfold defs₀
  rw [Defs.onTc_tc]

set_option maxHeartbeats 4000000 in
/-- Every point's body does what the data say. -/
theorem body_obligation (c : Dev nD) : BodyObligation (dats (F := F) m 0 c) (defs₀ (F := F)) Variants.none () Set.univ := fun t => by
  rw [bigSep_W0, bigSep_W0, defs₀_row]
  exact triple_restated (sound_body m c t) rfl sep_assoc.2 fun _ => .rfl

/-- The launch's state is the first point's. -/
theorem enter (c : Dev nD) : Pipeline.ΦA spec0 c ⊢ (dats (F := F) m 0 c).Φ 0 := .rfl

/-- After the last point the scratch memory is handed back. -/
theorem exit (c : Dev nD) : (dats (F := F) m 0 c).Φ (Fin.last cfg0.N) ⊢ Pipeline.ΦA spec0 c := by
  rw [PhiA_eq]
  refine BIBase.Entails.trans (?_ : _ ⊢ iprop(owns (c : Thread nD τ) scM0_0 fullShare (asm (carried m c 33 (Nat.le_of_eq N_0.symm))) ∗ (∃ r, prngReg c r))) ?_
  · exact .rfl
  iintro ⟨HS, HR⟩
  isplitl [HS]
  · iexists _
    iexact HS
  iexact HR

/-! ## The run -/

set_option backward.isDefEq.respectTransparency.types false in
/-- The program runs, leaves in the arrays what the data say, and ends with the counters at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl)
    (V := V m) (hmain := hmain m Variants.none) (hA := A_eq m) (hin := enter m) (hout := exit m)

/-- The program runs and leaves in the arrays what the data say. -/
theorem run_posts : θ_run defs (onTc (τ := τ) (main (F := F))) (s₀ m ρ) (Pipeline.FramePost cfgs (dats m) 0 (V m)) :=
  (θ_run defs _ _).mono (fun _ h => h.1) (run_quiet m ρ)

/-- The program runs, leaves its arguments as they were, and ends with the counters at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_posts m ρ)) ((θ_run defs _ _).mono (fun _ h => h.2) (run_quiet m ρ))

end Cert.KernelIdeal.Own

end
-- ==== Proof.SameText.lean ====
module
public import Idealize.ShloMosaic.PureOps.BitExact
public import proofs.«01_k».proof.Proof.Gen.Kernel
public import proofs.«01_k».proof.Proof.Whole
@[expose] public section
noncomputable section
namespace Cert.Proof
attribute [local instance] Cert.Kernel.Gen.facts Cert.KernelIdeal.Gen.facts
open Idealize.ShloMosaic Idealize.SL.Sem

set_option maxHeartbeats 4000000
set_option maxRecDepth 65536

/-- The bodies are one text. -/
theorem same_body : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl
  | ⟨_ + 1, h⟩, _ => exact absurd h (Nat.not_lt.2 (Nat.le_add_left _ _))

/-- The programs' tables of bodies are one. -/
theorem same_defs : Cert.Kernel.defs (F := Bits) = Cert.KernelIdeal.defs (F := Bits) :=
  congrArg (Pipeline.defs (Cert.KernelIdeal.pcfgs (F := Bits))) same_body

/-- So are their main functions. -/
theorem same_main : Cert.Kernel.main (F := Bits) = Cert.KernelIdeal.main (F := Bits) := rfl

end Cert.Proof

end
-- ==== Proof.Framed.lean ====
module
public import proofs.«01_k».proof.Defs
public import proofs.«01_k».proof.Proof.SameText
@[expose] public section
noncomputable section
namespace Cert.Proof
attribute [local instance] Cert.Kernel.Gen.facts Cert.KernelIdeal.Gen.facts
open Idealize.ShloMosaic Idealize.SL.Sem

set_option maxHeartbeats 4000000
set_option maxRecDepth 65536

/-- The kernel is the same program read at machine words: the same run, taken there. -/
theorem frame_kernel : Cert.quiescent_Kernel := by
  intro m ρ _
  rw [same_defs, same_main]
  exact Cert.KernelIdeal.Own.run_main (F := Bits) m ρ

end Cert.Proof

end
-- ==== Proof.Sums.lean ====
module

public import Idealize.ShloMosaic.Lib.Pipeline.ValueKit

@[expose] public section

noncomputable section

namespace Cert.Retention

open Finset

/-- One head's rows in the order in which one direction scans them, cut into chunks, over the reals: a row's place in its chunk, the
logarithm of the head's decay, and the rows of the queries, the keys, the values and the cotangent. -/
structure Scan where
  loc : Fin 256 → ℕ
  le : ∀ i, loc i ≤ 255
  lg : ℝ
  q : Fin 33 → Fin 256 → Fin 128 → ℝ
  k : Fin 33 → Fin 256 → Fin 128 → ℝ
  v : Fin 33 → Fin 256 → Fin 128 → ℝ
  y : Fin 33 → Fin 256 → Fin 128 → ℝ

namespace Scan

variable (S : Scan)

/-- The decay over a distance. -/
def E (x : ℝ) : ℝ := Real.exp (x * S.lg)

theorem E_mul (a b : ℝ) : S.E a * S.E b = S.E (a + b) := by
  unfold E; rw [← Real.exp_add, ← add_mul]

/-- A row's place in the scan. -/
def pos (s : Fin 33) (i : Fin 256) : ℕ := 256 * s.val + S.loc i

/-- The decay between two rows, the later one first. -/
def W (s : Fin 33) (i : Fin 256) (t : Fin 33) (j : Fin 256) : ℝ :=
  if S.pos t j ≤ S.pos s i then S.E ((S.pos s i : ℝ) - (S.pos t j : ℝ)) else 0

/-- The product of a query and a key, and of a cotangent and a value. -/
def qk (s : Fin 33) (i : Fin 256) (t : Fin 33) (j : Fin 256) : ℝ := ∑ a, S.q s i a * S.k t j a
def yv (s : Fin 33) (i : Fin 256) (t : Fin 33) (j : Fin 256) : ℝ := ∑ b, S.y s i b * S.v t j b

/-- The state entering a chunk. -/
def St (s : Fin 33) (a b : Fin 128) : ℝ :=
  ∑ t : Fin 33, ∑ j, if t < s then S.E (256 * (s.val : ℝ) - 1 - (S.pos t j : ℝ)) * S.k t j a * S.v t j b else 0

/-- The gradient of the state leaving a chunk. -/
def G (s : Fin 33) (a b : Fin 128) : ℝ :=
  ∑ t : Fin 33, ∑ i, if s < t then S.E ((S.pos t i : ℝ) + 1 - 256 * ((s.val : ℝ) + 1)) * (S.y t i b * S.q t i a) else 0

theorem pos_lt {s t : Fin 33} (h : t < s) (i j : Fin 256) : S.pos t j < S.pos s i := by
  have := S.le j
  have : t.val + 1 ≤ s.val := h
  unfold pos; omega

/-- The decay between rows of two chunks, cut at the later chunk's beginning. -/
theorem W_lt {s t : Fin 33} (h : t < s) (i j : Fin 256) :
    S.W s i t j = S.E ((S.loc i : ℝ) + 1) * S.E (256 * (s.val : ℝ) - 1 - (S.pos t j : ℝ)) := by
  rw [W, if_pos (S.pos_lt h i j).le, E_mul]
  congr 1; unfold pos; push_cast; ring

/-- The same, cut at the earlier chunk's end. -/
theorem W_lt' {s t : Fin 33} (h : t < s) (i j : Fin 256) :
    S.W s i t j = S.E (255 - (S.loc j : ℝ)) * S.E ((S.pos s i : ℝ) + 1 - 256 * ((t.val : ℝ) + 1)) := by
  rw [W, if_pos (S.pos_lt h i j).le, E_mul]
  congr 1; unfold pos; push_cast; ring

/-- A later row does not reach an earlier one. -/
theorem W_gt {s t : Fin 33} (h : s < t) (i j : Fin 256) : S.W s i t j = 0 :=
  if_neg (not_le.2 (S.pos_lt h j i))

/-- The decay between rows of one chunk. -/
theorem W_self (s : Fin 33) (i j : Fin 256) :
    S.W s i s j = if S.loc j ≤ S.loc i then S.E ((S.loc i : ℝ) - (S.loc j : ℝ)) else 0 := by
  unfold W pos
  simp only [Nat.add_le_add_iff_left]
  congr 2; push_cast; ring

/-- A sum over the chunks in which the later ones count for nothing. -/
theorem sum_upto (f : Fin 33 → ℝ) (s : Fin 33) (h : ∀ t, s < t → f t = 0) :
    ∑ t, f t = (∑ t, if t < s then f t else 0) + f s := by
  have : ∀ t, f t = (if t < s then f t else 0) + (if t = s then f t else 0) := fun t => by
    rcases lt_trichotomy t s with h1 | h1 | h1
    · simp [h1, h1.ne]
    · simp [h1]
    · simp [h1.not_gt, h1.ne', h t h1]
  rw [sum_congr rfl fun t _ => this t, sum_add_distrib, sum_ite_eq' univ s f, if_pos (mem_univ s)]

/-- A sum over the chunks in which the earlier ones count for nothing. -/
theorem sum_from (f : Fin 33 → ℝ) (s : Fin 33) (h : ∀ t, t < s → f t = 0) :
    ∑ t, f t = (∑ t, if s < t then f t else 0) + f s := by
  have : ∀ t, f t = (if s < t then f t else 0) + (if t = s then f t else 0) := fun t => by
    rcases lt_trichotomy t s with h1 | h1 | h1
    · simp [h1.not_gt, h1.ne, h t h1]
    · simp [h1]
    · simp [h1, h1.ne']
  rw [sum_congr rfl fun t _ => this t, sum_add_distrib, sum_ite_eq' univ s f, if_pos (mem_univ s)]

/-- A choice over all terms of a sum. -/
theorem sum_choose {ι : Type} [Fintype ι] (p : Prop) [Decidable p] (f : ι → ℝ) :
    (∑ i, if p then f i else 0) = if p then ∑ i, f i else 0 := by
  split_ifs <;> simp

/-- A row of the entering state against a vector. -/
theorem St_right (s : Fin 33) (a : Fin 128) (z : Fin 128 → ℝ) :
    ∑ b, z b * S.St s a b = ∑ t : Fin 33, if t < s then ∑ j, S.E (256 * (s.val : ℝ) - 1 - (S.pos t j : ℝ)) * S.k t j a * ∑ b, z b * S.v t j b else 0 := by
  unfold St
  simp only [mul_sum]
  rw [sum_comm]
  refine sum_congr rfl fun t _ => ?_
  rw [sum_comm]
  split_ifs with h
  · refine sum_congr rfl fun j _ => sum_congr rfl fun b _ => ?_
    rw [mul_left_comm]
  · simp

/-- The entering state between two vectors. -/
theorem St_both (s : Fin 33) (x z : Fin 128 → ℝ) :
    ∑ b, (∑ a, x a * S.St s a b) * z b
      = ∑ t : Fin 33, if t < s then ∑ j, S.E (256 * (s.val : ℝ) - 1 - (S.pos t j : ℝ)) * ((∑ a, x a * S.k t j a) * ∑ b, z b * S.v t j b) else 0 := by
  have h1 : ∑ b, (∑ a, x a * S.St s a b) * z b = ∑ a, x a * ∑ b, z b * S.St s a b := by
    simp only [sum_mul, mul_sum]
    rw [sum_comm]
    refine sum_congr rfl fun a _ => sum_congr rfl fun b _ => by ring
  rw [h1]
  simp only [St_right, mul_sum]
  rw [sum_comm]
  refine sum_congr rfl fun t _ => ?_
  split_ifs with h
  · simp only [mul_sum, sum_mul]
    rw [sum_comm]
    refine sum_congr rfl fun j _ => ?_
    rw [sum_comm]
    refine sum_congr rfl fun b _ => sum_congr rfl fun a _ => by ring
  · simp

/-- The carried gradient between two vectors. -/
theorem G_both (s : Fin 33) (x z : Fin 128 → ℝ) :
    ∑ a, x a * ∑ b, S.G s a b * z b
      = ∑ t : Fin 33, if s < t then ∑ i, S.E ((S.pos t i : ℝ) + 1 - 256 * ((s.val : ℝ) + 1)) * ((∑ a, S.q t i a * x a) * ∑ b, S.y t i b * z b) else 0 := by
  unfold G
  simp only [sum_mul, mul_sum]
  have h1 : ∀ a, (∑ b, ∑ t : Fin 33, ∑ i, x a * ((if s < t then S.E ((S.pos t i : ℝ) + 1 - 256 * ((s.val : ℝ) + 1)) * (S.y t i b * S.q t i a) else 0) * z b))
      = ∑ t : Fin 33, ∑ i, ∑ b, x a * ((if s < t then S.E ((S.pos t i : ℝ) + 1 - 256 * ((s.val : ℝ) + 1)) * (S.y t i b * S.q t i a) else 0) * z b) := fun a => by
    rw [sum_comm]; exact sum_congr rfl fun t _ => sum_comm
  rw [sum_congr rfl fun a _ => h1 a, sum_comm]
  refine sum_congr rfl fun t _ => ?_
  rw [sum_comm]
  split_ifs with h
  · refine sum_congr rfl fun i _ => ?_
    rw [sum_comm]
    refine sum_congr rfl fun b _ => sum_congr rfl fun a _ => by ring
  · simp

/-- The carried gradient from the chunk after: its own rows, and what is carried into it, decayed over it. -/
theorem G_step (s u : Fin 33) (hu : u.val + 1 = s.val) (a b : Fin 128) :
    (∑ i, S.y s i b * S.E ((S.loc i : ℝ) + 1) * S.q s i a) + S.G s a b * S.E 256 = S.G u a b := by
  have h := sum_from (fun t => ∑ i, if u < t then S.E ((S.pos t i : ℝ) + 1 - 256 * ((u.val : ℝ) + 1)) * (S.y t i b * S.q t i a) else 0) s
    (fun t ht => by
      have : ¬u < t := fun h' => by have h1 : t.val < s.val := ht; have h2 : u.val < t.val := h'; omega
      simp [this])
  have hus : u < s := by show u.val < s.val; omega
  rw [show S.G u a b = _ from h, add_comm]
  congr 1
  · unfold G
    simp only [sum_mul]
    refine sum_congr rfl fun t _ => ?_
    by_cases hst : s < t
    · simp only [hst, hus.trans hst, if_true]
      refine sum_congr rfl fun i _ => ?_
      rw [mul_right_comm, E_mul]
      congr 2
      have : (s.val : ℝ) = u.val + 1 := by exact_mod_cast hu.symm
      rw [this]; ring
    · simp [hst]
  · refine sum_congr rfl fun i _ => ?_
    rw [if_pos hus, mul_comm (S.y s i b), mul_assoc]
    congr 2
    have : (s.val : ℝ) = u.val + 1 := by exact_mod_cast hu.symm
    unfold pos; push_cast; rw [this]; ring

/-- After the last chunk nothing is carried. -/
theorem G_last (s : Fin 33) (hs : s.val = 32) (a b : Fin 128) : S.G s a b = 0 := by
  refine sum_eq_zero fun t _ => sum_eq_zero fun i _ => if_neg fun h => ?_
  have : s.val < t.val := h
  have := t.isLt
  omega

/-- The gradient of a query, through the entering state and through its chunk, is the sum over all rows. -/
theorem dq_eq (s : Fin 33) (i : Fin 256) (a : Fin 128) :
    (∑ b, S.y s i b * S.E ((S.loc i : ℝ) + 1) * S.St s a b) + (∑ j, S.yv s i s j * S.W s i s j * S.k s j a)
      = ∑ t, ∑ j, S.yv s i t j * S.W s i t j * S.k t j a := by
  rw [sum_upto (fun t => ∑ j, S.yv s i t j * S.W s i t j * S.k t j a) s (fun t ht => sum_eq_zero fun j _ => by rw [S.W_gt ht]; ring)]
  congr 1
  rw [S.St_right s a fun b => S.y s i b * S.E ((S.loc i : ℝ) + 1)]
  refine sum_congr rfl fun t _ => ?_
  split_ifs with h
  · refine sum_congr rfl fun j _ => ?_
    rw [S.W_lt h, show (∑ b, S.y s i b * S.E ((S.loc i : ℝ) + 1) * S.v t j b) = S.yv s i t j * S.E ((S.loc i : ℝ) + 1) from by
      unfold yv; rw [sum_mul]; exact sum_congr rfl fun b _ => by ring]
    ring
  · rfl

/-- The gradient of a key, through its chunk and through the leaving state, is the sum over all rows. -/
theorem dk_eq (s : Fin 33) (j : Fin 256) (a : Fin 128) :
    (∑ i, S.yv s i s j * S.W s i s j * S.q s i a) + (∑ b, S.G s a b * S.v s j b) * S.E (255 - (S.loc j : ℝ))
      = ∑ t, ∑ i, S.yv t i s j * S.W t i s j * S.q t i a := by
  rw [sum_from (fun t => ∑ i, S.yv t i s j * S.W t i s j * S.q t i a) s (fun t ht => sum_eq_zero fun i _ => by rw [S.W_gt ht]; ring), add_comm]
  congr 1
  have h := S.G_both s (fun a' => if a' = a then 1 else 0) (S.v s j)
  simp only [ite_mul, mul_ite, one_mul, mul_one, zero_mul, mul_zero, sum_ite_eq', mem_univ, if_true] at h
  rw [h, sum_mul]
  refine sum_congr rfl fun t _ => ?_
  split_ifs with h'
  · rw [sum_mul]
    refine sum_congr rfl fun i _ => ?_
    rw [S.W_lt' h']; unfold yv; ring
  · simp

/-- The gradient of a value, through its chunk and through the leaving state, is the sum over all rows. -/
theorem dv_eq (s : Fin 33) (j : Fin 256) (b : Fin 128) :
    (∑ i, S.y s i b * (S.qk s i s j * S.W s i s j)) + (∑ a, S.G s a b * (S.k s j a * S.E (255 - (S.loc j : ℝ))))
      = ∑ t, ∑ i, S.y t i b * (S.qk t i s j * S.W t i s j) := by
  rw [sum_from (fun t => ∑ i, S.y t i b * (S.qk t i s j * S.W t i s j)) s (fun t ht => sum_eq_zero fun i _ => by rw [S.W_gt ht]; ring), add_comm]
  congr 1
  have h := S.G_both s (fun a => S.k s j a * S.E (255 - (S.loc j : ℝ))) (fun b' => if b' = b then 1 else 0)
  simp only [mul_ite, mul_one, mul_zero, sum_ite_eq', mem_univ, if_true] at h
  rw [show (∑ a, S.G s a b * (S.k s j a * S.E (255 - (S.loc j : ℝ)))) = ∑ a, S.k s j a * S.E (255 - (S.loc j : ℝ)) * S.G s a b from
    sum_congr rfl fun a _ => mul_comm _ _, h]
  refine sum_congr rfl fun t _ => ?_
  split_ifs with h'
  · refine sum_congr rfl fun i _ => ?_
    rw [S.W_lt' h', show (∑ a, S.q t i a * (S.k s j a * S.E (255 - (S.loc j : ℝ)))) = S.qk t i s j * S.E (255 - (S.loc j : ℝ)) from by
      unfold qk; rw [sum_mul]; exact sum_congr rfl fun a _ => by ring]
    ring
  · rfl

/-- The four parts of a chunk's term of the gradient of the log decay: through the entering state, through the whole chunk's decay,
through the decays to the chunk's end, and through the pairs. -/
def lgA (s : Fin 33) : ℝ := ∑ i, ((S.loc i : ℝ) + 1) * ((∑ b, (∑ a, S.q s i a * S.St s a b) * S.y s i b) * S.E ((S.loc i : ℝ) + 1))
def lgB (s : Fin 33) : ℝ := 256 * ((∑ a, ∑ b, S.St s a b * S.G s a b) * S.E 256)
def lgC (s : Fin 33) : ℝ := ∑ j, (255 - (S.loc j : ℝ)) * ((∑ a, S.k s j a * ∑ b, S.G s a b * S.v s j b) * S.E (255 - (S.loc j : ℝ)))
def lgD (s : Fin 33) : ℝ := ∑ i, ∑ j, ((S.loc i : ℝ) - (S.loc j : ℝ)) * (S.qk s i s j * S.yv s i s j * S.W s i s j)

/-- A pair's term of the gradient of the log decay, but for the distance. -/
def X (s : Fin 33) (i : Fin 256) (t : Fin 33) (j : Fin 256) : ℝ := S.qk s i t j * S.yv s i t j * S.W s i t j

/-- The pairs of a later and an earlier chunk. -/
def XX (c : Fin 256 → Fin 256 → ℝ) (s t : Fin 33) : ℝ := ∑ i, ∑ j, c i j * S.X s i t j

theorem lgA_eq (s : Fin 33) : S.lgA s = ∑ t, if t < s then S.XX (fun i _ => (S.loc i : ℝ) + 1) s t else 0 := by
  unfold lgA XX
  conv_lhs => enter [2, i]; rw [S.St_both s, sum_mul, mul_sum]
  rw [sum_comm]
  refine sum_congr rfl fun t _ => ?_
  split_ifs with h
  · refine sum_congr rfl fun i _ => ?_
    rw [sum_mul, mul_sum]
    refine sum_congr rfl fun j _ => ?_
    unfold X; rw [S.W_lt h]; unfold qk yv; ring
  · simp

theorem lgC_eq (t : Fin 33) : S.lgC t = ∑ s, if t < s then S.XX (fun _ j => 255 - (S.loc j : ℝ)) s t else 0 := by
  unfold lgC XX
  conv_lhs => enter [2, i]; rw [S.G_both t, sum_mul, mul_sum]
  rw [sum_comm]
  refine sum_congr rfl fun s _ => ?_
  split_ifs with h
  · rw [sum_comm]
    refine sum_congr rfl fun j _ => ?_
    rw [sum_mul, mul_sum]
    refine sum_congr rfl fun i _ => ?_
    unfold X; rw [S.W_lt' h]; unfold qk yv; ring
  · simp

theorem lgD_eq (s : Fin 33) : S.lgD s = S.XX (fun i j => (S.loc i : ℝ) - (S.loc j : ℝ)) s s := rfl

/-- Three sums turned about. -/
theorem rot {ι : Type} [Fintype ι] (f : Fin 128 → Fin 128 → ι → ℝ) : (∑ a, ∑ b, ∑ s, f a b s) = ∑ s, ∑ a, ∑ b, f a b s := by
  rw [sum_congr rfl fun a _ => (sum_comm : (∑ b, ∑ s, f a b s) = ∑ s, ∑ b, f a b s)]
  exact sum_comm

theorem lgB_eq (u : Fin 33) : S.lgB u = ∑ s, ∑ t, if u < s ∧ t < u then S.XX (fun _ _ => 256) s t else 0 := by
  have h1 : (∑ a, ∑ b, S.St u a b * S.G u a b)
      = ∑ s : Fin 33, if u < s then ∑ i, S.E ((S.pos s i : ℝ) + 1 - 256 * ((u.val : ℝ) + 1)) * ∑ b, (∑ a, S.q s i a * S.St u a b) * S.y s i b else 0 := by
    unfold G
    simp only [mul_sum]
    have : ∀ a b, (∑ s : Fin 33, ∑ i, S.St u a b * (if u < s then S.E ((S.pos s i : ℝ) + 1 - 256 * ((u.val : ℝ) + 1)) * (S.y s i b * S.q s i a) else 0))
        = ∑ s : Fin 33, if u < s then ∑ i, S.E ((S.pos s i : ℝ) + 1 - 256 * ((u.val : ℝ) + 1)) * (S.q s i a * S.St u a b * S.y s i b) else 0 := fun a b => by
      refine sum_congr rfl fun s _ => ?_
      split_ifs with h
      · exact sum_congr rfl fun i _ => by ring
      · simp
    simp only [this]
    rw [rot]
    refine sum_congr rfl fun s _ => ?_
    split_ifs with h
    · rw [rot]
      refine sum_congr rfl fun i _ => ?_
      rw [sum_comm]
      refine sum_congr rfl fun b _ => ?_
      rw [sum_mul, mul_sum]
    · simp
  unfold lgB
  rw [h1, sum_mul, mul_sum]
  refine sum_congr rfl fun s _ => ?_
  by_cases hs : u < s
  · simp only [hs, if_true, true_and, S.St_both u]
    rw [sum_mul, mul_sum, sum_congr rfl fun i _ => (by rw [mul_sum, sum_mul, mul_sum] :
      256 * (S.E ((S.pos s i : ℝ) + 1 - 256 * ((u.val : ℝ) + 1)) * (∑ t : Fin 33, if t < u then ∑ j, S.E (256 * (u.val : ℝ) - 1 - (S.pos t j : ℝ)) * ((∑ a, S.q s i a * S.k t j a) * ∑ b, S.y s i b * S.v t j b) else 0) * S.E 256)
        = ∑ t : Fin 33, 256 * (S.E ((S.pos s i : ℝ) + 1 - 256 * ((u.val : ℝ) + 1)) * (if t < u then ∑ j, S.E (256 * (u.val : ℝ) - 1 - (S.pos t j : ℝ)) * ((∑ a, S.q s i a * S.k t j a) * ∑ b, S.y s i b * S.v t j b) else 0) * S.E 256)), sum_comm]
    refine sum_congr rfl fun t _ => ?_
    split_ifs with ht
    · unfold XX
      refine sum_congr rfl fun i _ => ?_
      rw [mul_sum, sum_mul, mul_sum]
      refine sum_congr rfl fun j _ => ?_
      unfold X
      rw [W, if_pos (S.pos_lt (ht.trans hs) i j).le,
        show (S.pos s i : ℝ) - (S.pos t j : ℝ) = ((S.pos s i : ℝ) + 1 - 256 * ((u.val : ℝ) + 1)) + (256 * (u.val : ℝ) - 1 - (S.pos t j : ℝ)) + 256 from by ring,
        ← E_mul, ← E_mul]
      unfold qk yv; ring
    · simp
  · simp [hs]

/-- The chunks strictly between two. -/
theorem between (s t : Fin 33) (x : ℝ) :
    (∑ u : Fin 33, if u < s ∧ t < u then x else 0) = if t < s then ((s.val : ℝ) - (t.val : ℝ) - 1) * x else 0 := by
  rw [← sum_filter, sum_const, nsmul_eq_mul]
  have hc : (univ.filter fun u : Fin 33 => u < s ∧ t < u) = Finset.Ioo t s := by
    ext u; simp [and_comm]
  rw [hc, Fin.card_Ioo]
  split_ifs with h
  · have : t.val + 1 ≤ s.val := h
    rw [Nat.sub_sub, Nat.cast_sub this]; push_cast; ring
  · have : s.val ≤ t.val := not_lt.1 h
    rw [show s.val - t.val - 1 = 0 by omega]; simp

/-- The chunks' terms of the gradient of the log decay add up to the sum over all pairs of rows. -/
theorem lg_eq : (∑ s, (S.lgA s + S.lgB s + S.lgC s + S.lgD s))
    = ∑ s, ∑ i, ∑ t, ∑ j, ((S.pos s i : ℝ) - (S.pos t j : ℝ)) * S.X s i t j := by
  have hR : (∑ s, ∑ i, ∑ t, ∑ j, ((S.pos s i : ℝ) - (S.pos t j : ℝ)) * S.X s i t j)
      = ∑ s, ∑ t, S.XX (fun i j => (S.pos s i : ℝ) - (S.pos t j : ℝ)) s t :=
    sum_congr rfl fun s _ => sum_comm
  have hB : (∑ u, S.lgB u) = ∑ s, ∑ t, if t < s then ((s.val : ℝ) - (t.val : ℝ) - 1) * S.XX (fun _ _ => 256) s t else 0 := by
    simp only [lgB_eq]
    rw [sum_comm]
    refine sum_congr rfl fun s _ => ?_
    rw [sum_comm]
    exact sum_congr rfl fun t _ => between s t _
  have hC : (∑ t, S.lgC t) = ∑ s, ∑ t, if t < s then S.XX (fun _ j => 255 - (S.loc j : ℝ)) s t else 0 := by
    simp only [lgC_eq]; exact sum_comm
  rw [hR, sum_add_distrib, sum_add_distrib, sum_add_distrib, hB, hC]
  simp only [lgA_eq, lgD_eq]
  rw [← sum_add_distrib, ← sum_add_distrib, ← sum_add_distrib]
  refine sum_congr rfl fun s _ => ?_
  rw [sum_upto (fun t => S.XX (fun i j => (S.pos s i : ℝ) - (S.pos t j : ℝ)) s t) s
    (fun t ht => by unfold XX X; simp only [S.W_gt ht]; simp), ← sum_add_distrib, ← sum_add_distrib]
  congr 1
  · refine sum_congr rfl fun t _ => ?_
    split_ifs with h
    · unfold XX
      rw [mul_sum, ← sum_add_distrib, ← sum_add_distrib]
      refine sum_congr rfl fun i _ => ?_
      rw [mul_sum, ← sum_add_distrib, ← sum_add_distrib]
      refine sum_congr rfl fun j _ => ?_
      unfold pos; push_cast; ring
    · simp
  · unfold XX
    refine sum_congr rfl fun i _ => sum_congr rfl fun j _ => ?_
    unfold pos; push_cast; ring

end Scan

end Cert.Retention

end
-- ==== Proof.HeadVals.lean ====
module

public import proofs.«01_k».proof.Proof.Heads
public import proofs.«01_k».proof.Proof.Sums
public import Idealize.ShloMosaic.Lib.Pipeline.ValueKit

@[expose] public section

set_option maxRecDepth 16384

noncomputable section

namespace Cert.KernelIdeal.Own

open Idealize.ShloMosaic Idealize.ShloMosaic.TcCoe
open Cert.KernelIdeal.Gen Cert.Retention

/-- What a direction computes from the place of a row in its chunk alone, at an index. -/
structure DirIs (D : Dir Ideal) (S : Scan) : Prop where
  mask : ∀ i j : Fin 256, D.mask (ix2 i j) = if S.loc j ≤ S.loc i then 1#1 else 0#1
  dpos : ∀ i j : Fin 256, D.dpos (ix2 i j) = ((max ((S.loc i : ℝ) - (S.loc j : ℝ)) 0 : ℝ) : EReal)
  kp : ∀ i : Fin 256, D.kp (ix2 i 0) = ((255 - (S.loc i : ℝ) : ℝ) : EReal)
  qp : ∀ i : Fin 256, D.qp (ix2 i 0) = (((S.loc i : ℝ) + 1 : ℝ) : EReal)

/-- A head's rows, states and log decay at chunk `s` of a scan, at an index. -/
structure HeadIs (H : Head Ideal) (S : Scan) (n : Fin 33) : Prop where
  q : ∀ (i : Fin 256) (a : Fin 128), H.q (ix2 i a) = (S.q n i a : EReal)
  k : ∀ (i : Fin 256) (a : Fin 128), H.k (ix2 i a) = (S.k n i a : EReal)
  v : ∀ (i : Fin 256) (a : Fin 128), H.v (ix2 i a) = (S.v n i a : EReal)
  dy : ∀ (i : Fin 256) (a : Fin 128), H.dy (ix2 i a) = (S.y n i a : EReal)
  s : ∀ a b : Fin 128, H.s (ix2 a b) = (S.St n a b : EReal)
  g : ∀ a b : Fin 128, H.g (ix2 a b) = (S.G n a b : EReal)
  lg : H.lg (ix2 0 0) = (S.lg : EReal)

/-- The word of 256 as a number. -/
theorem word_256 : Ideal.ofBits .f32 0x43800000#32 = ((256 : ℝ) : EReal) := by
  simp [Ideal.ofBits, Ideal.ieee, -EReal.coe_mul]; norm_num

/-- A real sum of finitely many terms, as an extended real. -/
theorem coe_sum {ι : Type} [Fintype ι] (f : ι → ℝ) : (∑ i, (f i : EReal)) = ((∑ i, f i : ℝ) : EReal) := by
  induction (Finset.univ : Finset ι) using Finset.cons_induction with
  | empty => simp
  | cons a t ha ih => rw [Finset.sum_cons, Finset.sum_cons, ih, EReal.coe_add]

/-- A choice between a real and zero. -/
theorem choose_coe (p : Prop) [Decidable p] (x y : EReal) : Scalar.select (if p then 1#1 else 0#1) x y = if p then x else y := by
  split_ifs <;> rfl

theorem ite_coe (p : Prop) [Decidable p] (x : ℝ) : (if p then (x : EReal) else 0) = ((if p then x else 0 : ℝ) : EReal) := by
  split_ifs <;> simp

section
variable {D : Dir Ideal} {H : Head Ideal} {S : Scan} {s : Fin 33} (hD : DirIs D S) (hH : HeadIs H S s)

include hD hH in
/-- The decay between the rows of a pair. -/
theorem eMat_at (i j : Fin 256) : eMat D H (ix2 i j) = (S.E (max ((S.loc i : ℝ) - (S.loc j : ℝ)) 0) : EReal) := by
  unfold eMat
  pointwise
  rw [hD.dpos, hH.lg, ← EReal.coe_mul, Ideal.exp_coe]; rfl

include hD hH in
/-- The same over the related pairs. -/
theorem dMat_at (i j : Fin 256) : dMat D H (ix2 i j) = (S.W s i s j : EReal) := by
  unfold dMat
  pointwise
  rw [hD.mask, choose_coe, eMat_at hD hH, ite_coe, S.W_self]
  congr 1
  split_ifs with h
  · have : (S.loc j : ℝ) ≤ S.loc i := by exact_mod_cast h
    rw [max_eq_left (by linarith)]
  · rfl

include hD hH in
/-- The decay from a row to the chunk's end. -/
theorem kW_at (i : Fin 256) : kW D H (ix2 i 0) = (S.E (255 - (S.loc i : ℝ)) : EReal) := by
  unfold kW
  pointwise
  rw [hD.kp, hH.lg, ← EReal.coe_mul, Ideal.exp_coe]; rfl

include hD hH in
/-- The decay from the chunk's beginning to a row. -/
theorem qW_at (i : Fin 256) : qW D H (ix2 i 0) = (S.E ((S.loc i : ℝ) + 1) : EReal) := by
  unfold qW
  pointwise
  rw [hD.qp, hH.lg, ← EReal.coe_mul, Ideal.exp_coe]; rfl

include hH in
/-- The decay over the whole chunk. -/
theorem gam_at : gam H (ix2 0 0) = (S.E 256 : EReal) := by
  unfold gam
  pointwise
  rw [hH.lg, word_256, ← EReal.coe_mul, Ideal.exp_coe]
  rfl

include hH in
/-- The scores. -/
theorem s0_at (i j : Fin 256) : s0 H (ix2 i j) = (S.qk s i s j : EReal) := by
  unfold s0 qB kB
  pointwise
  simp only [hH.q, hH.k, ← EReal.coe_mul, coe_sum]; rfl

include hH in
/-- The pairs' cotangents. -/
theorem dS_at (i j : Fin 256) : dS H (ix2 i j) = (S.yv s i s j : EReal) := by
  unfold dS vB
  pointwise
  simp only [hH.dy, hH.v, ← EReal.coe_mul, coe_sum]; rfl

include hD hH in
/-- The pairs' cotangents, decayed. -/
theorem dSm_at (i j : Fin 256) : dSm D H (ix2 i j) = (S.yv s i s j * S.W s i s j : ℝ) := by
  unfold dSm
  pointwise
  rw [dS_at hH, dMat_at hD hH, EReal.coe_mul]

include hD hH in
/-- The cotangent decayed back to the chunk's beginning. -/
theorem dyW_at (i : Fin 256) (b : Fin 128) : dyW D H (ix2 i b) = (S.y s i b * S.E ((S.loc i : ℝ) + 1) : ℝ) := by
  unfold dyW
  pointwise
  rw [hH.dy, qW_at hD hH, EReal.coe_mul]

include hH in
/-- The carried gradient against the values. -/
theorem gV_at (i : Fin 256) (a : Fin 128) : gV H (ix2 i a) = ((∑ b, S.G s a b * S.v s i b : ℝ) : EReal) := by
  unfold gV vB
  pointwise
  simp only [hH.g, hH.v, ← EReal.coe_mul, coe_sum]

include hD hH in
/-- The gradient of a query is the sum over all rows. -/
theorem dqH_at (i : Fin 256) (a : Fin 128) : dqH D H (ix2 i a) = ((∑ t, ∑ j, S.yv s i t j * S.W s i t j * S.k t j a : ℝ) : EReal) := by
  rw [← S.dq_eq]
  unfold dqH sB kB
  pointwise
  simp only [dyW_at hD hH, dSm_at hD hH, hH.s, hH.k, ← EReal.coe_mul, coe_sum, ← EReal.coe_add]

include hD hH in
/-- The gradient of a key is the sum over all rows. -/
theorem dkH_at (i : Fin 256) (a : Fin 128) : dkH D H (ix2 i a) = ((∑ t, ∑ j, S.yv t j s i * S.W t j s i * S.q t j a : ℝ) : EReal) := by
  rw [← S.dk_eq]
  unfold dkH qB
  pointwise
  simp only [dSm_at hD hH, gV_at hH, kW_at hD hH, hH.q, ← EReal.coe_mul, coe_sum, ← EReal.coe_add]

include hD hH in
/-- The gradient of a value is the sum over all rows. -/
theorem dvH_at (i : Fin 256) (b : Fin 128) : dvH D H (ix2 i b) = ((∑ t, ∑ j, S.y t j b * (S.qk t j s i * S.W t j s i) : ℝ) : EReal) := by
  rw [← S.dv_eq]
  unfold dvH sD kD
  pointwise
  simp only [s0_at hH, dMat_at hD hH, kW_at hD hH, hH.dy, hH.g, hH.k, ← EReal.coe_mul, coe_sum, ← EReal.coe_add]

include hD hH in
/-- The gradient of the state entering the chunk is what the chunk before carries. -/
theorem gNext_at (u : Fin 33) (hu : u.val + 1 = s.val) (a b : Fin 128) : gNext D H (ix2 a b) = (S.G u a b : EReal) := by
  rw [← S.G_step s u hu]
  unfold gNext qB
  pointwise
  simp only [dyW_at hD hH, gam_at hH, hH.q, hH.g, ← EReal.coe_mul, coe_sum, ← EReal.coe_add]

include hD hH in
theorem lgA_at : lgA D H (ix2 0 0) = (S.lgA s : EReal) := by
  unfold lgA qB sB
  pointwise
  simp only [hD.qp, qW_at hD hH, hH.q, hH.s, hH.dy, ← EReal.coe_mul, coe_sum]; rfl

include hH in
theorem lgB_at : lgB H (ix2 0 0) = (S.lgB s : EReal) := by
  unfold lgB
  pointwise
  simp only [gam_at hH, hH.s, hH.g, ← EReal.coe_mul, coe_sum]
  rw [word_256, ← EReal.coe_mul]
  rfl

include hD hH in
theorem lgC_at : lgC D H (ix2 0 0) = (S.lgC s : EReal) := by
  unfold lgC
  pointwise
  simp only [hD.kp, kW_at hD hH, gV_at hH, hH.k, ← EReal.coe_mul, coe_sum]; rfl

include hD hH in
theorem lgD_at : lgD D H (ix2 0 0) = (S.lgD s : EReal) := by
  unfold lgD
  pointwise
  simp only [hD.mask, choose_coe, hD.dpos, s0_at hH, dS_at hH, eMat_at hD hH, ← EReal.coe_mul, ite_coe, coe_sum]
  congr 1
  unfold Scan.lgD
  refine Finset.sum_congr rfl fun i _ => Finset.sum_congr rfl fun j _ => ?_
  rw [S.W_self]
  split_ifs with h
  · have : (S.loc j : ℝ) ≤ S.loc i := by exact_mod_cast h
    rw [max_eq_left (by linarith)]
  · simp

end

end Cert.KernelIdeal.Own

end
-- ==== Proof.DirVals.lean ====
module

public import proofs.«01_k».proof.Proof.HeadVals

@[expose] public section

set_option maxRecDepth 16384

noncomputable section

namespace Cert.KernelIdeal.Own

open Idealize.ShloMosaic Idealize.ShloMosaic.TcCoe
open Cert.KernelIdeal.Gen Cert.Retention

/-- The word of 255 as a number. -/
theorem word_255 : Ideal.ofBits .f32 0x437F0000#32 = ((255 : ℝ) : EReal) := by
  simp [Ideal.ofBits, Ideal.ieee, -EReal.coe_mul]; norm_num

/-- A small natural's word as a number. -/
theorem sitofp_small (n : ℕ) (h : n < 2 ^ 31) : FloatOps.sitofp (F := Ideal) .f32 (BitVec.ofNat 32 n) = ((n : ℝ) : EReal) := by
  show (((BitVec.ofNat 32 n).toInt : ℝ) : EReal) = _
  rw [WordCmp.toInt_ofNat_of_lt h]; simp

/-- The difference of two small naturals' words, as an integer. -/
theorem toInt_subi_small (i j : ℕ) (hi : i < 2 ^ 30) (hj : j < 2 ^ 30) :
    (IntOp.subi (BitVec.ofNat 32 i) (BitVec.ofNat 32 j)).toInt = (i : ℤ) - (j : ℤ) := by
  unfold IntOp.subi
  rw [BitVec.toInt_sub, WordCmp.toInt_ofNat_of_lt (by omega), WordCmp.toInt_ofNat_of_lt (by omega)]
  exact Int.bmod_eq_of_le (by omega) (by omega)

/-- Whether one row stands at or after another, from the difference of their words. -/
theorem sge_small (i j : ℕ) (hi : i < 2 ^ 30) (hj : j < 2 ^ 30) :
    IntOp.cmpi .sge (IntOp.subi (BitVec.ofNat 32 i) (BitVec.ofNat 32 j)) 0#32 = if j ≤ i then 1#1 else 0#1 := by
  rw [WordCmp.cmpi_sge_eq, toInt_subi_small i j hi hj]
  by_cases h : j ≤ i
  · rw [if_pos h, decide_eq_true (by simpa using h)]; rfl
  · rw [if_neg h, decide_eq_false (by simpa using h)]; rfl

/-- The distance from one row to another, none if the second stands after. -/
theorem maxsi_small (i j : ℕ) (hi : i < 2 ^ 30) (hj : j < 2 ^ 30) :
    FloatOps.sitofp (F := Ideal) .f32 (IntOp.maxsi (IntOp.subi (BitVec.ofNat 32 i) (BitVec.ofNat 32 j)) 0#32) = ((max ((i : ℝ) - (j : ℝ)) 0 : ℝ) : EReal) := by
  show (((IntOp.maxsi (IntOp.subi (BitVec.ofNat 32 i) (BitVec.ofNat 32 j)) 0#32).toInt : ℝ) : EReal) = _
  congr 1
  have e := toInt_subi_small i j hi hj
  unfold IntOp.maxsi
  simp only [BitVec.slt, e, BitVec.toInt_zero, decide_eq_true_eq]
  by_cases h : (0 : ℤ) < i - j
  · have h' : (j : ℝ) ≤ i := by exact_mod_cast (by omega : j ≤ i)
    rw [if_pos h, e, max_eq_left (by linarith)]; push_cast; rfl
  · have h' : (i : ℝ) ≤ j := by exact_mod_cast (by omega : i ≤ j)
    rw [if_neg h, max_eq_right (by linarith)]; simp

theorem dirF_is (S : Scan) (hS : ∀ i, S.loc i = i.val) : DirIs (dirF (F := Ideal)) S where
  mask i j := by
    unfold dirF diffF
    pointwise
    simp only [hS]
    exact sge_small _ _ (by omega) (by omega)
  dpos i j := by
    unfold dirF diffF
    pointwise
    simp only [hS]
    exact maxsi_small _ _ (by omega) (by omega)
  kp i := by
    unfold dirF posRow
    pointwise
    rw [hS, word_255, sitofp_small _ (by omega), ← EReal.coe_sub]
  qp i := by
    unfold dirF posRow
    pointwise
    rw [hS, sitofp_small _ (by omega), ← EReal.coe_one, ← EReal.coe_add]

/-- The backward direction's rows stand in their chunk in the opposite order. -/
theorem dirB_is (S : Scan) (hS : ∀ i, S.loc i = 255 - i.val) : DirIs (dirB (F := Ideal)) S where
  mask i j := by
    unfold dirB diffB
    pointwise
    rw [sge_small _ _ (by omega) (by omega), hS, hS]
    have := i.isLt; have := j.isLt
    congr 1; exact propext (by omega)
  dpos i j := by
    unfold dirB diffB
    pointwise
    rw [maxsi_small _ _ (by omega) (by omega), hS, hS, Nat.cast_sub (by omega), Nat.cast_sub (by omega)]
    congr 2; push_cast; ring
  kp i := by
    unfold dirB posRow
    pointwise
    rw [hS, sitofp_small _ (by omega), Nat.cast_sub (by omega)]
    congr 1; push_cast; ring
  qp i := by
    unfold dirB posRow
    pointwise
    rw [hS, word_256, sitofp_small _ (by omega), ← EReal.coe_sub, Nat.cast_sub (by omega)]
    congr 1; push_cast; ring

end Cert.KernelIdeal.Own
-- ==== Proof.Rows.lean ====
module

public import proofs.«01_k».proof.Proof.Sums

@[expose] public section

noncomputable section

namespace Cert.Retention

open Finset

/-- The block of rows that a direction's chunk is: the backward scan takes the first block first and then the others from the end. -/
def blkNo (d : Fin 2) (s : Fin 33) : Fin 33 := if d = 0 then s else if h : s.val = 0 then s else ⟨33 - s.val, by omega⟩

theorem blkNo_blkNo (d : Fin 2) (s : Fin 33) : blkNo d (blkNo d s) = s := by
  unfold blkNo
  split_ifs with h h1 h2 h3 <;> first | rfl | (apply Fin.ext; simp at *; omega)

/-- The row at one place of a chunk's block. -/
def row (d : Fin 2) (s : Fin 33) (i : Fin 256) : Fin 8448 := ⟨(blkNo d s).val * 256 + i.val, by omega⟩

/-- Where a direction's scan meets a row of a block, and a row of all. -/
def locOf (d : Fin 2) (i : Fin 256) : ℕ := if d = 0 then i.val else 255 - i.val
def place (d : Fin 2) (x : Fin 8448) : ℕ := if d = 0 then x.val else if x.val < 256 then 255 - x.val else 8703 - x.val

theorem place_row (d : Fin 2) (s : Fin 33) (i : Fin 256) : place d (row d s i) = 256 * s.val + locOf d i := by
  have hs := s.isLt
  have hi := i.isLt
  by_cases h : d = 0
  · simp only [place, row, locOf, blkNo, if_pos h]; omega
  · by_cases h1 : s.val = 0
    · simp only [place, row, locOf, blkNo, if_neg h, dif_pos h1]
      rw [if_pos (by omega)]; omega
    · simp only [place, row, locOf, blkNo, if_neg h, dif_neg h1]
      rw [if_neg (by omega)]; omega

theorem place_lt (d : Fin 2) (x : Fin 8448) : place d x < 8448 := by
  unfold place
  split_ifs <;> omega

/-- Every row, block by block. -/
theorem exists_row (d : Fin 2) (x : Fin 8448) : ∃ s i, x = row d s i := by
  refine ⟨blkNo d ⟨x.val / 256, by omega⟩, ⟨x.val % 256, by omega⟩, ?_⟩
  unfold row
  simp only [blkNo_blkNo]
  apply Fin.ext
  simp only
  omega

/-- A sum over all rows, chunk by chunk. -/
theorem sum_rows (d : Fin 2) (f : Fin 8448 → ℝ) : ∑ x, f x = ∑ s, ∑ i, f (row d s i) := by
  have e : ∑ x, f x = ∑ s : Fin 33, ∑ i : Fin 256, f ⟨s.val * 256 + i.val, by omega⟩ := by
    rw [← Fintype.sum_prod_type' (f := fun (s : Fin 33) (i : Fin 256) => f ⟨s.val * 256 + i.val, by omega⟩)]
    refine (Fintype.sum_bijective (fun p : Fin 33 × Fin 256 => (⟨p.1.val * 256 + p.2.val, by omega⟩ : Fin 8448)) ?_ _ _ fun p => rfl).symm
    constructor
    · rintro ⟨s, i⟩ ⟨t, j⟩ h
      have := congrArg Fin.val h
      simp only at this
      ext <;> simp only <;> omega
    · intro x
      exact ⟨(⟨x.val / 256, by omega⟩, ⟨x.val % 256, by omega⟩), by apply Fin.ext; simp only; omega⟩
  rw [e]
  exact (Fintype.sum_bijective (blkNo d) (Function.Involutive.bijective (blkNo_blkNo d)) _ _ fun s => rfl).symm

/-- The place of a head's column among the columns of all heads. -/
def col (h : Fin 4) (a : Fin 128) : Fin 512 := ⟨h.val * 128 + a.val, by omega⟩

/-- What the gradients are taken of: the rows of the queries, the keys, the values and the cotangent, and the log decays, over the reals. -/
structure Data where
  Q : Fin 8448 → Fin 512 → ℝ
  K : Fin 8448 → Fin 512 → ℝ
  V : Fin 8448 → Fin 512 → ℝ
  Y : Fin 8448 → Fin 512 → ℝ
  L : Fin 2 → Fin 4 → ℝ

namespace Data
variable (A : Data)

/-- The decay between two rows, the later one first. -/
def w (d : Fin 2) (h : Fin 4) (x x' : Fin 8448) : ℝ :=
  if place d x' ≤ place d x then Real.exp (((place d x : ℝ) - (place d x' : ℝ)) * -Real.exp (A.L d h)) else 0

def qk (h : Fin 4) (x x' : Fin 8448) : ℝ := ∑ a, A.Q x (col h a) * A.K x' (col h a)
def yv (h : Fin 4) (x x' : Fin 8448) : ℝ := ∑ b, A.Y x (col h b) * A.V x' (col h b)

/-- The gradients of the queries, the keys, the values and the log decays of one direction. -/
def dq (d : Fin 2) (x : Fin 8448) (h : Fin 4) (a : Fin 128) : ℝ := ∑ x', A.yv h x x' * A.w d h x x' * A.K x' (col h a)
def dk (d : Fin 2) (x : Fin 8448) (h : Fin 4) (a : Fin 128) : ℝ := ∑ x', A.yv h x' x * A.w d h x' x * A.Q x' (col h a)
def dv (d : Fin 2) (x : Fin 8448) (h : Fin 4) (b : Fin 128) : ℝ := ∑ x', A.Y x' (col h b) * (A.qk h x' x * A.w d h x' x)
def dl (d : Fin 2) (h : Fin 4) : ℝ :=
  -(∑ x, ∑ x', ((place d x : ℝ) - (place d x' : ℝ)) * (A.qk h x x' * A.yv h x x' * A.w d h x x')) * Real.exp (A.L d h)

/-- One head's rows as one direction scans them. -/
def scan (d : Fin 2) (h : Fin 4) : Scan where
  loc := locOf d
  le i := by unfold locOf; split_ifs <;> omega
  lg := -Real.exp (A.L d h)
  q s i a := A.Q (row d s i) (col h a)
  k s i a := A.K (row d s i) (col h a)
  v s i a := A.V (row d s i) (col h a)
  y s i a := A.Y (row d s i) (col h a)

variable (d : Fin 2) (h : Fin 4)

theorem pos_scan (s : Fin 33) (i : Fin 256) : (A.scan d h).pos s i = place d (row d s i) := (place_row d s i).symm

theorem W_scan (s : Fin 33) (i : Fin 256) (t : Fin 33) (j : Fin 256) : (A.scan d h).W s i t j = A.w d h (row d s i) (row d t j) := by
  unfold Scan.W
  rw [pos_scan, pos_scan]; rfl

theorem dq_scan (s : Fin 33) (i : Fin 256) (a : Fin 128) :
    (∑ t, ∑ j, (A.scan d h).yv s i t j * (A.scan d h).W s i t j * (A.scan d h).k t j a) = A.dq d (row d s i) h a := by
  unfold dq
  rw [sum_rows d]
  simp only [W_scan]; rfl

theorem dk_scan (s : Fin 33) (i : Fin 256) (a : Fin 128) :
    (∑ t, ∑ j, (A.scan d h).yv t j s i * (A.scan d h).W t j s i * (A.scan d h).q t j a) = A.dk d (row d s i) h a := by
  unfold dk
  rw [sum_rows d]
  simp only [W_scan]; rfl

theorem dv_scan (s : Fin 33) (i : Fin 256) (b : Fin 128) :
    (∑ t, ∑ j, (A.scan d h).y t j b * ((A.scan d h).qk t j s i * (A.scan d h).W t j s i)) = A.dv d (row d s i) h b := by
  unfold dv
  rw [sum_rows d]
  simp only [W_scan]; rfl

theorem dl_scan : -(∑ s, ((A.scan d h).lgA s + (A.scan d h).lgB s + (A.scan d h).lgC s + (A.scan d h).lgD s)) * Real.exp (A.L d h) = A.dl d h := by
  rw [(A.scan d h).lg_eq]
  unfold dl
  rw [sum_rows d]
  simp only [sum_rows d (fun x' => _), Scan.X, W_scan, pos_scan]; rfl

/-- The state entering a chunk, as the sum over all rows that lie before it. -/
theorem St_scan (s : Fin 33) (a b : Fin 128) : (A.scan d h).St s a b
    = ∑ x, if place d x + 1 ≤ 256 * s.val then Real.exp (max ((256 * s.val : ℕ) - ((place d x + 1 : ℕ) : ℝ)) 0 * -Real.exp (A.L d h)) * A.K x (col h a) * A.V x (col h b) else 0 := by
  rw [sum_rows d]
  refine sum_congr rfl fun t _ => sum_congr rfl fun j _ => ?_
  have hl := (A.scan d h).le j
  have hp := pos_scan A d h t j
  have e : t < s ↔ place d (row d t j) + 1 ≤ 256 * s.val := by
    rw [← hp]; unfold Scan.pos
    rw [Fin.lt_def]; constructor <;> intro _ <;> omega
  by_cases c : t < s
  · rw [if_pos c, if_pos (e.1 c)]
    have : ((place d (row d t j) + 1 : ℕ) : ℝ) ≤ (256 * s.val : ℕ) := by exact_mod_cast e.1 c
    rw [max_eq_left (by linarith), hp]
    unfold Scan.E
    congr 3
    show _ * -Real.exp (A.L d h) = _
    congr 1
    push_cast; ring
  · rw [if_neg c, if_neg (fun g => c (e.2 g))]

end Data
end Cert.Retention
-- ==== Proof.HostVals.lean ====
module

public import proofs.«01_k».proof.Proof.DirVals
public import proofs.«01_k».proof.Proof.Rows
public import proofs.«01_k».proof.Proof.Whole
public import Idealize.ShloMosaic.Lib.StableHlo.RunRead

@[expose] public section

set_option maxRecDepth 16384

noncomputable section

namespace Cert.KernelIdeal.Own

open Idealize.ShloMosaic Idealize.ShloMosaic.TcCoe Idealize.ShloMosaic.StableHlo
open Cert.KernelIdeal.Gen Cert.Retention
variable (m : (ℓ : Loc nD τ sig) → Buf (Elt Ideal) ℓ)
/-- The eight log decays followed by zeros. -/
def catLd (a : (⟨S8, .f32⟩ : BufTy).Contents (Elt Ideal)) (b : (⟨S120, .f32⟩ : BufTy).Contents (Elt Ideal)) : (⟨S128, .f32⟩ : BufTy).Contents (Elt Ideal) :=
  concatenate S128 0 [⟨S8, a⟩, ⟨S120, b⟩] concatenates_S8_S120_S128_d0

theorem catLd_eq : (fun (a : (⟨S8, .f32⟩ : BufTy).Contents (Elt Ideal)) (b : (⟨S120, .f32⟩ : BufTy).Contents (Elt Ideal)) =>
    concatenate S128 0 [⟨S8, a⟩, ⟨S120, b⟩] concatenates_S8_S120_S128_d0) = catLd := rfl

/-- Two stretches of positions one behind the other. -/
def catPos (a : (⟨S256, .i32⟩ : BufTy).Contents (Elt Ideal)) (b : (⟨S8192, .i32⟩ : BufTy).Contents (Elt Ideal)) : (⟨S8448, .i32⟩ : BufTy).Contents (Elt Ideal) :=
  concatenate S8448 0 [⟨S256, a⟩, ⟨S8192, b⟩] concatenates_S256_S8192_S8448_d0

theorem catPos_eq : (fun (a : (⟨S256, .i32⟩ : BufTy).Contents (Elt Ideal)) (b : (⟨S8192, .i32⟩ : BufTy).Contents (Elt Ideal)) =>
    concatenate S8448 0 [⟨S256, a⟩, ⟨S8192, b⟩] concatenates_S256_S8192_S8448_d0) = catPos := rfl

/-- The states every chunk begins with, of how long ago each position lies before it and the heads' rates. -/
def statesOf (ago : (⟨S33x8448, .i32⟩ : BufTy).Contents (Elt Ideal)) (l : (⟨S4, .f32⟩ : BufTy).Contents (Elt Ideal))
    (k v : (⟨S8448x512, .f32⟩ : BufTy).Contents (Elt Ideal)) : (⟨S33x4x128x128, .f32⟩ : BufTy).Contents (Elt Ideal) :=
  transpose S33x4x128x128 [1, 0, 2, 3] (Host.dotGeneral (F := Ideal) (φ₁ := .f32) (φ₂ := .f32) dot_S4x33x8448x128_S4x8448x128_S4x33x128x128_2_1_13_2_0_0 none
    (mulf
      (broadcastInDim S4x33x8448x128 ![0, 1, 2, 3] bcast_S4x33x8448x1_S4x33x8448x128_0_1_2_3 (broadcastInDim S4x33x8448x1 ![0, 1, 2] bcast_S4x33x8448_S4x33x8448x1_0_1_2
        (select (broadcastInDim S4x33x8448 ![0, 1, 2] bcast_S1x33x8448_S4x33x8448_0_1_2 (broadcastInDim S1x33x8448 ![1, 2] bcast_S33x8448_S1x33x8448_1_2 (cmpi .sge ago (broadcastInDim S33x8448 ![] bcast_S_S33x8448 (constantI S_ 32 0#32)))))
          (Host.exp (F := Ideal) (φ := .f32) (mulf
            (broadcastInDim S4x33x8448 ![0, 1, 2] bcast_S1x33x8448_S4x33x8448_0_1_2 (broadcastInDim S1x33x8448 ![1, 2] bcast_S33x8448_S1x33x8448_1_2 (sitofp .f32 (maxsi ago (broadcastInDim S33x8448 ![] bcast_S_S33x8448 (constantI S_ 32 0#32))))))
            (broadcastInDim S4x33x8448 ![0, 1, 2] bcast_S4x1x1_S4x33x8448_0_1_2 (broadcastInDim S4x1x1 ![0] bcast_S4_S4x1x1_0 l))))
          (broadcastInDim S4x33x8448 ![] bcast_S_S4x33x8448 (constant S_ .f32 0x00000000#32)))))
      (broadcastInDim S4x33x8448x128 ![0, 1, 2, 3] bcast_S4x1x8448x128_S4x33x8448x128_0_1_2_3 (broadcastInDim S4x1x8448x128 ![0, 2, 3] bcast_S4x8448x128_S4x1x8448x128_0_2_3
        (transpose S4x8448x128 [1, 0, 2] (shapeCast S8448x4x128 k shapeCasts_S8448x512_S8448x4x128) transposes_S8448x4x128_S4x8448x128_1_0_2))))
    (transpose S4x8448x128 [1, 0, 2] (shapeCast S8448x4x128 v shapeCasts_S8448x512_S8448x4x128) transposes_S8448x4x128_S4x8448x128_1_0_2))
    transposes_S4x33x128x128_S33x4x128x128_1_0_2_3

/-- An entry of the states: the sum over the rows that lie before the chunk. -/
theorem statesOf_at (ago : (⟨S33x8448, .i32⟩ : BufTy).Contents (Elt Ideal)) (l : (⟨S4, .f32⟩ : BufTy).Contents (Elt Ideal))
    (k v : (⟨S8448x512, .f32⟩ : BufTy).Contents (Elt Ideal)) (s : Fin 33) (h : Fin 4) (a b : Fin 128) : statesOf ago l k v (ix4 s h a b)
      = ∑ x : Fin 8448, Scalar.select (IntOp.cmpi .sge (ago (ix2 s x)) 0#32)
        (Ideal.exp (FloatOps.sitofp (F := Ideal) .f32 (IntOp.maxsi (ago (ix2 s x)) 0#32) * (l (ix1 h) : EReal)) * (k (ix2 x (col h a)) : EReal) * (v (ix2 x (col h b)) : EReal)) 0 := by
  unfold statesOf
  pointwise
  rfl

/-- The states that the host leaves are those that enter the scan's chunks. -/
theorem statesOf_is (A : Data) (d : Fin 2) (h : Fin 4) (ago : (⟨S33x8448, .i32⟩ : BufTy).Contents (Elt Ideal)) (l : (⟨S4, .f32⟩ : BufTy).Contents (Elt Ideal))
    (k v : (⟨S8448x512, .f32⟩ : BufTy).Contents (Elt Ideal)) (n s : Fin 33)
    (hago : ∀ x, ago (ix2 n x) = IntOp.subi (BitVec.ofNat 32 (256 * s.val)) (BitVec.ofNat 32 (place d x + 1)))
    (hl : l (ix1 h) = ((-Real.exp (A.L d h) : ℝ) : EReal)) (hk : ∀ x j, k (ix2 x j) = (A.K x j : EReal)) (hv : ∀ x j, v (ix2 x j) = (A.V x j : EReal))
    (a b : Fin 128) : statesOf ago l k v (ix4 n h a b) = ((A.scan d h).St s a b : EReal) := by
  rw [statesOf_at, A.St_scan d h s a b, ← coe_sum]
  refine Finset.sum_congr rfl fun x _ => ?_
  have hp := place_lt d x
  have hs := s.isLt
  rw [hago, sge_small _ _ (by omega) (by omega), maxsi_small _ _ (by omega) (by omega), choose_coe, hl, hk, hv, ← EReal.coe_mul, Ideal.exp_coe,
    ← EReal.coe_mul, ← EReal.coe_mul, ite_coe]

/-- How long before a chunk's first row each row lies, less one: the forward scan's chunks. -/
def agoF : (⟨S33x8448, .i32⟩ : BufTy).Contents (Elt Ideal) :=
  subi (broadcastInDim S33x8448 ![0, 1] bcast_S33x1_S33x8448_0_1 (subi (broadcastInDim S33x1 ![0] bcast_S33_S33x1_0 (muli (broadcastInDim S33 ![] bcast_S_S33 (constantI S_ 32 256#32)) (iotaInDim S33 32 0)))
      (broadcastInDim S33x1 ![] bcast_S_S33x1 (constantI S_ 32 1#32))))
    (broadcastInDim S33x8448 ![0, 1] bcast_S1x8448_S33x8448_0_1 (broadcastInDim S1x8448 ![1] bcast_S8448_S1x8448_1 (iotaInDim S8448 32 0)))

/-- The same for the backward scan's chunks. -/
def agoB : (⟨S33x8448, .i32⟩ : BufTy).Contents (Elt Ideal) :=
  subi (broadcastInDim S33x8448 ![0, 1] bcast_S33x1_S33x8448_0_1 (subi (broadcastInDim S33x1 ![0] bcast_S33_S33x1_0 (muli (broadcastInDim S33 ![] bcast_S_S33 (constantI S_ 32 256#32))
        (select (cmpi .slt (iotaInDim S33 32 0) (broadcastInDim S33 ![] bcast_S_S33 (constantI S_ 32 1#32)))
          (subi (broadcastInDim S33 ![] bcast_S_S33 (constantI S_ 32 0#32)) (iotaInDim S33 32 0))
          (subi (broadcastInDim S33 ![] bcast_S_S33 (constantI S_ 32 32#32)) (subi (iotaInDim S33 32 0) (broadcastInDim S33 ![] bcast_S_S33 (constantI S_ 32 1#32)))))))
      (broadcastInDim S33x1 ![] bcast_S_S33x1 (constantI S_ 32 1#32))))
    (broadcastInDim S33x8448 ![0, 1] bcast_S1x8448_S33x8448_0_1 (broadcastInDim S1x8448 ![1] bcast_S8448_S1x8448_1
      (catPos (Host.reverse [0] (extractStridedSlice S256 ![0] (iotaInDim S8448 32 0) slices_S8448_S256_0))
        (Host.reverse [0] (extractStridedSlice S8192 ![256] (iotaInDim S8448 32 0) slices_S8448_S8192_256)))))

/-- A chunk's first row, less one, less a row's place. -/
theorem sub_one_sub (n p : ℕ) : IntOp.subi (IntOp.subi (BitVec.ofNat 32 n) 1#32) (BitVec.ofNat 32 p) = IntOp.subi (BitVec.ofNat 32 n) (BitVec.ofNat 32 (p + 1)) := by
  unfold IntOp.subi
  rw [← BitVec.ofNat_add_ofNat, BitVec.sub_sub, BitVec.add_comm]

/-- The words of the chunks' first rows. -/
theorem first_row : ∀ s : Fin 33, IntOp.muli (256#32) (BitVec.ofNat 32 s.val) = BitVec.ofNat 32 (256 * s.val) := by decide +kernel
theorem first_row_B : ∀ s : Fin 33, IntOp.muli (256#32) (Scalar.select (IntOp.cmpi CmpIPredicate.slt (BitVec.ofNat 32 s.val) 1#32)
      (IntOp.subi (0#32) (BitVec.ofNat 32 s.val)) (IntOp.subi (32#32) (IntOp.subi (BitVec.ofNat 32 s.val) 1#32))) = BitVec.ofNat 32 (256 * (blkNo 1 s).val) := by
  decide +kernel

theorem agoF_at (s : Fin 33) (x : Fin 8448) : agoF (ix2 s x) = IntOp.subi (BitVec.ofNat 32 (256 * s.val)) (BitVec.ofNat 32 (place 0 x + 1)) := by
  unfold agoF
  pointwise
  rw [first_row, sub_one_sub]; rfl

/-- The places at which the backward scan meets the rows. -/
theorem catPos_at (x : Fin 8448) : (catPos (Host.reverse [0] (extractStridedSlice S256 ![0] (iotaInDim S8448 32 0) slices_S8448_S256_0))
        (Host.reverse [0] (extractStridedSlice S8192 ![256] (iotaInDim S8448 32 0) slices_S8448_S8192_256))) (ix1 x) = BitVec.ofNat 32 (place 1 x) := by
  unfold catPos
  pointwise
  unfold place
  rw [if_neg (by decide : ¬(1 : Fin 2) = 0)]
  by_cases h : x.val < 256
  · rw [dif_pos h, if_pos h]
    exact Eq.trans (b := BitVec.ofNat 32 (256 - (x.val + 1))) rfl (congrArg _ (by omega))
  · rw [dif_neg h, if_neg h]
    exact Eq.trans (b := BitVec.ofNat 32 (256 + (8192 - (x.val - 256 + 1)))) rfl (congrArg _ (by omega))

theorem agoB_at (s : Fin 33) (x : Fin 8448) : agoB (ix2 (blkNo 1 s) x) = IntOp.subi (BitVec.ofNat 32 (256 * s.val)) (BitVec.ofNat 32 (place 1 x + 1)) := by
  have h := catPos_at x
  unfold agoB
  generalize catPos _ _ = p at h ⊢
  pointwise
  rw [first_row_B, blkNo_blkNo, h, sub_one_sub]

/-- The rates of one direction's heads. -/
def ratesF (l : (⟨S2x4, .f32⟩ : BufTy).Contents (Elt Ideal)) : (⟨S4, .f32⟩ : BufTy).Contents (Elt Ideal) :=
  Host.negf (F := Ideal) (φ := .f32) (Host.exp (F := Ideal) (φ := .f32) (shapeCast S4 (extractStridedSlice S1x4 ![0, 0] l slices_S2x4_S1x4_0_0) shapeCasts_S1x4_S4))
def ratesB (l : (⟨S2x4, .f32⟩ : BufTy).Contents (Elt Ideal)) : (⟨S4, .f32⟩ : BufTy).Contents (Elt Ideal) :=
  Host.negf (F := Ideal) (φ := .f32) (Host.exp (F := Ideal) (φ := .f32) (shapeCast S4 (extractStridedSlice S1x4 ![1, 0] l slices_S2x4_S1x4_1_0) shapeCasts_S1x4_S4))

theorem ratesF_at (l : (⟨S2x4, .f32⟩ : BufTy).Contents (Elt Ideal)) (h : Fin 4) : ratesF l (ix1 h) = - Ideal.exp (l (ix2 0 h)) := by
  unfold ratesF
  pointwise
theorem ratesB_at (l : (⟨S2x4, .f32⟩ : BufTy).Contents (Elt Ideal)) (h : Fin 4) : ratesB l (ix1 h) = - Ideal.exp (l (ix2 1 h)) := by
  unfold ratesB
  pointwise

set_option maxHeartbeats 2000000 in
/-- The padded row of log decays, as the host leaves it. -/
theorem logs_at (c : Dev nD) (l : Fin 128) : V m c main_v96 (ix2 0 l)
    = (if h : l.val < 8 then m (c, Proc.tc.devRef main_arg3) (ix2 ⟨l.val / 4, by omega⟩ ⟨l.val % 4, by omega⟩) else (0 : EReal)) := by
  dsimp only [V, List.flatten]
  simp only [hostOps0, hostOps0_1, hostOps0_2, hostOps0_3, hostOps0_4, hostOps0_5, hostOps0_6, List.append, List.cons_append, List.nil_append, List.append_nil, catLd_eq, catPos_eq]
  after_reads_simp
  unfold catLd
  pointwise

set_option maxHeartbeats 2000000 in
/-- The states of the forward scan, as the host leaves them. -/
theorem statesF_eq (c : Dev nD) : V m c main_v39 = statesOf agoF (ratesF (m (c, Proc.tc.devRef main_arg3))) (m (c, Proc.tc.devRef main_arg1))
    (extractStridedSlice S8448x512 ![0, 6144] (m (c, Proc.tc.devRef main_arg2)) slices_S8448x7680_S8448x512_0_6144) := by
  dsimp only [V, List.flatten]
  simp only [hostOps0, hostOps0_1, hostOps0_2, hostOps0_3, hostOps0_4, hostOps0_5, hostOps0_6, List.append, List.cons_append, List.nil_append, List.append_nil, catLd_eq, catPos_eq]
  after_reads_simp
  rfl

set_option maxHeartbeats 2000000 in
/-- The states of the backward scan. -/
theorem statesB_eq (c : Dev nD) : V m c main_v92 = statesOf agoB (ratesB (m (c, Proc.tc.devRef main_arg3))) (m (c, Proc.tc.devRef main_arg1))
    (extractStridedSlice S8448x512 ![0, 6144] (m (c, Proc.tc.devRef main_arg2)) slices_S8448x7680_S8448x512_0_6144) := by
  dsimp only [V, List.flatten]
  simp only [hostOps0, hostOps0_1, hostOps0_2, hostOps0_3, hostOps0_4, hostOps0_5, hostOps0_6, List.append, List.cons_append, List.nil_append, List.append_nil, catLd_eq, catPos_eq]
  after_reads_simp
  rfl

/-- The arguments hold the numbers `A`. -/
structure IsData (c : Dev nD) (A : Data) : Prop where
  q : ∀ x j, m ((c : Thread nD τ).loc main_arg0) (ix2 x j) = (A.Q x j : EReal)
  k : ∀ x j, m ((c : Thread nD τ).loc main_arg1) (ix2 x j) = (A.K x j : EReal)
  v : ∀ (x : Fin 8448) (j : Fin 512), m ((c : Thread nD τ).loc main_arg2) (ix2 x ⟨6144 + j.val, by omega⟩) = (A.V x j : EReal)
  l : ∀ d h, m ((c : Thread nD τ).loc main_arg3) (ix2 d h) = (A.L d h : EReal)
  y : ∀ x j, m ((c : Thread nD τ).loc main_arg4) (ix2 x j) = (A.Y x j : EReal)

section
variable {m} {c : Dev nD} {A : Data} (hA : IsData m c A)

include hA in
theorem rv_is (x : Fin 8448) (j : Fin 512) : (extractStridedSlice S8448x512 ![0, 6144] (m (c, Proc.tc.devRef main_arg2)) slices_S8448x7680_S8448x512_0_6144
    : (⟨S8448x512, .f32⟩ : BufTy).Contents (Elt Ideal)) (ix2 x j) = (A.V x j : EReal) := by
  rw [← hA.v]
  pointwise

include hA in
/-- The states that the forward and the backward scan's blocks find. -/
theorem statesF_is (s : Fin 33) (h : Fin 4) (a b : Fin 128) : V m c main_v39 (ix4 s h a b) = ((A.scan 0 h).St s a b : EReal) := by
  rw [statesF_eq]
  exact statesOf_is A 0 h _ _ _ _ s s (agoF_at s) (by rw [ratesF_at, EReal.coe_neg, ← Ideal.exp_coe, ← hA.l]) hA.k (rv_is hA) a b

include hA in
theorem statesB_is (s : Fin 33) (h : Fin 4) (a b : Fin 128) : V m c main_v92 (ix4 (blkNo 1 s) h a b) = ((A.scan 1 h).St s a b : EReal) := by
  rw [statesB_eq]
  exact statesOf_is A 1 h _ _ _ _ (blkNo 1 s) s (agoB_at s) (by rw [ratesB_at, EReal.coe_neg, ← Ideal.exp_coe, ← hA.l]) hA.k (rv_is hA) a b

end
end Cert.KernelIdeal.Own
-- ==== Proof.Blocks.lean ====
module

public import proofs.«01_k».proof.Proof.HostVals

@[expose] public section

set_option maxRecDepth 16384

noncomputable section

namespace Cert.KernelIdeal.Own

open Idealize.ShloMosaic Idealize.ShloMosaic.TcCoe
open Cert.KernelIdeal.Gen Cert.Retention
variable (m : (ℓ : Loc nD τ sig) → Buf (Elt Ideal) ℓ)

/-- The forward direction's blocks, at every point. -/
theorem idxF : ∀ t : Fin cfg0.N, win0_0.index t = ![32 - t.val, 0] ∧ win0_1.index t = ![32 - t.val, 1] ∧ win0_2.index t = ![32 - t.val, 2] ∧ win0_3.index t = ![32 - t.val, 3]
    ∧ win0_4.index t = ![32 - t.val, 0] ∧ win0_5.index t = ![32 - t.val, 1] ∧ win0_6.index t = ![32 - t.val, 2] ∧ win0_7.index t = ![32 - t.val, 3]
    ∧ win0_8.index t = ![32 - t.val, 48] ∧ win0_9.index t = ![32 - t.val, 49] ∧ win0_10.index t = ![32 - t.val, 50] ∧ win0_11.index t = ![32 - t.val, 51]
    ∧ win0_25.index t = ![32 - t.val, 0, 0, 0] ∧ win0_27.index t = ![32 - t.val, 0]
    ∧ win0_29.index t = ![32 - t.val, 0] ∧ win0_30.index t = ![32 - t.val, 0] ∧ win0_31.index t = ![32 - t.val, 0] :=
  (by decide +kernel : ∀ t : Fin grid0.N, _)

/-- The backward direction's blocks. -/
theorem idxB : ∀ t : Fin cfg0.N, win0_12.index t = ![if t.val = 32 then 0 else t.val + 1, 0] ∧ win0_13.index t = ![if t.val = 32 then 0 else t.val + 1, 1] ∧ win0_14.index t = ![if t.val = 32 then 0 else t.val + 1, 2] ∧ win0_15.index t = ![if t.val = 32 then 0 else t.val + 1, 3]
    ∧ win0_16.index t = ![if t.val = 32 then 0 else t.val + 1, 0] ∧ win0_17.index t = ![if t.val = 32 then 0 else t.val + 1, 1] ∧ win0_18.index t = ![if t.val = 32 then 0 else t.val + 1, 2] ∧ win0_19.index t = ![if t.val = 32 then 0 else t.val + 1, 3]
    ∧ win0_20.index t = ![if t.val = 32 then 0 else t.val + 1, 48] ∧ win0_21.index t = ![if t.val = 32 then 0 else t.val + 1, 49] ∧ win0_22.index t = ![if t.val = 32 then 0 else t.val + 1, 50] ∧ win0_23.index t = ![if t.val = 32 then 0 else t.val + 1, 51]
    ∧ win0_26.index t = ![if t.val = 32 then 0 else t.val + 1, 0, 0, 0] ∧ win0_28.index t = ![if t.val = 32 then 0 else t.val + 1, 0]
    ∧ win0_32.index t = ![if t.val = 32 then 0 else t.val + 1, 0] ∧ win0_33.index t = ![if t.val = 32 then 0 else t.val + 1, 0] ∧ win0_34.index t = ![if t.val = 32 then 0 else t.val + 1, 0] :=
  (by decide +kernel : ∀ t : Fin grid0.N, _)

/-- The row of log decays and the row of their gradients are one block. -/
theorem idxL : ∀ t : Fin cfg0.N, win0_24.index t = ![0, 0] ∧ win0_35.index t = ![0, 0] :=
  (by decide +kernel : ∀ t : Fin grid0.N, _)

/-- The chunk that a point of the grid works on: the last one first. -/
def chunk (t : Fin cfg0.N) : Fin 33 := ⟨32 - t.val, by omega⟩

theorem row_val0 (t : Fin cfg0.N) (i : Fin 256) : (row 0 (chunk t) i).val = (32 - t.val) * 256 + i.val := rfl

theorem blkNo_val1 (t : Fin cfg0.N) : (blkNo 1 (chunk t)).val = if t.val = 32 then 0 else t.val + 1 := by
  have ht : t.val < 33 := t.isLt
  unfold blkNo chunk
  rw [if_neg (by decide)]
  by_cases h : t.val = 32
  · rw [if_pos h, dif_pos (by show 32 - t.val = 0; omega)]; show 32 - t.val = 0; omega
  · rw [if_neg h, dif_neg (by show ¬(32 - t.val = 0); omega)]; show 33 - (32 - t.val) = t.val + 1; omega

theorem row_val1 (t : Fin cfg0.N) (i : Fin 256) : (row 1 (chunk t) i).val = (if t.val = 32 then 0 else t.val + 1) * 256 + i.val := by
  rw [← blkNo_val1]; rfl

theorem row_eq0 (t : Fin cfg0.N) (i : Fin 256) : row 0 (chunk t) i = ⟨(32 - t.val) * 256 + i.val, by omega⟩ := rfl

theorem row_eq1 (t : Fin cfg0.N) (i : Fin 256) : row 1 (chunk t) i = ⟨(if t.val = 32 then 0 else t.val + 1) * 256 + i.val, by rw [← row_val1]; exact (row 1 (chunk t) i).isLt⟩ :=
  Fin.ext (row_val1 t i)

theorem col_val (h : Fin 4) (a : Fin 128) : (col h a).val = h.val * 128 + a.val := rfl

section
variable {m} {c : Dev nD} {A : Data} (hA : IsData m c A) (t : Fin cfg0.N) (g : Fin 2 → Fin 4 → Vec Ideal S1x1x128x128 .f32)

include hA in
set_option maxHeartbeats 20000000 in
theorem q_is (d : Fin 2) (h : Fin 4) (i : Fin 256) (a : Fin 128) : (insAt m c t g).q d h (ix2 i a) = (A.Q (row d (chunk t) i) (col h a) : EReal) := by
  rw [← hA.q]
  match d, h with
  | 0, 0 | 0, 1 | 0, 2 | 0, 3 =>
    rw [row_eq0]
    dsimp only [insAt, insOf, pick, col]
    blk_ext! [iblk, V, idxF t]
  | 1, 0 | 1, 1 | 1, 2 | 1, 3 =>
    rw [row_eq1]
    dsimp only [insAt, insOf, pick, col]
    blk_ext! [iblk, V, idxB t]

include hA in
set_option maxHeartbeats 20000000 in
theorem k_is (d : Fin 2) (h : Fin 4) (i : Fin 256) (a : Fin 128) : (insAt m c t g).k d h (ix2 i a) = (A.K (row d (chunk t) i) (col h a) : EReal) := by
  rw [← hA.k]
  match d, h with
  | 0, 0 | 0, 1 | 0, 2 | 0, 3 =>
    rw [row_eq0]
    dsimp only [insAt, insOf, pick, col]
    blk_ext! [iblk, V, idxF t]
  | 1, 0 | 1, 1 | 1, 2 | 1, 3 =>
    rw [row_eq1]
    dsimp only [insAt, insOf, pick, col]
    blk_ext! [iblk, V, idxB t]

include hA in
set_option maxHeartbeats 20000000 in
theorem v_is (d : Fin 2) (h : Fin 4) (i : Fin 256) (a : Fin 128) : (insAt m c t g).v d h (ix2 i a) = (A.V (row d (chunk t) i) (col h a) : EReal) := by
  rw [← hA.v]
  match d, h with
  | 0, 0 | 0, 1 | 0, 2 | 0, 3 =>
    rw [row_eq0]
    dsimp only [insAt, insOf, pick, col]
    blk_ext! [iblk, V, idxF t]
  | 1, 0 | 1, 1 | 1, 2 | 1, 3 =>
    rw [row_eq1]
    dsimp only [insAt, insOf, pick, col]
    blk_ext! [iblk, V, idxB t]

include hA in
set_option maxHeartbeats 20000000 in
/-- What they read of the cotangent. -/
theorem dy_is (d : Fin 2) (h : Fin 4) (i : Fin 256) (a : Fin 128) : dyCol h ((insAt m c t g).y d) (ix2 i a) = (A.Y (row d (chunk t) i) (col h a) : EReal) := by
  have e : ∀ j : Fin 512, (insAt m c t g).y d (ix2 i j) = (A.Y (row d (chunk t) i) j : EReal) := fun j => by
    rw [← hA.y]
    match d with
    | 0 =>
      rw [row_eq0]
      dsimp only [insAt, insOf, pick2]
      blk_ext! [iblk, V, idxF t]
    | 1 =>
      rw [row_eq1]
      dsimp only [insAt, insOf, pick2]
      blk_ext! [iblk, V, idxB t]
  rw [← e]
  generalize (insAt m c t g).y d = y
  match h with
  | 0 | 1 | 2 | 3 =>
    unfold dyCol
    pointwise
    refine congrArg _ (congrArg _ (Fin.ext ?_))
    simp [col]

/-- The blocks of entering states. -/
theorem sblk_at (d : Fin 2) (h : Fin 4) (a b : Fin 128) : mat ((insAt m c t g).s d h) (ix2 a b) = (pick2 (iblk m c 25 t) (iblk m c 26 t) d : Vec Ideal S1x4x128x128 .f32) (ix4 0 h a b) := by
  have e : (insAt m c t g).s d h = blkSt h (pick2 (iblk m c 25 t) (iblk m c 26 t) d) := rfl
  rw [e]
  generalize (pick2 (iblk m c 25 t) (iblk m c 26 t) d : Vec Ideal S1x4x128x128 .f32) = x
  unfold mat blkSt
  pointwise

set_option maxHeartbeats 2000000 in
theorem iblk_25 (h : Fin 4) (a b : Fin 128) : iblk m c 25 t (ix4 0 h a b) = V m c main_v39 (ix4 (chunk t) h a b) := by
  unfold iblk
  show V m c main_v39 (((cfg0.win 25).blk t).view.emb (ix4 0 h a b)) = _
  refine congrArg (V m c main_v39) ?_
  blk_ext! [idxF t, chunk]

set_option maxHeartbeats 2000000 in
theorem iblk_26 (h : Fin 4) (a b : Fin 128) : iblk m c 26 t (ix4 0 h a b) = V m c main_v92 (ix4 (blkNo 1 (chunk t)) h a b) := by
  have hs := blkNo_val1 t
  unfold iblk
  show V m c main_v92 (((cfg0.win 26).blk t).view.emb (ix4 0 h a b)) = _
  refine congrArg (V m c main_v92) ?_
  generalize blkNo 1 (chunk t) = s at hs ⊢
  blk_ext! [idxB t, hs]

include hA in
/-- What they read of the entering states. -/
theorem s_is (d : Fin 2) (h : Fin 4) (a b : Fin 128) : mat ((insAt m c t g).s d h) (ix2 a b) = ((A.scan d h).St (chunk t) a b : EReal) := by
  rw [sblk_at]
  match d with
  | 0 => exact (iblk_25 t h a b).trans (statesF_is hA (chunk t) h a b)
  | 1 => exact (iblk_26 t h a b).trans (statesB_is hA (chunk t) h a b)

/-- One lane of the row of log decays, as a rate. -/
theorem lgOf_at (l : Vec Ideal S1x128 .f32) (n : Fin 128) : lgOf l (BitVec.ofNat 32 n.val) (ix2 0 0) = 0 - Ideal.exp (l (ix2 0 n)) := by
  unfold lgOf laneMask
  pointwise
  have e : ∀ x : Fin 128, IntOp.cmpi .eq (BitVec.ofNat 32 x.val) (BitVec.ofNat 32 n.val) = if x = n then 1#1 else 0#1 := fun x => by
    unfold IntOp.cmpi
    by_cases h : x = n
    · subst h; simp
    · rw [if_neg h]
      have : ¬ BitVec.ofNat 32 x.val = BitVec.ofNat 32 n.val := fun e => h (Fin.ext (by
        have := congrArg BitVec.toNat e
        simp only [BitVec.toNat_ofNat] at this
        omega))
      simp [this, beq_eq_false_iff_ne.2 this]
  simp only [e, choose_coe, Finset.sum_ite_eq', Finset.mem_univ, if_true]

theorem laneOf_eq : ∀ d h, laneOf d h = BitVec.ofNat 32 (d.val * 4 + h.val) := by decide

include hA in
theorem l_is (d : Fin 2) (h : Fin 4) : (insAt m c t g).l (ix2 0 ⟨d.val * 4 + h.val, by omega⟩) = (A.L d h : EReal) := by
  have e : ∀ n, iblk m c 24 t (ix2 0 n) = V m c main_v96 (ix2 0 n) := fun n => by
    unfold iblk
    generalize V m c = f
    blk_ext! [idxL t]
  refine (e _).trans ?_
  rw [logs_at, dif_pos (by show d.val * 4 + h.val < 8; omega), ← hA.l]
  refine congrArg _ (congrArg₂ ix2 (Fin.ext ?_) (Fin.ext ?_))
  · show (d.val * 4 + h.val) / 4 = d.val; omega
  · show (d.val * 4 + h.val) % 4 = h.val; omega
end
end Cert.KernelIdeal.Own
-- ==== Proof.Points.lean ====
module

public import proofs.«01_k».proof.Proof.Blocks

@[expose] public section

set_option maxRecDepth 16384

noncomputable section

namespace Cert.KernelIdeal.Own

open Idealize.ShloMosaic Idealize.ShloMosaic.TcCoe
open Cert.KernelIdeal.Gen Cert.Retention

theorem locOf_0 (i : Fin 256) : locOf 0 i = i.val := by unfold locOf; rw [if_pos rfl]
theorem locOf_1 (i : Fin 256) : locOf 1 i = 255 - i.val := by unfold locOf; rw [if_neg (by decide)]

/-- Each direction's masks and places are those of its scan. -/
theorem dir_is (A : Data) (d : Fin 2) (h : Fin 4) : DirIs (dirOf (F := Ideal) d) (A.scan d h) := by
  match d with
  | 0 => exact dirF_is _ locOf_0
  | 1 => exact dirB_is _ locOf_1

/-- Blocks seen as matrices and back. -/
theorem mat_unmat (x : FVec Ideal S128x128 .f32) (a b : Fin 128) : mat (unmat x) (ix2 a b) = x (ix2 a b) := by
  unfold mat unmat
  pointwise

theorem mat_zeroBlk (a b : Fin 128) : mat (zeroBlk (F := Ideal)) (ix2 a b) = 0 := by
  unfold mat zeroBlk
  pointwise

/-- Four heads side by side, at one head's column. -/
theorem cat4_at (f : Fin 4 → FVec Ideal S256x128 .f32) (i : Fin 256) (h : Fin 4) (a : Fin 128) :
    cat4 (f 0) (f 1) (f 2) (f 3) (ix2 i (col h a)) = f h (ix2 i a) := by
  unfold cat4
  pointwise
  match h with
  | 0 => rw [dif_pos (by rw [col_val]; show 0 * 128 + a.val < 128; omega)]; exact congrArg (fun z => f 0 (ix2 i z)) (Fin.ext (by show 0 * 128 + a.val = a.val; omega))
  | 1 =>
    rw [dif_neg (by rw [col_val]; show ¬ 1 * 128 + a.val < 128; omega), dif_pos (by rw [col_val]; show 1 * 128 + a.val - 128 < 128; omega)]
    exact congrArg (fun z => f 1 (ix2 i z)) (Fin.ext (by show 1 * 128 + a.val - 128 = a.val; omega))
  | 2 =>
    rw [dif_neg (by rw [col_val]; show ¬ 2 * 128 + a.val < 128; omega), dif_neg (by rw [col_val]; show ¬ 2 * 128 + a.val - 128 < 128; omega),
      dif_pos (by rw [col_val]; show 2 * 128 + a.val - 128 - 128 < 128; omega)]
    exact congrArg (fun z => f 2 (ix2 i z)) (Fin.ext (by show 2 * 128 + a.val - 128 - 128 = a.val; omega))
  | 3 =>
    rw [dif_neg (by rw [col_val]; show ¬ 3 * 128 + a.val < 128; omega), dif_neg (by rw [col_val]; show ¬ 3 * 128 + a.val - 128 < 128; omega),
      dif_neg (by rw [col_val]; show ¬ 3 * 128 + a.val - 128 - 128 < 128; omega)]
    exact congrArg (fun z => f 3 (ix2 i z)) (Fin.ext (by show 3 * 128 + a.val - 128 - 128 - 128 = a.val; omega))

/-- A head's share of the row of log decays' gradients: in its own lane alone. -/
theorem lgRow_at (D : Dir Ideal) (H : Head Ideal) (n j : Fin 128) : lgRow D H (BitVec.ofNat 32 n.val) (ix2 0 j) =
    if j = n then lgA D H (ix2 0 0) + lgB H (ix2 0 0) + lgC D H (ix2 0 0) + lgD D H (ix2 0 0) else 0 := by
  unfold lgRow laneMask
  generalize lgA D H = A
  generalize lgB H = B
  generalize lgC D H = C
  generalize lgD D H = E
  pointwise
  simp only [Finset.univ_unique, Finset.sum_singleton]
  unfold IntOp.cmpi
  by_cases h : j = n
  · subst h; simp [Scalar.select]
  · have : ¬(BitVec.ofNat 32 j.val = BitVec.ofNat 32 n.val) := fun e => h (Fin.ext (by
      have := congrArg BitVec.toNat e
      rw [BitVec.toNat_ofNat, BitVec.toNat_ofNat, Nat.mod_eq_of_lt (by omega), Nat.mod_eq_of_lt (by omega)] at this
      exact this))
    rw [if_neg h, beq_eq_false_iff_ne.2 this]
    rfl

theorem lgDir_at (l r0 r1 r2 r3 : FVec Ideal S1x128 .f32) (j : Fin 128) :
    lgDir l r0 r1 r2 r3 (ix2 0 j) = (0 - (r3 (ix2 0 j) + r2 (ix2 0 j) + r1 (ix2 0 j) + r0 (ix2 0 j))) * Ideal.exp (l (ix2 0 j)) := by
  unfold lgDir
  pointwise

section
variable {m : (ℓ : Loc nD τ sig) → Buf (Elt Ideal) ℓ} {c : Dev nD} {A : Data} (hA : IsData m c A)

include hA in
/-- What a head reads at a point of the grid is its chunk of the data, if the states that it carries are the chunk's. -/
theorem head_is (t : Fin cfg0.N) (g : Fin 2 → Fin 4 → Vec Ideal S1x1x128x128 .f32)
    (hg : ∀ d h a b, mat (g d h) (ix2 a b) = ((A.scan d h).G (chunk t) a b : EReal)) (d : Fin 2) (h : Fin 4) :
    HeadIs ((insAt m c t g).head d h) (A.scan d h) (chunk t) where
  q i a := q_is hA t g d h i a
  k i a := k_is hA t g d h i a
  v i a := v_is hA t g d h i a
  dy i a := dy_is hA t g d h i a
  s a b := s_is hA t g d h a b
  g a b := hg d h a b
  lg := by
    show lgOf (insAt m c t g).l (laneOf d h) (ix2 0 0) = _
    rw [laneOf_eq]
    refine (lgOf_at _ ⟨d.val * 4 + h.val, by omega⟩).trans ?_
    rw [l_is hA, Ideal.exp_coe, zero_sub]
    rfl

include hA in
/-- The states that the heads carry into each point are those of the rows scanned after its chunk. -/
theorem carried_is : ∀ (n : ℕ) (hn : n < cfg0.N) (d : Fin 2) (h : Fin 4) (a b : Fin 128),
    mat (carried m c n (Nat.le_of_lt hn) d h) (ix2 a b) = ((A.scan d h).G (chunk ⟨n, hn⟩) a b : EReal)
  | 0, hn, d, h, a, b => by
    rw [(A.scan d h).G_last _ rfl]
    exact mat_zeroBlk a b
  | n + 1, hn, d, h, a, b => by
    have hd := head_is hA ⟨n, Nat.lt_of_succ_lt hn⟩ _ (fun d h a b => carried_is n (Nat.lt_of_succ_lt hn) d h a b) d h
    refine (mat_unmat _ a b).trans (gNext_at (dir_is A d h) hd _ ?_ a b)
    have : n + 1 < 33 := hn
    show 32 - (n + 1) + 1 = 32 - n
    omega

include hA in
theorem point_is (t : Fin cfg0.N) (d : Fin 2) (h : Fin 4) : HeadIs ((insPt m c t).head d h) (A.scan d h) (chunk t) :=
  head_is hA t _ (carried_is hA t.val t.isLt) d h

include hA in
/-- The six blocks of gradients that a point stores. -/
theorem dq_is (t : Fin cfg0.N) (d : Fin 2) (i : Fin 256) (h : Fin 4) (a : Fin 128) : (insPt m c t).dq d (ix2 i (col h a)) = (A.dq d (row d (chunk t) i) h a : EReal) := by
  rw [← A.dq_scan]
  exact (cat4_at (fun h => dqH (dirOf d) ((insPt m c t).head d h)) i h a).trans (dqH_at (dir_is A d h) (point_is hA t d h) i a)

include hA in
theorem dk_is (t : Fin cfg0.N) (d : Fin 2) (i : Fin 256) (h : Fin 4) (a : Fin 128) : (insPt m c t).dk d (ix2 i (col h a)) = (A.dk d (row d (chunk t) i) h a : EReal) := by
  rw [← A.dk_scan]
  exact (cat4_at (fun h => dkH (dirOf d) ((insPt m c t).head d h)) i h a).trans (dkH_at (dir_is A d h) (point_is hA t d h) i a)

include hA in
theorem dv_is (t : Fin cfg0.N) (d : Fin 2) (i : Fin 256) (h : Fin 4) (a : Fin 128) : (insPt m c t).dv d (ix2 i (col h a)) = (A.dv d (row d (chunk t) i) h a : EReal) := by
  rw [← A.dv_scan]
  exact (cat4_at (fun h => dvH (dirOf d) ((insPt m c t).head d h)) i h a).trans (dvH_at (dir_is A d h) (point_is hA t d h) i a)
end

end Cert.KernelIdeal.Own
-- ==== Proof.Lanes.lean ====
module

public import proofs.«01_k».proof.Proof.Points

@[expose] public section

set_option maxRecDepth 16384

noncomputable section

namespace Cert.KernelIdeal.Own

open Idealize.ShloMosaic Idealize.ShloMosaic.TcCoe
open Cert.KernelIdeal.Gen Cert.Retention

section
variable {m : (ℓ : Loc nD τ sig) → Buf (Elt Ideal) ℓ} {c : Dev nD} {A : Data} (hA : IsData m c A)

/-- The lanes of the row of log decays past the heads are zero. -/
theorem l_past (t : Fin cfg0.N) (g : Fin 2 → Fin 4 → Vec Ideal S1x1x128x128 .f32) (j : Fin 128) (hj : 8 ≤ j.val) : (insAt m c t g).l (ix2 0 j) = 0 := by
  have e : ∀ n, iblk m c 24 t (ix2 0 n) = V m c main_v96 (ix2 0 n) := fun n => by
    unfold iblk
    generalize V m c = f
    blk_ext! [idxL t]
  refine (e _).trans ?_
  rw [logs_at, dif_neg (by omega)]

/-- One head's sum at a chunk, and its share of the log decay's gradient. -/
def headSum (A : Data) (d : Fin 2) (h : Fin 4) (s : Fin 33) : ℝ := (A.scan d h).lgA s + (A.scan d h).lgB s + (A.scan d h).lgC s + (A.scan d h).lgD s
def share (A : Data) (j : Fin 128) (s : Fin 33) : ℝ :=
  if h : j.val < 8 then (0 - headSum A ⟨j.val / 4, by omega⟩ ⟨j.val % 4, by omega⟩ s) * Real.exp (A.L ⟨j.val / 4, by omega⟩ ⟨j.val % 4, by omega⟩) else 0

include hA in
theorem row_is (t : Fin cfg0.N) (d : Fin 2) (h : Fin 4) (j : Fin 128) :
    (insPt m c t).row d h (ix2 0 j) = ((if j.val = d.val * 4 + h.val then headSum A d h (chunk t) else 0 : ℝ) : EReal) := by
  unfold Ins.row
  rw [laneOf_eq]
  refine (lgRow_at _ _ ⟨d.val * 4 + h.val, by omega⟩ j).trans ?_
  rw [lgA_at (dir_is A d h) (point_is hA t d h), lgB_at (point_is hA t d h), lgC_at (dir_is A d h) (point_is hA t d h), lgD_at (dir_is A d h) (point_is hA t d h)]
  simp only [← EReal.coe_add, ite_coe, Fin.ext_iff, headSum]

include hA in
theorem lgs_is (t : Fin cfg0.N) (d : Fin 2) (j : Fin 128) (x : ℝ) (hx : (insPt m c t).l (ix2 0 j) = (x : EReal)) :
    (insPt m c t).lgs d (ix2 0 j) = (((0 - ((((if j.val = d.val * 4 + 3 then headSum A d 3 (chunk t) else 0)
      + (if j.val = d.val * 4 + 2 then headSum A d 2 (chunk t) else 0)) + (if j.val = d.val * 4 + 1 then headSum A d 1 (chunk t) else 0))
      + (if j.val = d.val * 4 then headSum A d 0 (chunk t) else 0))) * Real.exp x : ℝ) : EReal) := by
  unfold Ins.lgs
  refine (lgDir_at _ _ _ _ _ j).trans ?_
  rw [row_is hA, row_is hA, row_is hA, row_is hA, hx, Ideal.exp_coe]
  simp only [← EReal.coe_add, ← EReal.coe_mul, ← EReal.coe_sub, ← EReal.coe_zero]
  rfl

include hA in
/-- The row that a point adds. -/
theorem tot_is (t : Fin cfg0.N) (j : Fin 128) : (insPt m c t).tot (ix2 0 j) = (share A j (chunk t) : EReal) := by
  have e : ∀ x : ℝ, (insPt m c t).l (ix2 0 j) = (x : EReal) → (insPt m c t).tot (ix2 0 j) = _ := fun x hx =>
    (congrArg₂ (· + ·) (lgs_is hA t 0 j x hx) (lgs_is hA t 1 j x hx)).trans (EReal.coe_add _ _).symm
  unfold share
  by_cases hj : j.val < 8
  · rw [dif_pos hj]
    rw [e (A.L ⟨j.val / 4, by omega⟩ ⟨j.val % 4, by omega⟩) (by
      rw [← l_is hA t (carried m c t.val (Nat.le_of_lt t.isLt))]
      exact congrArg (fun z => (insPt m c t).l (ix2 0 z)) (Fin.ext (by show j.val = j.val / 4 * 4 + j.val % 4; omega)))]
    congr 1
    obtain ⟨j, hj'⟩ := j
    interval_cases j <;> simp
  · rw [dif_neg hj, e 0 (l_past t _ j (by omega))]
    congr 1
    have hj0 : 8 ≤ j.val := by omega
    simp (disch := (simp; omega)) only [Fin.val_zero, Fin.val_one, if_neg]
    simp

theorem pay2_at (x y : FVec Ideal S1x128 .f32) (j : Fin 128) : k0_pay2 x y (ix2 0 j) = y (ix2 0 j) + x (ix2 0 j) := by
  unfold k0_pay2
  pointwise

include hA in
/-- The row after each point. -/
theorem rowTo_is (j : Fin 128) : ∀ (n : ℕ) (hn : n < cfg0.N), rowTo m c n hn (ix2 0 j) =
    ((∑ k : Fin (n + 1), share A j (chunk ⟨k.val, Nat.lt_of_le_of_lt (Nat.le_of_lt_succ k.isLt) hn⟩) : ℝ) : EReal)
  | 0, hn => by
    rw [Fin.sum_univ_one]
    exact tot_is hA ⟨0, hn⟩ j
  | n + 1, hn => by
    rw [Fin.sum_univ_castSucc, EReal.coe_add]
    refine (pay2_at _ _ j).trans ?_
    rw [rowTo_is j n (Nat.lt_of_succ_lt hn), tot_is hA ⟨n + 1, hn⟩ j]
    rfl

/-- The log decays' gradients, a lane to a head. -/
def lanes (A : Data) (j : Fin 128) : ℝ := if h : j.val < 8 then A.dl ⟨j.val / 4, by omega⟩ ⟨j.val % 4, by omega⟩ else 0

include hA in
/-- The row after the last point. -/
theorem row_last (j : Fin 128) (hn : 32 < cfg0.N) : rowTo m c 32 hn (ix2 0 j) = (lanes A j : EReal) := by
  rw [rowTo_is hA j 32 hn]
  congr 1
  rw [show (∑ k : Fin (32 + 1), share A j (chunk ⟨k.val, Nat.lt_of_le_of_lt (Nat.le_of_lt_succ k.isLt) hn⟩)) = ∑ s : Fin 33, share A j s from
    Fintype.sum_equiv Fin.revPerm _ _ fun k => congrArg (share A j) (Fin.ext (by show 32 - k.val = 33 - (k.val + 1); omega))]
  unfold share lanes
  by_cases hj : j.val < 8
  · simp only [dif_pos hj]
    rw [← Data.dl_scan, ← Finset.sum_mul]
    congr 1
    simp only [zero_sub, Finset.sum_neg_distrib, headSum]
  · simp only [dif_neg hj, Finset.sum_const_zero]
end

end Cert.KernelIdeal.Own
-- ==== Proof.Outputs.lean ====
module

public import proofs.«01_k».proof.Proof.Lanes
public import Idealize.ShloMosaic.Lib.Pipeline.ValueKit

@[expose] public section

set_option maxRecDepth 16384

noncomputable section

namespace Cert.KernelIdeal.Own

open Idealize.ShloMosaic Idealize.ShloMosaic.TcCoe
open Cert.KernelIdeal.Gen Cert.Retention

/-- Rows of heads, and a row of lanes, as arrays. -/
def wide (f : Fin 8448 → Fin 4 → Fin 128 → ℝ) : FVec Ideal S8448x512 .f32 := fun y =>
  ((f (y 0) ⟨(y 1).val / 128, by have : (y 1).val < 512 := (y 1).isLt; omega⟩ ⟨(y 1).val % 128, by omega⟩ : ℝ) : EReal)
def thin (f : Fin 128 → ℝ) : FVec Ideal S1x128 .f32 := fun y => ((f (y 1) : ℝ) : EReal)

theorem col_of (j : Fin 512) : col ⟨j.val / 128, by omega⟩ ⟨j.val % 128, by omega⟩ = j :=
  Fin.ext (by show j.val / 128 * 128 + j.val % 128 = j.val; omega)

/-- An array is the array of the rows that it holds. -/
theorem wide_of (v : FVec Ideal S8448x512 .f32) (f : Fin 8448 → Fin 4 → Fin 128 → ℝ) (h : ∀ x h a, v (ix2 x (col h a)) = ((f x h a : ℝ) : EReal)) : v = wide f := by
  funext y
  have e : y = ix2 (y 0) (col ⟨(y 1).val / 128, by have : (y 1).val < 512 := (y 1).isLt; omega⟩ ⟨(y 1).val % 128, by omega⟩) := by
    rw [col_of (y 1)]
    funext a
    match a with
    | ⟨0, _⟩ => rfl
    | ⟨1, _⟩ => rfl
  rw [e]
  refine (h _ _ _).trans ?_
  unfold wide
  rw [← e]

theorem thin_of (v : FVec Ideal S1x128 .f32) (f : Fin 128 → ℝ) (h : ∀ j, v (ix2 0 j) = ((f j : ℝ) : EReal)) : v = thin f := by
  funext y
  have e : y = ix2 0 (y 1) := by
    funext a
    match a with
    | ⟨0, _⟩ => exact Fin.ext (by have : (y 0).val < 1 := (y 0).isLt; show (y 0).val = 0; omega)
    | ⟨1, _⟩ => rfl
  rw [e]
  exact h _

/-- A block of rows whose entries are known. -/
theorem blk_of (v : FVec Ideal S256x512 .f32) (f : Fin 8448 → Fin 4 → Fin 128 → ℝ) (d : Fin 2) (s : Fin 33)
    (h : ∀ i h a, v (ix2 i (col h a)) = ((f (row d s i) h a : ℝ) : EReal)) (i : Fin 256) (j : Fin 512) : v (ix2 i j) = wide f (ix2 (row d s i) j) := by
  have := h i ⟨j.val / 128, by omega⟩ ⟨j.val % 128, by omega⟩
  rw [col_of] at this
  exact this

/-- An index of a block of rows, by its row and column. -/
theorem exists_ix (y : S256x512.Idx) : ∃ (i : Fin 256) (j : Fin 512), y = ix2 i j :=
  ⟨y 0, y 1, by
    funext a
    match a with
    | ⟨0, _⟩ => rfl
    | ⟨1, _⟩ => rfl⟩

section
variable {m : (ℓ : Loc nD τ sig) → Buf (Elt Ideal) ℓ} {c : Dev nD} {A : Data} (hA : IsData m c A)

/-! The six arrays of gradients, and the row of the log decays' gradients, as the run leaves them. -/

include hA in
theorem out_29 : (dats m 0 c).arrAt 29 cfg0.N = wide (A.dq 0) := by
  refine (dats m 0 c).arrAt_eq_of_covers 29 _ (by decide +kernel) fun t hf y => ?_
  blk_simp
  dsimp only [dats]
  obtain ⟨i, j, rfl⟩ := exists_ix y
  refine (blk_of _ _ 0 (chunk t) (dq_is hA t 0) i j).trans ?_
  rw [row_eq0 t]
  generalize wide (A.dq 0) = f
  blk_ext! [idxF t]

include hA in
theorem out_30 : (dats m 0 c).arrAt 30 cfg0.N = wide (A.dk 0) := by
  refine (dats m 0 c).arrAt_eq_of_covers 30 _ (by decide +kernel) fun t hf y => ?_
  blk_simp
  dsimp only [dats]
  obtain ⟨i, j, rfl⟩ := exists_ix y
  refine (blk_of _ _ 0 (chunk t) (dk_is hA t 0) i j).trans ?_
  rw [row_eq0 t]
  generalize wide (A.dk 0) = f
  blk_ext! [idxF t]

include hA in
theorem out_31 : (dats m 0 c).arrAt 31 cfg0.N = wide (A.dv 0) := by
  refine (dats m 0 c).arrAt_eq_of_covers 31 _ (by decide +kernel) fun t hf y => ?_
  blk_simp
  dsimp only [dats]
  obtain ⟨i, j, rfl⟩ := exists_ix y
  refine (blk_of _ _ 0 (chunk t) (dv_is hA t 0) i j).trans ?_
  rw [row_eq0 t]
  generalize wide (A.dv 0) = f
  blk_ext! [idxF t]

include hA in
theorem out_32 : (dats m 0 c).arrAt 32 cfg0.N = wide (A.dq 1) := by
  refine (dats m 0 c).arrAt_eq_of_covers 32 _ (by decide +kernel) fun t hf y => ?_
  blk_simp
  dsimp only [dats]
  obtain ⟨i, j, rfl⟩ := exists_ix y
  refine (blk_of _ _ 1 (chunk t) (dq_is hA t 1) i j).trans ?_
  rw [row_eq1 t]
  generalize wide (A.dq 1) = f
  blk_ext! [idxB t]

include hA in
theorem out_33 : (dats m 0 c).arrAt 33 cfg0.N = wide (A.dk 1) := by
  refine (dats m 0 c).arrAt_eq_of_covers 33 _ (by decide +kernel) fun t hf y => ?_
  blk_simp
  dsimp only [dats]
  obtain ⟨i, j, rfl⟩ := exists_ix y
  refine (blk_of _ _ 1 (chunk t) (dk_is hA t 1) i j).trans ?_
  rw [row_eq1 t]
  generalize wide (A.dk 1) = f
  blk_ext! [idxB t]

include hA in
theorem out_34 : (dats m 0 c).arrAt 34 cfg0.N = wide (A.dv 1) := by
  refine (dats m 0 c).arrAt_eq_of_covers 34 _ (by decide +kernel) fun t hf y => ?_
  blk_simp
  dsimp only [dats]
  obtain ⟨i, j, rfl⟩ := exists_ix y
  refine (blk_of _ _ 1 (chunk t) (dv_is hA t 1) i j).trans ?_
  rw [row_eq1 t]
  generalize wide (A.dv 1) = f
  blk_ext! [idxB t]

/-- The grid's last point. -/
def tLast : Fin cfg0.N := ⟨32, by decide +kernel⟩

include hA in
theorem out_35 : (dats m 0 c).arrAt 35 cfg0.N = thin (lanes A) := by
  refine (dats m 0 c).arrAt_eq_of_after_last 35 tLast (by decide +kernel) _ fun j => ?_
  blk_simp
  dsimp only [dats]
  exact congrFun (thin_of (rowTo m c tLast.val tLast.isLt) _ fun j => row_last hA j tLast.isLt) j
end

end Cert.KernelIdeal.Own
-- ==== Proof.KerOut.lean ====
module

public import proofs.«01_k».proof.Proof.Outputs

@[expose] public section

set_option maxRecDepth 16384

noncomputable section

namespace Cert.KernelIdeal.Own

open Idealize.ShloMosaic Idealize.ShloMosaic.TcCoe Idealize.SL.Sem
open Cert.KernelIdeal.Gen Cert.Retention

set_option maxHeartbeats 4000000 in
/-- What the run leaves in the results, read off its arrays. -/
theorem outs {m : (ℓ : Loc nD τ sig) → Buf (Elt Ideal) ℓ} {A : Dev nD → Data} (hA : ∀ c, IsData m c (A c)) {r : PUnit × MemSt nD τ sig (Elt Ideal)}
    (h : Pipeline.FramePost cfgs (dats m) 0 (V m) r) (c : Dev nD) :
      r.2.mem ((c.tc : Thread nD τ).loc main_v97_0) = wide ((A c).dq 0) ∧ r.2.mem ((c.tc : Thread nD τ).loc main_v97_1) = wide ((A c).dk 0)
      ∧ r.2.mem ((c.tc : Thread nD τ).loc main_v97_2) = wide ((A c).dv 0) ∧ r.2.mem ((c.tc : Thread nD τ).loc main_v97_3) = wide ((A c).dq 1)
      ∧ r.2.mem ((c.tc : Thread nD τ).loc main_v97_4) = wide ((A c).dk 1) ∧ r.2.mem ((c.tc : Thread nD τ).loc main_v97_5) = wide ((A c).dv 1)
      ∧ r.2.mem ((c.tc : Thread nD τ).loc main_v97_6) = thin (lanes (A c)) := by
  have o : ∀ w, r.2.mem ((cfg0.spec w).arr.view.loc (c.tc : Thread nD τ)) = (dats m 0 c).arrAt w cfg0.N := (h c).1
  clear h
  refine ⟨?_, ?_, ?_, ?_, ?_, ?_, ?_⟩
  · exact (o 29).trans (out_29 (hA c))
  · exact (o 30).trans (out_30 (hA c))
  · exact (o 31).trans (out_31 (hA c))
  · exact (o 32).trans (out_32 (hA c))
  · exact (o 33).trans (out_33 (hA c))
  · exact (o 34).trans (out_34 (hA c))
  · exact (o 35).trans (out_35 (hA c))

end Cert.KernelIdeal.Own
-- ==== Proof.RefVals.lean ====
module

public import proofs.«01_k».proof.Proof.DirVals
public import proofs.«01_k».proof.Proof.Rows
public import proofs.«01_k».proof.Proof.Gen.ReferenceIdeal.Run

@[expose] public section

set_option maxRecDepth 16384

noncomputable section

namespace Cert.ReferenceIdeal.Own

open Idealize.ShloMosaic Idealize.ShloMosaic.TcCoe
open Cert.ReferenceIdeal.Gen Cert.Retention
open Cert.KernelIdeal.Own (sitofp_small sge_small maxsi_small choose_coe ite_coe coe_sum)

theorem word_0 : Ideal.ofBits .f32 0x00000000#32 = 0 := by
  simp [Ideal.ofBits, Ideal.ieee]

/-- A matrix of rows with its columns cut into heads, and the same with the rows last. -/
def cut (x : FVec Ideal S8448x512 .f32) : FVec Ideal S8448x4x128 .f32 := shapeCast S8448x4x128 x shapeCasts_S8448x512_S8448x4x128
def cutT (x : FVec Ideal S8448x512 .f32) : FVec Ideal S4x128x8448 .f32 := transpose S4x128x8448 [1, 2, 0] (cut x) transposes_S8448x4x128_S4x128x8448_1_2_0

/-- How far each row stands behind each other, of the rows' places `p`; which pairs are related; and their distance. -/
def diff (p : IVec S8448 32) : IVec S8448x8448 32 :=
  subi (broadcastInDim S8448x8448 ![0, 1] bcast_S8448x1_S8448x8448_0_1 (broadcastInDim S8448x1 ![0] bcast_S8448_S8448x1_0 p))
    (broadcastInDim S8448x8448 ![0, 1] bcast_S1x8448_S8448x8448_0_1 (broadcastInDim S1x8448 ![1] bcast_S8448_S1x8448_1 p))
def related (p : IVec S8448 32) : IVec S4x8448x8448 1 :=
  broadcastInDim S4x8448x8448 ![0, 1, 2] bcast_S1x8448x8448_S4x8448x8448_0_1_2 (broadcastInDim S1x8448x8448 ![1, 2] bcast_S8448x8448_S1x8448x8448_1_2
    (cmpi .sge (diff p) (broadcastInDim S8448x8448 ![] bcast_S_S8448x8448 (constantI S_ 32 0#32))))
def apart (p : IVec S8448 32) : FVec Ideal S4x8448x8448 .f32 :=
  broadcastInDim S4x8448x8448 ![0, 1, 2] bcast_S1x8448x8448_S4x8448x8448_0_1_2 (broadcastInDim S1x8448x8448 ![1, 2] bcast_S8448x8448_S1x8448x8448_1_2
    (sitofp .f32 (maxsi (diff p) (broadcastInDim S8448x8448 ![] bcast_S_S8448x8448 (constantI S_ 32 0#32)))))

/-- The decay between the pairs, and over the related pairs alone. -/
def decay (p : IVec S8448 32) (l : FVec Ideal S4 .f32) : FVec Ideal S4x8448x8448 .f32 :=
  Host.exp (mulf (apart p) (broadcastInDim S4x8448x8448 ![0, 1, 2] bcast_S4x1x1_S4x8448x8448_0_1_2 (broadcastInDim S4x1x1 ![0] bcast_S4_S4x1x1_0 (Host.negf (Host.exp l)))))
def decayR (p : IVec S8448 32) (l : FVec Ideal S4 .f32) : FVec Ideal S4x8448x8448 .f32 :=
  select (related p) (decay p l) (broadcastInDim S4x8448x8448 ![] bcast_S_S4x8448x8448 (id (constant S_ .f32 0x00000000#32)))

/-- The scores of the pairs, and the products of cotangents and values. -/
def scores (q k : FVec Ideal S8448x512 .f32) : FVec Ideal S4x8448x8448 .f32 :=
  Host.dotGeneral dot_S8448x4x128_S8448x4x128_S4x8448x8448_2_2_0_0_1_1 none (cut q) (cut k)
def cots (y v : FVec Ideal S8448x512 .f32) : FVec Ideal S4x8448x8448 .f32 :=
  Host.dotGeneral dot_S4x128x8448_S8448x4x128_S4x8448x8448_1_2_2_0_0_1 none (cutT y) (cut v)

/-- The four gradients of one direction. -/
def gradQ (p : IVec S8448 32) (l : FVec Ideal S4 .f32) (y v k : FVec Ideal S8448x512 .f32) : FVec Ideal S8448x512 .f32 :=
  shapeCast S8448x512 (transpose S8448x4x128 [1, 0, 2] (Host.dotGeneral (F := Ideal) (φ₁ := .f32) (φ₂ := .f32) dot_S4x8448x8448_S8448x4x128_S4x8448x128_2_0_1_2_0_1 none
    (mulf (cots y v) (decayR p l)) (cut k)) transposes_S4x8448x128_S8448x4x128_1_0_2) shapeCasts_S8448x4x128_S8448x512
def gradK (p : IVec S8448 32) (l : FVec Ideal S4 .f32) (y v q : FVec Ideal S8448x512 .f32) : FVec Ideal S8448x512 .f32 :=
  shapeCast S8448x512 (transpose S8448x4x128 [1, 0, 2] (Host.dotGeneral (F := Ideal) (φ₁ := .f32) (φ₂ := .f32) dot_S4x8448x8448_S8448x4x128_S4x8448x128_1_0_2_2_0_1 none
    (mulf (cots y v) (decayR p l)) (cut q)) transposes_S4x8448x128_S8448x4x128_1_0_2) shapeCasts_S8448x4x128_S8448x512
def gradV (p : IVec S8448 32) (l : FVec Ideal S4 .f32) (y q k : FVec Ideal S8448x512 .f32) : FVec Ideal S8448x512 .f32 :=
  shapeCast S8448x512 (transpose S8448x4x128 [2, 0, 1] (Host.dotGeneral (F := Ideal) (φ₁ := .f32) (φ₂ := .f32) dot_S4x128x8448_S4x8448x8448_S4x128x8448_2_1_1_2_0_0 none
    (cutT y) (mulf (scores q k) (decayR p l))) transposes_S4x128x8448_S8448x4x128_2_0_1) shapeCasts_S8448x4x128_S8448x512
def gradL (p : IVec S8448 32) (l : FVec Ideal S4 .f32) (y v q k : FVec Ideal S8448x512 .f32) : FVec Ideal S4 .f32 :=
  mulf (Host.negf (Host.reduceAdd (shapeCast S4x1x1 (Host.reduceAdd (mulf (apart p)
      (mulf (select (related p) (mulf (scores q k) (cots y v)) (broadcastInDim S4x8448x8448 ![] bcast_S_S4x8448x8448 (constant S_ .f32 0x00000000#32))) (decay p l)))
      (constant S_ .f32 0x00000000#32) reducesTo_S4x8448x8448_S4_d1_2 h_S_) shapeCasts_S4_S4x1x1) (constant S_ .f32 0x00000000#32) reducesTo_S4x1x1_S4_d1_2 h_S_)) (Host.exp l)

/-- The rows' places in either scan, and a direction's log decays. -/
def placesF : IVec S8448 32 := iotaInDim S8448 32 0
def placesB : IVec S8448 32 := concatenate S8448 0 [⟨S256, Host.reverse [0] (extractStridedSlice S256 ![0] (iotaInDim S8448 32 0) slices_S8448_S256_0)⟩,
  ⟨S8192, Host.reverse [0] (extractStridedSlice S8192 ![256] (iotaInDim S8448 32 0) slices_S8448_S8192_256)⟩] concatenates_S256_S8192_S8448_d0
def logsF (l : FVec Ideal S2x4 .f32) : FVec Ideal S4 .f32 := shapeCast S4 (extractStridedSlice S1x4 ![0, 0] l slices_S2x4_S1x4_0_0) shapeCasts_S1x4_S4
def logsB (l : FVec Ideal S2x4 .f32) : FVec Ideal S4 .f32 := shapeCast S4 (extractStridedSlice S1x4 ![1, 0] l slices_S2x4_S1x4_1_0) shapeCasts_S1x4_S4
def valuesOf (v : FVec Ideal S8448x7680 .f32) : FVec Ideal S8448x512 .f32 := extractStridedSlice S8448x512 ![0, 6144] v slices_S8448x7680_S8448x512_0_6144

/-- The row of the log decays' gradients, both directions' and then zeros. -/
def gradLs (a b : FVec Ideal S4 .f32) : FVec Ideal S1x128 .f32 :=
  pad S1x128 ![0, 0] ![0, 120] ![0, 0] (broadcastInDim S1x8 ![1] bcast_S8_S1x8_1 (concatenate S8 0 [⟨S4, a⟩, ⟨S4, b⟩] concatenates_S4_S4_S8_d0))
    (sitofp (F := Ideal) .f32 (constantI S_ 32 0#32)) pads_S1x8_S1x128_000_01200 h_S_

section
variable (p : IVec S8448 32) (l : FVec Ideal S4 .f32) (q k v y : FVec Ideal S8448x512 .f32)

/-- Each array of the reference at one index: the scores, the products, the pairs, their decay and the four gradients. -/
theorem scores_at (h : Fin 4) (x x' : Fin 8448) : scores q k (ix3 h x x') = ∑ a : Fin 128, q (ix2 x (col h a)) * k (ix2 x' (col h a)) := by
  unfold scores cut
  pointwise
  rfl

theorem cots_at (h : Fin 4) (x x' : Fin 8448) : cots y v (ix3 h x x') = ∑ a : Fin 128, y (ix2 x (col h a)) * v (ix2 x' (col h a)) := by
  unfold cots cutT cut
  pointwise
  rfl

theorem related_at (h : Fin 4) (x x' : Fin 8448) : related p (ix3 h x x') = IntOp.cmpi .sge (IntOp.subi (p (ix1 x)) (p (ix1 x'))) 0#32 := by
  unfold related diff
  pointwise
theorem apart_at (h : Fin 4) (x x' : Fin 8448) : apart p (ix3 h x x') = FloatOps.sitofp (F := Ideal) .f32 (IntOp.maxsi (IntOp.subi (p (ix1 x)) (p (ix1 x'))) 0#32) := by
  unfold apart diff
  pointwise
theorem decay_at (h : Fin 4) (x x' : Fin 8448) : decay p l (ix3 h x x') = Ideal.exp (apart p (ix3 h x x') * - Ideal.exp (l (ix1 h))) := by
  unfold decay
  generalize apart p = z
  pointwise
theorem decayR_at (h : Fin 4) (x x' : Fin 8448) : decayR p l (ix3 h x x') = Scalar.select (related p (ix3 h x x')) (decay p l (ix3 h x x')) 0 := by
  unfold decayR
  generalize decay p l = z
  generalize related p = z'
  pointwise
  show Scalar.select _ _ (Ideal.ofBits .f32 0x00000000#32) = _
  rw [word_0]

theorem col_div (h : Fin 4) (a : Fin 128) (hh : (col h a).val / 128 < 4) : (⟨(col h a).val / 128, hh⟩ : Fin 4) = h := by
  apply Fin.ext
  show (h.val * 128 + a.val) / 128 = h.val
  omega

theorem gradQ_at (x : Fin 8448) (h : Fin 4) (a : Fin 128) : gradQ p l y v k (ix2 x (col h a)) =
    ∑ x', cots y v (ix3 h x x') * decayR p l (ix3 h x x') * k (ix2 x' (col h a)) := by
  unfold gradQ cut
  generalize cots y v = z
  generalize decayR p l = z'
  pointwise
  simp only [col_div]

theorem gradK_at (x : Fin 8448) (h : Fin 4) (a : Fin 128) : gradK p l y v q (ix2 x (col h a)) =
    ∑ x', cots y v (ix3 h x' x) * decayR p l (ix3 h x' x) * q (ix2 x' (col h a)) := by
  unfold gradK cut
  generalize cots y v = z
  generalize decayR p l = z'
  pointwise
  simp only [col_div]

theorem gradV_at (x : Fin 8448) (h : Fin 4) (a : Fin 128) : gradV p l y q k (ix2 x (col h a)) =
    ∑ x', y (ix2 x' (col h a)) * (scores q k (ix3 h x' x) * decayR p l (ix3 h x' x)) := by
  unfold gradV cutT cut
  generalize scores q k = z
  generalize decayR p l = z'
  pointwise
  simp only [col_div]

theorem gradL_at (h : Fin 4) : gradL p l y v q k (ix1 h) = (-∑ x, ∑ x', Scalar.select (related p (ix3 h x x'))
    (apart p (ix3 h x x') * (scores q k (ix3 h x x') * cots y v (ix3 h x x') * decay p l (ix3 h x x'))) 0) * Ideal.exp (l (ix1 h)) := by
  unfold gradL
  generalize scores q k = z1
  generalize cots y v = z2
  generalize decay p l = z3
  generalize related p = z4
  generalize apart p = z5
  pointwise
  simp only [Finset.univ_unique, Finset.sum_singleton]

theorem gradLs_at (a b : FVec Ideal S4 .f32) (j : Fin 128) : gradLs a b (ix2 0 j) =
    if h : j.val < 8 then if h' : j.val < 4 then a (ix1 ⟨j.val, h'⟩) else b (ix1 ⟨j.val - 4, by omega⟩) else 0 := by
  unfold gradLs
  pointwise
  rw [show (FloatOps.sitofp (F := Ideal) .f32 0#32) = 0 from (sitofp_small 0 (by decide)).trans (by simp)]

variable {p l q k v y} {A : Data} {d : Fin 2}
  (hp : ∀ x, p (ix1 x) = BitVec.ofNat 32 (place d x)) (hl : ∀ h, l (ix1 h) = (A.L d h : EReal))
  (hq : ∀ x j, q (ix2 x j) = (A.Q x j : EReal)) (hk : ∀ x j, k (ix2 x j) = (A.K x j : EReal))
  (hv : ∀ x j, v (ix2 x j) = (A.V x j : EReal)) (hy : ∀ x j, y (ix2 x j) = (A.Y x j : EReal))

/-! The same arrays over real data, direction by direction. -/

include hq hk in
theorem scores_is (h : Fin 4) (x x' : Fin 8448) : scores q k (ix3 h x x') = (A.qk h x x' : EReal) := by
  rw [scores_at]
  simp only [hq, hk, ← EReal.coe_mul, coe_sum, Data.qk]

include hy hv in
theorem cots_is (h : Fin 4) (x x' : Fin 8448) : cots y v (ix3 h x x') = (A.yv h x x' : EReal) := by
  rw [cots_at]
  simp only [hy, hv, ← EReal.coe_mul, coe_sum, Data.yv]

include hp in
theorem related_is (h : Fin 4) (x x' : Fin 8448) : related p (ix3 h x x') = if place d x' ≤ place d x then 1#1 else 0#1 := by
  have := place_lt d x; have := place_lt d x'
  rw [related_at, hp, hp, sge_small _ _ (by omega) (by omega)]

include hp in
theorem apart_is (h : Fin 4) (x x' : Fin 8448) : apart p (ix3 h x x') = ((max ((place d x : ℝ) - (place d x' : ℝ)) 0 : ℝ) : EReal) := by
  have := place_lt d x; have := place_lt d x'
  rw [apart_at, hp, hp, maxsi_small _ _ (by omega) (by omega)]

include hp hl in
theorem decay_is (h : Fin 4) (x x' : Fin 8448) : decay p l (ix3 h x x') = (Real.exp (max ((place d x : ℝ) - (place d x' : ℝ)) 0 * -Real.exp (A.L d h)) : EReal) := by
  rw [decay_at, apart_is hp, hl, Ideal.exp_coe, ← EReal.coe_neg, ← EReal.coe_mul, Ideal.exp_coe]

theorem behind (d : Fin 2) {x x' : Fin 8448} (h : place d x' ≤ place d x) : max ((place d x : ℝ) - (place d x' : ℝ)) 0 = (place d x : ℝ) - (place d x' : ℝ) :=
  max_eq_left (by have : (place d x' : ℝ) ≤ place d x := by exact_mod_cast h
                  linarith)

include hp hl in
theorem decayR_is (h : Fin 4) (x x' : Fin 8448) : decayR p l (ix3 h x x') = (A.w d h x x' : EReal) := by
  rw [decayR_at, related_is hp, decay_is hp hl, choose_coe, ite_coe]
  unfold Data.w
  split_ifs with e
  · rw [behind d e]
  · rfl

include hp hl hk hv hy in
theorem gradQ_is (x : Fin 8448) (h : Fin 4) (a : Fin 128) : gradQ p l y v k (ix2 x (col h a)) = (A.dq d x h a : EReal) := by
  rw [gradQ_at]
  simp only [cots_is hv hy, decayR_is hp hl, hk, ← EReal.coe_mul, coe_sum, Data.dq]

include hp hl hq hv hy in
theorem gradK_is (x : Fin 8448) (h : Fin 4) (a : Fin 128) : gradK p l y v q (ix2 x (col h a)) = (A.dk d x h a : EReal) := by
  rw [gradK_at]
  simp only [cots_is hv hy, decayR_is hp hl, hq, ← EReal.coe_mul, coe_sum, Data.dk]

include hp hl hq hk hy in
theorem gradV_is (x : Fin 8448) (h : Fin 4) (a : Fin 128) : gradV p l y q k (ix2 x (col h a)) = (A.dv d x h a : EReal) := by
  rw [gradV_at]
  simp only [scores_is hq hk, decayR_is hp hl, hy, ← EReal.coe_mul, coe_sum, Data.dv]

include hp hl hq hk hv hy in
theorem gradL_is (h : Fin 4) : gradL p l y v q k (ix1 h) = (A.dl d h : EReal) := by
  rw [gradL_at]
  simp only [scores_is hq hk, cots_is hv hy, related_is hp, apart_is hp, decay_is hp hl, hl, Ideal.exp_coe, choose_coe, ← EReal.coe_mul, ite_coe, coe_sum, ← EReal.coe_neg]
  unfold Data.dl
  congr 4
  funext x
  congr 1
  funext x'
  unfold Data.w
  split_ifs with e
  · rw [behind d e]
  · simp
end

theorem placesF_at (x : Fin 8448) : placesF (ix1 x) = BitVec.ofNat 32 (place 0 x) := rfl

theorem placesB_at (x : Fin 8448) : placesB (ix1 x) = BitVec.ofNat 32 (place 1 x) := by
  unfold placesB
  pointwise
  unfold place
  rw [if_neg (by decide : ¬(1 : Fin 2) = 0)]
  by_cases h : x.val < 256
  · rw [dif_pos h, if_pos h]
    exact Eq.trans (b := BitVec.ofNat 32 (256 - (x.val + 1))) rfl (congrArg _ (by omega))
  · rw [dif_neg h, if_neg h]
    exact Eq.trans (b := BitVec.ofNat 32 (256 + (8192 - (x.val - 256 + 1)))) rfl (congrArg _ (by omega))

theorem logsF_at (l : FVec Ideal S2x4 .f32) (h : Fin 4) : logsF l (ix1 h) = l (ix2 0 h) := by
  unfold logsF
  pointwise

theorem logsB_at (l : FVec Ideal S2x4 .f32) (h : Fin 4) : logsB l (ix1 h) = l (ix2 1 h) := by
  unfold logsB
  pointwise

theorem valuesOf_at (v : FVec Ideal S8448x7680 .f32) (x : Fin 8448) (j : Fin 512) : valuesOf v (ix2 x j) = v (ix2 x ⟨6144 + j.val, by omega⟩) := by
  unfold valuesOf
  pointwise

end Cert.ReferenceIdeal.Own
-- ==== Proof.RefOut.lean ====
module

public import proofs.«01_k».proof.Proof.RefVals
public import proofs.«01_k».proof.Proof.Outputs

@[expose] public section

set_option maxRecDepth 16384

noncomputable section

namespace Cert.ReferenceIdeal.Own

open Idealize.ShloMosaic Idealize.ShloMosaic.TcCoe
open Cert.ReferenceIdeal.Gen Cert.Retention
open Cert.KernelIdeal.Own (wide thin wide_of thin_of lanes)

/-- The reference's arguments on one device hold the data. -/
structure IsData (m : (ℓ : Loc nD τ sig) → Buf (Elt Ideal) ℓ) (c : Dev nD) (A : Data) : Prop where
  q : ∀ x j, m ((c.tc : Thread nD τ).loc main_arg0) (ix2 x j) = (A.Q x j : EReal)
  k : ∀ x j, m ((c.tc : Thread nD τ).loc main_arg1) (ix2 x j) = (A.K x j : EReal)
  v : ∀ (x : Fin 8448) (j : Fin 512), m ((c.tc : Thread nD τ).loc main_arg2) (ix2 x ⟨6144 + j.val, by omega⟩) = (A.V x j : EReal)
  l : ∀ d h, m ((c.tc : Thread nD τ).loc main_arg3) (ix2 d h) = (A.L d h : EReal)
  y : ∀ x j, m ((c.tc : Thread nD τ).loc main_arg4) (ix2 x j) = (A.Y x j : EReal)

section
variable {q k y : FVec Ideal S8448x512 .f32} {v : FVec Ideal S8448x7680 .f32} {l : FVec Ideal S2x4 .f32} {A : Data}
  (hl : ∀ d h, l (ix2 d h) = (A.L d h : EReal)) (hq : ∀ x j, q (ix2 x j) = (A.Q x j : EReal)) (hk : ∀ x j, k (ix2 x j) = (A.K x j : EReal))
  (hv : ∀ (x : Fin 8448) (j : Fin 512), v (ix2 x ⟨6144 + j.val, by omega⟩) = (A.V x j : EReal)) (hy : ∀ x j, y (ix2 x j) = (A.Y x j : EReal))

include hl in
theorem rates_F (h : Fin 4) : logsF l (ix1 h) = (A.L 0 h : EReal) := (logsF_at l h).trans (hl 0 h)
include hl in
theorem rates_B (h : Fin 4) : logsB l (ix1 h) = (A.L 1 h : EReal) := (logsB_at l h).trans (hl 1 h)
include hv in
theorem values_is (x : Fin 8448) (j : Fin 512) : valuesOf v (ix2 x j) = (A.V x j : EReal) := (valuesOf_at v x j).trans (hv x j)

include hl hk hv hy in
theorem refQ_F : gradQ placesF (logsF l) y (valuesOf v) k = wide (A.dq 0) := wide_of _ _ fun x h a => gradQ_is placesF_at (rates_F hl) hk (values_is hv) hy x h a
include hl hk hv hy in
theorem refQ_B : gradQ placesB (logsB l) y (valuesOf v) k = wide (A.dq 1) := wide_of _ _ fun x h a => gradQ_is placesB_at (rates_B hl) hk (values_is hv) hy x h a
include hl hq hv hy in
theorem refK_F : gradK placesF (logsF l) y (valuesOf v) q = wide (A.dk 0) := wide_of _ _ fun x h a => gradK_is placesF_at (rates_F hl) hq (values_is hv) hy x h a
include hl hq hv hy in
theorem refK_B : gradK placesB (logsB l) y (valuesOf v) q = wide (A.dk 1) := wide_of _ _ fun x h a => gradK_is placesB_at (rates_B hl) hq (values_is hv) hy x h a
include hl hq hk hy in
theorem refV_F : gradV placesF (logsF l) y q k = wide (A.dv 0) := wide_of _ _ fun x h a => gradV_is placesF_at (rates_F hl) hq hk hy x h a
include hl hq hk hy in
theorem refV_B : gradV placesB (logsB l) y q k = wide (A.dv 1) := wide_of _ _ fun x h a => gradV_is placesB_at (rates_B hl) hq hk hy x h a

include hl hq hk hv hy in
theorem refL : gradLs (gradL placesF (logsF l) y (valuesOf v) q k) (gradL placesB (logsB l) y (valuesOf v) q k) = thin (lanes A) :=
  thin_of _ _ fun j => by
    rw [gradLs_at]
    unfold lanes
    by_cases h8 : j.val < 8
    · rw [dif_pos h8, dif_pos h8]
      by_cases h4 : j.val < 4
      · rw [dif_pos h4, gradL_is placesF_at (rates_F hl) hq hk (values_is hv) hy]
        congr 2
        · exact Fin.ext (by show 0 = j.val / 4; omega)
        · exact Fin.ext (by show j.val = j.val % 4; omega)
      · rw [dif_neg h4, gradL_is placesB_at (rates_B hl) hq hk (values_is hv) hy]
        congr 2
        · exact Fin.ext (by show 1 = j.val / 4; omega)
        · exact Fin.ext (by show j.val - 4 = j.val % 4; omega)
    · rw [dif_neg h8, dif_neg h8]
      simp
end

/-- The reference runs and leaves the gradients of the data that its arguments hold. -/
theorem run_data (m : (ℓ : Loc nD τ sig) → Buf (Elt Ideal) ℓ) (ρ : Dev nD → PrngReg) (A : Dev nD → Data) (hA : ∀ c, IsData m c (A c)) :
    θ_run (defs (F := Ideal)) (onTc (τ := τ) (main (F := Ideal))) ⟨m, fun _ => 0, ρ⟩ fun r => ∀ c : Dev nD,
      r.2.mem ((c.tc : Thread nD τ).loc main_v54) = wide ((A c).dq 0) ∧ r.2.mem ((c.tc : Thread nD τ).loc main_v53) = wide ((A c).dk 0)
      ∧ r.2.mem ((c.tc : Thread nD τ).loc main_v52) = wide ((A c).dv 0) ∧ r.2.mem ((c.tc : Thread nD τ).loc main_v113) = wide ((A c).dq 1)
      ∧ r.2.mem ((c.tc : Thread nD τ).loc main_v112) = wide ((A c).dk 1) ∧ r.2.mem ((c.tc : Thread nD τ).loc main_v111) = wide ((A c).dv 1)
      ∧ r.2.mem ((c.tc : Thread nD τ).loc main_v116) = thin (lanes (A c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, h3, h4, h5, h6, hr⟩ := h c
    have a := hA c
    exact ⟨h0.trans (refQ_F a.l a.k a.v a.y), h1.trans (refK_F a.l a.q a.v a.y), h2.trans (refV_F a.l a.q a.k a.y),
      h3.trans (refQ_B a.l a.k a.v a.y), h4.trans (refK_B a.l a.q a.v a.y), h5.trans (refV_B a.l a.q a.k a.y),
      h6.trans (refL a.l a.q a.k a.v a.y), hr⟩) (Cert.ReferenceIdeal.Value.run (F := Ideal) m ρ)

end Cert.ReferenceIdeal.Own
-- ==== Proof.Finite.lean ====
module

public import proofs.«01_k».proof.Defs
public import proofs.«01_k».proof.Proof.HostVals
public import Idealize.ShloMosaic.Lib.ReduceAll

@[expose] public section

set_option maxRecDepth 16384

noncomputable section

namespace Cert.Finite

open Idealize.ShloMosaic Idealize.ShloMosaic.TcCoe
open Cert.Retention Cert.Pre_all_finite

/-- The shapes that the precondition names fit. -/
theorem facts : Cert.Pre_all_finite.Facts where
  bcast_S_S8448x512 := by decide
  reducesTo_S8448x512_S_d0_1 := by decide
  h_S_ := by decide
  slices_S8448x7680_S8448x512_0_6144 := by decide
  bcast_S_S2x4 := by decide
  reducesTo_S2x4_S_d0_1 := by decide

theorem word_inf : Ideal.ofBits .f32 0x7F800000#32 = (⊤ : EReal) := by
  simp [Ideal.ofBits, Ideal.ieee]

/-- A value whose size is below infinity is a real. -/
theorem real_of {x : EReal} (h : FloatOps.cmpf (F := Ideal) (φ := .f32) .olt (FloatOps.absf (F := Ideal) (φ := .f32) x) (Ideal.ofBits .f32 0x7F800000#32) = 1#1) : x = ((x.toReal : ℝ) : EReal) := by
  rw [word_inf] at h
  refine (EReal.coe_toReal ?_ ?_).symm
  · rintro rfl
    simp [FloatOps.cmpf, FloatOps.absf, Ideal.cmp] at h
  · rintro rfl
    simp [FloatOps.cmpf, FloatOps.absf, Ideal.cmp] at h

/-- Every entry of an array is a real if they all are below infinity in size. -/
theorem reals_of {s : Shape} {axes : List (Fin s.rank)} (x : FVec Ideal s .f32) (b : S_.BroadcastsInDim s (![] : Fin 0 → Fin s.rank)) (r : s.ReducesTo axes S_) (hu : 0 < S_.numel) (j : S_.Idx)
    (h : Host.reduce IntOp.andi (cmpf .olt (Host.absf x) (broadcastInDim s ![] b (constant S_ .f32 0x7F800000#32))) (constantI S_ 1 1#1) r hu j = 1#1) (i : s.Idx) :
    x i = ((EReal.toReal (x i) : ℝ) : EReal) :=
  real_of (Host.reduce_andi_all _ _ _ _ j h i)

/-- The data of one device's arguments. -/
def dataOf (q k : FVec Ideal S8448x512 .f32) (v : FVec Ideal S8448x7680 .f32) (l : FVec Ideal S2x4 .f32) (y : FVec Ideal S8448x512 .f32) : Data where
  Q x j := EReal.toReal (q (ix2 x j))
  K x j := EReal.toReal (k (ix2 x j))
  V x j := EReal.toReal (v (ix2 x ⟨6144 + j.val, by omega⟩))
  Y x j := EReal.toReal (y (ix2 x j))
  L d h := EReal.toReal (l (ix2 d h))

/-- Under the precondition every entry that either program reads is a real. -/
theorem reals [Facts] (q k : FVec Ideal S8448x512 .f32) (v : FVec Ideal S8448x7680 .f32) (l : FVec Ideal S2x4 .f32) (y : FVec Ideal S8448x512 .f32)
    (h : fn (F := Ideal) q k v l y = fun _ => 1#1) :
    (∀ i, q i = ((EReal.toReal (q i) : ℝ) : EReal)) ∧ (∀ i, k i = ((EReal.toReal (k i) : ℝ) : EReal))
    ∧ (∀ i, extractStridedSlice S8448x512 ![0, 6144] v Facts.slices_S8448x7680_S8448x512_0_6144 i = ((EReal.toReal (extractStridedSlice S8448x512 ![0, 6144] v Facts.slices_S8448x7680_S8448x512_0_6144 i) : ℝ) : EReal))
    ∧ (∀ i, l i = ((EReal.toReal (l i) : ℝ) : EReal)) ∧ (∀ i, y i = ((EReal.toReal (y i) : ℝ) : EReal)) := by
  have e := congrFun h ix0
  unfold fn fn_part1 at e
  obtain ⟨e, ey⟩ := IntOp.andi_eq_one.1 e
  obtain ⟨e, el⟩ := IntOp.andi_eq_one.1 e
  obtain ⟨e, ev⟩ := IntOp.andi_eq_one.1 e
  obtain ⟨eq, ek⟩ := IntOp.andi_eq_one.1 e
  exact ⟨reals_of _ _ _ _ _ eq, reals_of _ _ _ _ _ ek, reals_of _ _ _ _ _ ev, reals_of _ _ _ _ _ el, reals_of _ _ _ _ _ ey⟩

/-- The data of a device of the kernel's, under the precondition. -/
theorem isData [Facts] (m : (ℓ : Loc Cert.KernelIdeal.nD Cert.KernelIdeal.τ Cert.KernelIdeal.sig) → Buf (Elt Ideal) ℓ) (h : Cert.Pre_KernelIdeal_all_finite m) (c : Dev Cert.KernelIdeal.nD) :
    Cert.KernelIdeal.Own.IsData m c (dataOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4))) := by
  obtain ⟨hq, hk, hv, hl, hy⟩ := reals _ _ _ _ _ (h c)
  refine ⟨fun x j => hq _, fun x j => hk _, fun x j => ?_, fun d h => hl _, fun x j => hy _⟩
  have e := hv (ix2 x j)
  generalize m ((c.tc : Thread Cert.KernelIdeal.nD Cert.KernelIdeal.τ).loc Cert.KernelIdeal.main_arg2) = v at e ⊢
  have p : extractStridedSlice S8448x512 ![0, 6144] v Facts.slices_S8448x7680_S8448x512_0_6144 (ix2 x j) = v (ix2 x ⟨6144 + j.val, by omega⟩) := by
    pointwise
  rw [p] at e
  exact e

end Cert.Finite
-- ==== Proof.Squared.lean ====
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Kernel2Ideal.Own

open Idealize.ShloMosaic Idealize.ShloMosaic.TcCoe Idealize.SL.Sem
open Cert.Kernel2Ideal.Gen

/-- The gradient before the squared ReLU: the gradient after it, times twice the positive part. -/
def grad (y : FVec Ideal S8448x1024 .bf16) (w : FVec Ideal S4096x1024 .bf16) (a : FVec Ideal S8448x4096 .bf16) : FVec Ideal S8448x4096 .bf16 := fun i =>
  ((∑ k : Fin 1024, (y (ix2 (i 0) k) : EReal) * w (ix2 (i 1) k)) * (2 * max (a i : EReal) 0) : EReal)

/-- The word of 2. -/
theorem word_2 : Ideal.ofBits .f32 0x40000000#32 = (2 : EReal) := by
  have : Ideal.ofBits .f32 0x40000000#32 = ((2 : ℝ) : EReal) := by
    simp [Ideal.ofBits, Ideal.ieee, -EReal.coe_mul]; norm_num
  exact this

/-- A block that a point stores, at an index. -/
theorem block_at (x0 : Vec Ideal S768x1024 .bf16) (x1 : Vec Ideal S2048x1024 .bf16) (x2 : Vec Ideal S768x2048 .bf16) (i : Fin 768) (j : Fin 2048) :
    out0_3 x0 x1 x2 (ix2 i j) = ((∑ k : Fin 1024, (x0 (ix2 i k) : EReal) * x1 (ix2 j k)) * (2 * max (x2 (ix2 i j) : EReal) 0) : EReal) := by
  have hz (s : Shape) (h : s.rank = 2) : (![0, 0] : Fin 2 → Nat) = fun _ => 0 := funext fun a => by fin_cases a <;> rfl
  unfold out0_3
  rw [View.canon_unit_zero (hz S768x2048 rfl), View.ld_unit_zero (hz S768x1024 rfl), View.ld_unit_zero (hz S2048x1024 rfl), View.ld_unit_zero (hz S768x2048 rfl)]
  unfold k0_pay1
  pointwise
  rw [word_2]

/-- The blocks of the windows at every point. -/
theorem idx : ∀ t : Fin cfg0.N, win0_0.index t = ![t.val % 11, 0] ∧ win0_1.index t = ![t.val / 11, 0] ∧ win0_2.index t = ![t.val % 11, t.val / 11] ∧ win0_3.index t = ![t.val % 11, t.val / 11] :=
  (by decide +kernel : ∀ t : Fin grid0.N, _)

/-- An index of a block, by its row and column. -/
theorem exists_ix (y : S768x2048.Idx) : ∃ (i : Fin 768) (j : Fin 2048), y = ix2 i j :=
  ⟨y 0, y 1, by
    funext a
    match a with
    | ⟨0, _⟩ => rfl
    | ⟨1, _⟩ => rfl⟩

variable (m : (ℓ : Loc nD τ sig) → Buf (Elt Ideal) ℓ) (c : Dev nD)

/-- The array that the run leaves. -/
theorem out_is : (dats m 0 c).arrAt 3 cfg0.N = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  dsimp only [dats]
  obtain ⟨i, j, rfl⟩ := exists_ix y
  refine (block_at _ _ _ i j).trans ?_
  have ht : t.val < 22 := t.isLt
  have e0 (k : Fin 1024) : iblk m c 0 t (ix2 i k) = m ((c : Thread nD τ).loc main_arg0) (ix2 ⟨t.val % 11 * 768 + i.val, by omega⟩ k) := by
    blk_ext! [iblk, V, idx t]
  have e1 (k : Fin 1024) : iblk m c 1 t (ix2 j k) = m ((c : Thread nD τ).loc main_arg1) (ix2 ⟨t.val / 11 * 2048 + j.val, by omega⟩ k) := by
    blk_ext! [iblk, V, idx t]
  have e2 : iblk m c 2 t (ix2 i j) = m ((c : Thread nD τ).loc main_arg2) (ix2 ⟨t.val % 11 * 768 + i.val, by omega⟩ ⟨t.val / 11 * 2048 + j.val, by omega⟩) := by
    blk_ext! [iblk, V, idx t]
  simp only [e0, e1, e2]
  show grad _ _ _ (ix2 ⟨t.val % 11 * 768 + i.val, by omega⟩ ⟨t.val / 11 * 2048 + j.val, by omega⟩) = _
  generalize grad _ _ _ = f
  blk_ext! [idx t]

/-- The kernel leaves the gradient and its arguments as they were. -/
theorem kernel_leaves (ρ : Dev nD → PrngReg) : θ_run defs (onTc (τ := τ) (main (F := Ideal))) ⟨m, fun _ => 0, ρ⟩ fun r => ∀ c : Dev nD,
    r.2.mem ((c : Thread nD τ).loc main_v0) = grad (m ((c : Thread nD τ).loc main_arg0)) (m ((c : Thread nD τ).loc main_arg1)) (m ((c : Thread nD τ).loc main_arg2))
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨(h c).1.trans (out_is m c), (h c).2⟩) (Value.run_blocks m ρ)

end Cert.Kernel2Ideal.Own

namespace Cert.Reference2Ideal.Own

open Idealize.ShloMosaic Idealize.ShloMosaic.TcCoe Idealize.SL.Sem
open Cert.Reference2Ideal.Gen

/-- A number and itself. -/
theorem double (x : EReal) : x + x = 2 * x := by
  rw [show (2 : EReal) = ((2 : ℝ) : EReal) from rfl]
  induction x with
  | bot => rw [EReal.coe_mul_bot_of_pos two_pos]; rfl
  | top => rw [EReal.coe_mul_top_of_pos two_pos]; rfl
  | coe x => rw [← EReal.coe_mul, ← EReal.coe_add, two_mul]

/-- The derivative of a square of a positive part, with the two terms of the square apart. -/
theorem twice (x a : EReal) : (if 0 < a then max a 0 * x + x * max a 0 else 0) = x * (2 * max a 0) := by
  split_ifs with h
  · rw [max_eq_left h.le, mul_comm a x, mul_left_comm x 2 a, double]
  · rw [max_eq_right (not_lt.1 h), mul_zero, mul_zero]

/-- The reference leaves the gradient too. -/
theorem reference_leaves (m : (ℓ : Loc nD τ sig) → Buf (Elt Ideal) ℓ) (ρ : Dev nD → PrngReg) : θ_run defs (onTc (τ := τ) (main (F := Ideal))) ⟨m, fun _ => 0, ρ⟩ fun r => ∀ c : Dev nD,
    r.2.mem ((c : Thread nD τ).loc main_v15) = Cert.Kernel2Ideal.Own.grad (m ((c : Thread nD τ).loc main_arg0)) (m ((c : Thread nD τ).loc main_arg1)) (m ((c : Thread nD τ).loc main_arg2))
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) := by
  refine (θ_run defs _ _).mono (fun r h c => ⟨(h c).1.trans ?_, (h c).2⟩) (Value.run m ρ)
  generalize m ((c : Thread nD τ).loc main_arg0) = x
  generalize m ((c : Thread nD τ).loc main_arg1) = w
  generalize m ((c : Thread nD τ).loc main_arg2) = a
  funext y
  obtain ⟨i, j, rfl⟩ : ∃ (i : Fin 8448) (j : Fin 4096), y = ix2 i j := ⟨y 0, y 1, by
    funext a
    match a with
    | ⟨0, _⟩ => rfl
    | ⟨1, _⟩ => rfl⟩
  pointwise
  exact twice _ _

end Cert.Reference2Ideal.Own

end
-- ==== Proof.Hidden.lean ====
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Kernel3Ideal.Own

open Idealize.ShloMosaic Idealize.ShloMosaic.TcCoe Idealize.SL.Sem
open Cert.Kernel3Ideal.Gen

/-- The gradient of a product's left factor: the gradient of the product, times the right factor transposed. -/
def grad (y : FVec Ideal S8448x4096 .bf16) (w : FVec Ideal S1024x4096 .bf16) : FVec Ideal S8448x1024 .f32 := fun i =>
  (∑ k : Fin 4096, (y (ix2 (i 0) k) : EReal) * w (ix2 (i 1) k) : EReal)

/-- A block that a point stores, at an index. -/
theorem block_at (x0 : Vec Ideal S768x4096 .bf16) (x1 : Vec Ideal S1024x4096 .bf16) (i : Fin 768) (j : Fin 1024) :
    out0_2 x0 x1 (ix2 i j) = (∑ k : Fin 4096, (x0 (ix2 i k) : EReal) * x1 (ix2 j k) : EReal) := by
  have hz (s : Shape) (h : s.rank = 2) : (![0, 0] : Fin 2 → Nat) = fun _ => 0 := funext fun a => by fin_cases a <;> rfl
  unfold out0_2
  rw [View.canon_unit_zero (hz S768x1024 rfl), View.ld_unit_zero (hz S768x4096 rfl), View.ld_unit_zero (hz S1024x4096 rfl)]
  unfold k0_pay1
  pointwise

/-- The blocks of the windows at every point. -/
theorem idx : ∀ t : Fin cfg0.N, win0_0.index t = ![t.val % 11, 0] ∧ win0_1.index t = ![t.val / 11, 0] ∧ win0_2.index t = ![t.val % 11, t.val / 11] :=
  (by decide +kernel : ∀ t : Fin grid0.N, _)

/-- An index of a block, by its row and column. -/
theorem exists_ix (y : S768x1024.Idx) : ∃ (i : Fin 768) (j : Fin 1024), y = ix2 i j :=
  ⟨y 0, y 1, by
    funext a
    match a with
    | ⟨0, _⟩ => rfl
    | ⟨1, _⟩ => rfl⟩

variable (m : (ℓ : Loc nD τ sig) → Buf (Elt Ideal) ℓ) (c : Dev nD)

/-- The array that the run leaves. -/
theorem out_is : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  dsimp only [dats]
  obtain ⟨i, j, rfl⟩ := exists_ix y
  refine (block_at _ _ i j).trans ?_
  have ht : t.val < 11 := t.isLt
  have e0 (k : Fin 4096) : iblk m c 0 t (ix2 i k) = m ((c : Thread nD τ).loc main_arg0) (ix2 ⟨t.val % 11 * 768 + i.val, by omega⟩ k) := by
    blk_ext! [iblk, V, idx t]
  have e1 (k : Fin 4096) : iblk m c 1 t (ix2 j k) = m ((c : Thread nD τ).loc main_arg1) (ix2 ⟨t.val / 11 * 1024 + j.val, by omega⟩ k) := by
    blk_ext! [iblk, V, idx t]
  simp only [e0, e1]
  show grad _ _ (ix2 ⟨t.val % 11 * 768 + i.val, by omega⟩ ⟨t.val / 11 * 1024 + j.val, by omega⟩) = _
  generalize grad _ _ = f
  blk_ext! [idx t]

/-- The kernel leaves the gradient and its arguments as they were. -/
theorem kernel_leaves (ρ : Dev nD → PrngReg) : θ_run defs (onTc (τ := τ) (main (F := Ideal))) ⟨m, fun _ => 0, ρ⟩ fun r => ∀ c : Dev nD,
    r.2.mem ((c : Thread nD τ).loc main_v0) = grad (m ((c : Thread nD τ).loc main_arg0)) (m ((c : Thread nD τ).loc main_arg1))
    ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (out_is m c), (h c).2⟩) (Value.run_blocks m ρ)

end Cert.Kernel3Ideal.Own

namespace Cert.Reference3Ideal.Own

open Idealize.ShloMosaic Idealize.ShloMosaic.TcCoe Idealize.SL.Sem
open Cert.Reference3Ideal.Gen

/-- The reference leaves the gradient too. -/
theorem reference_leaves (m : (ℓ : Loc nD τ sig) → Buf (Elt Ideal) ℓ) (ρ : Dev nD → PrngReg) : θ_run defs (onTc (τ := τ) (main (F := Ideal))) ⟨m, fun _ => 0, ρ⟩ fun r => ∀ c : Dev nD,
    r.2.mem ((c : Thread nD τ).loc main_v4) = Cert.Kernel3Ideal.Own.grad (m ((c : Thread nD τ).loc main_arg0)) (m ((c : Thread nD τ).loc main_arg1))
    ∧ r.2.mem ((c : Thread nD τ).loc main_arg0) = m ((c : Thread nD τ).loc main_arg0) ∧ r.2.mem ((c : Thread nD τ).loc main_arg1) = m ((c : Thread nD τ).loc main_arg1) := by
  refine (θ_run defs _ _).mono (fun r h c => ⟨(h c).1.trans ?_, (h c).2⟩) (Value.run m ρ)
  generalize m ((c : Thread nD τ).loc main_arg0) = x
  generalize m ((c : Thread nD τ).loc main_arg1) = w
  funext y
  obtain ⟨i, j, rfl⟩ : ∃ (i : Fin 8448) (j : Fin 1024), y = ix2 i j := ⟨y 0, y 1, by
    funext a
    match a with
    | ⟨0, _⟩ => rfl
    | ⟨1, _⟩ => rfl⟩
  pointwise
  rfl

end Cert.Reference3Ideal.Own
-- ==== Proof.Inputs.lean ====
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.Kernel4Ideal.Own

open Idealize.ShloMosaic Idealize.ShloMosaic.TcCoe Idealize.SL.Sem
open Cert.Kernel4Ideal.Gen

/-- The gradient of a product's left factor: the gradient of the product, times the right factor transposed. -/
def grad (y : FVec Ideal S8448x7680 .bf16) (w : FVec Ideal S1024x7680 .bf16) : FVec Ideal S8448x1024 .f32 := fun i =>
  (∑ k : Fin 7680, (y (ix2 (i 0) k) : EReal) * w (ix2 (i 1) k) : EReal)

/-- A block that a point stores, at an index. -/
theorem block_at (x0 : Vec Ideal S768x7680 .bf16) (x1 : Vec Ideal S1024x7680 .bf16) (i : Fin 768) (j : Fin 1024) :
    out0_2 x0 x1 (ix2 i j) = (∑ k : Fin 7680, (x0 (ix2 i k) : EReal) * x1 (ix2 j k) : EReal) := by
  have hz (s : Shape) (h : s.rank = 2) : (![0, 0] : Fin 2 → Nat) = fun _ => 0 := funext fun a => by fin_cases a <;> rfl
  unfold out0_2
  rw [View.canon_unit_zero (hz S768x1024 rfl), View.ld_unit_zero (hz S768x7680 rfl), View.ld_unit_zero (hz S1024x7680 rfl)]
  unfold k0_pay1
  pointwise

/-- The blocks of the windows at every point. -/
theorem idx : ∀ t : Fin cfg0.N, win0_0.index t = ![t.val % 11, 0] ∧ win0_1.index t = ![t.val / 11, 0] ∧ win0_2.index t = ![t.val % 11, t.val / 11] :=
  (by decide +kernel : ∀ t : Fin grid0.N, _)

/-- An index of a block, by its row and column. -/
theorem exists_ix (y : S768x1024.Idx) : ∃ (i : Fin 768) (j : Fin 1024), y = ix2 i j :=
  ⟨y 0, y 1, by
    funext a
    match a with
    | ⟨0, _⟩ => rfl
    | ⟨1, _⟩ => rfl⟩

variable (m : (ℓ : Loc nD τ sig) → Buf (Elt Ideal) ℓ) (c : Dev nD)

/-- The array that the run leaves. -/
theorem out_is : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  dsimp only [dats]
  obtain ⟨i, j, rfl⟩ := exists_ix y
  refine (block_at _ _ i j).trans ?_
  have ht : t.val < 11 := t.isLt
  have e0 (k : Fin 7680) : iblk m c 0 t (ix2 i k) = m ((c : Thread nD τ).loc main_arg0) (ix2 ⟨t.val % 11 * 768 + i.val, by omega⟩ k) := by
    blk_ext! [iblk, V, idx t]
  have e1 (k : Fin 7680) : iblk m c 1 t (ix2 j k) = m ((c : Thread nD τ).loc main_arg1) (ix2 ⟨t.val / 11 * 1024 + j.val, by omega⟩ k) := by
    blk_ext! [iblk, V, idx t]
  simp only [e0, e1]
  show grad _ _ (ix2 ⟨t.val % 11 * 768 + i.val, by omega⟩ ⟨t.val / 11 * 1024 + j.val, by omega⟩) = _
  generalize grad _ _ = f
  blk_ext! [idx t]

/-- The kernel leaves the gradient and its arguments as they were. -/
theorem kernel_leaves (ρ : Dev nD → PrngReg) : θ_run defs (onTc (τ := τ) (main (F := Ideal))) ⟨m, fun _ => 0, ρ⟩ fun r => ∀ c : Dev nD,
    r.2.mem ((c : Thread nD τ).loc main_v0) = grad (m ((c : Thread nD τ).loc main_arg0)) (m ((c : Thread nD τ).loc main_arg1))
    ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (out_is m c), (h c).2⟩) (Value.run_blocks m ρ)

end Cert.Kernel4Ideal.Own

namespace Cert.Reference4Ideal.Own

open Idealize.ShloMosaic Idealize.ShloMosaic.TcCoe Idealize.SL.Sem
open Cert.Reference4Ideal.Gen

/-- The reference leaves the gradient too. -/
theorem reference_leaves (m : (ℓ : Loc nD τ sig) → Buf (Elt Ideal) ℓ) (ρ : Dev nD → PrngReg) : θ_run defs (onTc (τ := τ) (main (F := Ideal))) ⟨m, fun _ => 0, ρ⟩ fun r => ∀ c : Dev nD,
    r.2.mem ((c : Thread nD τ).loc main_v4) = Cert.Kernel4Ideal.Own.grad (m ((c : Thread nD τ).loc main_arg0)) (m ((c : Thread nD τ).loc main_arg1))
    ∧ r.2.mem ((c : Thread nD τ).loc main_arg0) = m ((c : Thread nD τ).loc main_arg0) ∧ r.2.mem ((c : Thread nD τ).loc main_arg1) = m ((c : Thread nD τ).loc main_arg1) := by
  refine (θ_run defs _ _).mono (fun r h c => ⟨(h c).1.trans ?_, (h c).2⟩) (Value.run m ρ)
  generalize m ((c : Thread nD τ).loc main_arg0) = x
  generalize m ((c : Thread nD τ).loc main_arg1) = w
  funext y
  obtain ⟨i, j, rfl⟩ : ∃ (i : Fin 8448) (j : Fin 1024), y = ix2 i j := ⟨y 0, y 1, by
    funext a
    match a with
    | ⟨0, _⟩ => rfl
    | ⟨1, _⟩ => rfl⟩
  pointwise
  rfl

end Cert.Reference4Ideal.Own
-- ==== Proof.Thirds.lean ====
module

public import Mathlib.Data.EReal.Basic
public import Mathlib.Algebra.BigOperators.Fin

@[expose] public section

namespace Cert.Thirds

/-- A sum over the rows, a third at a time. -/
theorem sum_thirds (f : Fin 8448 → EReal) : ∑ k, f k
    = (∑ k : Fin 2816, f ⟨0 * 2816 + k.val, by omega⟩) + (∑ k : Fin 2816, f ⟨1 * 2816 + k.val, by omega⟩) + ∑ k : Fin 2816, f ⟨2 * 2816 + k.val, by omega⟩ := by
  refine (Fin.sum_univ_add (a := 5632) (b := 2816) f).trans ?_
  refine congrArg₂ (· + ·) ((Fin.sum_univ_add (a := 2816) (b := 2816) _).trans (congrArg₂ (· + ·) ?_ ?_)) ?_
  · exact Finset.sum_congr rfl fun k _ => congrArg f (Fin.ext (by simp))
  · exact Finset.sum_congr rfl fun k _ => congrArg f (Fin.ext (by simp [Nat.add_comm]))
  · exact Finset.sum_congr rfl fun k _ => congrArg f (Fin.ext (by simp))

end Cert.Thirds
-- ==== Proof.WeightIn.lean ====
module

public import proofs.«01_k».proof.Proof.Gen.Kernel5Ideal.Value
public import proofs.«01_k».proof.Proof.Gen.Reference5Ideal.Run
public import proofs.«01_k».proof.Proof.Thirds
public import Idealize.ShloMosaic.Lib.Pipeline.ValueKit

@[expose] public section

set_option maxRecDepth 16384

noncomputable section

namespace Cert.Kernel5Ideal.Own

open Idealize.ShloMosaic Idealize.ShloMosaic.TcCoe Idealize.SL.Sem
open Cert.Kernel5Ideal.Gen

/-- The gradient of a weight: the input transposed, times the gradient of the product. -/
def grad (x : FVec Ideal S8448x1024 .bf16) (y : FVec Ideal S8448x7680 .bf16) : FVec Ideal S1024x7680 .bf16 := fun i =>
  (∑ k : Fin 8448, (x (ix2 k (i 0)) : EReal) * y (ix2 k (i 1)) : EReal)

/-- What one block of rows adds. -/
def part (x0 : Vec Ideal S2816x1024 .bf16) (x1 : Vec Ideal S2816x1280 .bf16) : Vec Ideal S1024x1280 .f32 := fun y =>
  (∑ k : Fin 2816, (x0 (ix2 k (y 0)) : EReal) * x1 (ix2 k (y 1)) : EReal)

/-- A third of the sum over the rows. -/
def third (x : FVec Ideal S8448x1024 .bf16) (y : FVec Ideal S8448x7680 .bf16) (q : Nat) (hq : q < 3) (i : Fin 1024) (j : Fin 7680) : EReal :=
  ∑ k : Fin 2816, (x (ix2 ⟨q * 2816 + k.val, by omega⟩ i) : EReal) * y (ix2 ⟨q * 2816 + k.val, by omega⟩ j)

/-- The thirds make the sum. -/
theorem thirds (x : FVec Ideal S8448x1024 .bf16) (y : FVec Ideal S8448x7680 .bf16) (i : Fin 1024) (j : Fin 7680) :
    (third x y 0 (by decide) i j + third x y 1 (by decide) i j) + third x y 2 (by decide) i j = ∑ k : Fin 8448, (x (ix2 k i) : EReal) * y (ix2 k j) :=
  (Cert.Thirds.sum_thirds fun k => (x (ix2 k i) : EReal) * y (ix2 k j)).symm

theorem hz : (![0, 0] : Fin 2 → Nat) = fun _ => 0 := funext fun a => by fin_cases a <;> rfl

/-- An index of the sum, by its row and column. -/
theorem exists_ix (y : S1024x1280.Idx) : ∃ (i : Fin 1024) (j : Fin 1280), y = ix2 i j :=
  ⟨y 0, y 1, by
    funext a
    match a with
    | ⟨0, _⟩ => rfl
    | ⟨1, _⟩ => rfl⟩

/-- The product of two blocks. -/
theorem product (x0 : Vec Ideal S2816x1024 .bf16) (x1 : Vec Ideal S2816x1280 .bf16) : k0_pay1 x0 x1 = part x0 x1 := by
  funext y
  obtain ⟨i, j, rfl⟩ := exists_ix y
  unfold k0_pay1
  pointwise
  rfl

/-- The first block of rows starts the sum. -/
theorem acc_A (c : Dev nD) (i : grid0.Coords) (arg3 : Memref sig .tc .vmem S2816x1024 .bf16) (harg3 : arg3.IsWhole) (arg4 : Memref sig .tc .vmem S2816x1280 .bf16) (harg4 : arg4.IsWhole) (arg5 : Memref sig .tc .vmem S1024x1280 .bf16) (harg5 : arg5.IsWhole) (arg6 : Memref sig .tc .vmem S1024x1280 .f32) (harg6 : arg6.IsWhole) (hc0 : cond0_0 i) (hc1 : ¬cond0_1 i) (hc2 : ¬cond0_2 i)
    (x0 : Vec Ideal S2816x1024 .bf16) (x1 : Vec Ideal S2816x1280 .bf16) :
    sout0_A_0 c i arg3 harg3 arg4 harg4 arg5 harg5 arg6 harg6 hc0 hc1 hc2 x0 x1 = part x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  unfold k0_pay2
  simp only [View.readAt_eq_ld, harg3.read_unread, harg4.read_unread, View.ld_unit_zero (S := S2816x1024) hz, View.ld_unit_zero (S := S2816x1280) hz, shapeCast_self]
  exact product x0 x1

/-- The next one adds its product. -/
theorem acc_B (c : Dev nD) (i : grid0.Coords) (arg3 : Memref sig .tc .vmem S2816x1024 .bf16) (harg3 : arg3.IsWhole) (arg4 : Memref sig .tc .vmem S2816x1280 .bf16) (harg4 : arg4.IsWhole) (arg5 : Memref sig .tc .vmem S1024x1280 .bf16) (harg5 : arg5.IsWhole) (arg6 : Memref sig .tc .vmem S1024x1280 .f32) (harg6 : arg6.IsWhole) (hc0 : ¬cond0_0 i) (hc1 : cond0_1 i) (hc2 : ¬cond0_2 i)
    (x0 : Vec Ideal S2816x1024 .bf16) (x1 : Vec Ideal S2816x1280 .bf16) (xs0 : Vec Ideal S1024x1280 .f32) :
    sout0_B_0 c i arg3 harg3 arg4 harg4 arg5 harg5 arg6 harg6 hc0 hc1 hc2 x0 x1 xs0 = fun y => (xs0 y + part x0 x1 y : EReal) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero hz]
  unfold k0_pay3
  simp only [View.readAt_eq_ld, harg3.read_unread, harg4.read_unread, harg6.read_unread, View.ld_unit_zero (S := S2816x1024) hz, View.ld_unit_zero (S := S2816x1280) hz, View.ld_unit_zero (S := S1024x1280) hz, shapeCast_self]
  rw [product x0 x1]
  rfl

/-- The last one adds its product and stores the sum. -/
theorem out_C (c : Dev nD) (i : grid0.Coords) (arg3 : Memref sig .tc .vmem S2816x1024 .bf16) (harg3 : arg3.IsWhole) (arg4 : Memref sig .tc .vmem S2816x1280 .bf16) (harg4 : arg4.IsWhole) (arg5 : Memref sig .tc .vmem S1024x1280 .bf16) (harg5 : arg5.IsWhole) (arg6 : Memref sig .tc .vmem S1024x1280 .f32) (harg6 : arg6.IsWhole) (hc0 : ¬cond0_0 i) (hc1 : cond0_1 i) (hc2 : cond0_2 i)
    (x0 : Vec Ideal S2816x1024 .bf16) (x1 : Vec Ideal S2816x1280 .bf16) (xs0 : Vec Ideal S1024x1280 .f32)
    (i' : Fin 1024) (j : Fin 1280) : out0_C_2 c i arg3 harg3 arg4 harg4 arg5 harg5 arg6 harg6 hc0 hc1 hc2 x0 x1 xs0 (ix2 i' j) = (xs0 (ix2 i' j) + part x0 x1 (ix2 i' j) : EReal) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz]
  simp only [View.readCov_unit_zero (S := S1024x1280) _ hz]
  unfold k0_pay4 k0_pay3
  simp only [View.readAt_eq_ld, harg3.read_unread, harg4.read_unread, harg6.read_unread, View.ld_unit_zero (S := S2816x1024) hz, View.ld_unit_zero (S := S2816x1280) hz, View.ld_unit_zero (S := S1024x1280) hz, shapeCast_self]
  rw [product x0 x1]
  rfl

/-- The blocks of the windows at every point. -/
theorem idx : ∀ t : Fin cfg0.N, win0_0.index t = ![t.val % 3, 0] ∧ win0_1.index t = ![t.val % 3, t.val / 3] ∧ win0_2.index t = ![0, t.val / 3] :=
  (by decide +kernel : ∀ t : Fin grid0.N, _)

variable (m : (ℓ : Loc nD τ sig) → Buf (Elt Ideal) ℓ) (c : Dev nD)

/-- What a point adds to the sum, at an index. -/
theorem part_at (t : Fin cfg0.N) (i : Fin 1024) (j : Fin 1280) (q : Nat) (hq : t.val % 3 = q) (r : Nat) (hr : t.val / 3 = r) (hr6 : r < 6) (hq3 : q < 3) : part (iblk m c 0 t) (iblk m c 1 t) (ix2 i j)
    = third (m ((c : Thread nD τ).loc main_arg0)) (m ((c : Thread nD τ).loc main_arg1)) q hq3 i ⟨r * 1280 + j.val, by omega⟩ := by
  subst hq
  subst hr
  have e0 (k : Fin 2816) : iblk m c 0 t (ix2 k i) = m ((c : Thread nD τ).loc main_arg0) (ix2 ⟨t.val % 3 * 2816 + k.val, by omega⟩ i) := by
    blk_ext! [iblk, V, idx t]
  have e1 (k : Fin 2816) : iblk m c 1 t (ix2 k j) = m ((c : Thread nD τ).loc main_arg1) (ix2 ⟨t.val % 3 * 2816 + k.val, by omega⟩ ⟨t.val / 3 * 1280 + j.val, by omega⟩) := by
    blk_ext! [iblk, V, idx t]
  unfold part third
  exact Finset.sum_congr rfl fun k _ => congrArg₂ (fun (a b : EReal) => a * b) (e0 k) (e1 k)

/-- The array that the run leaves. -/
theorem out_is : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have hm : t.val % 3 = 2 := (flush0_2 t).mp hf
  have ht : t.val < 18 := lt_of_lt_of_eq t.isLt N_0
  blk_simp
  rw [after0_2, outsAt0_C m c t (by omega) (by omega) hm]
  dsimp only
  obtain ⟨i, j, rfl⟩ := exists_ix y
  refine (out_C _ _ _ _ _ _ _ _ _ _ _ _ _ _ _ _ i j).trans ?_
  have b1 : t.val - 1 < cfg0.N := Nat.lt_of_le_of_lt (Nat.sub_le _ _) t.isLt
  have b0 : t.val - 1 - 1 < cfg0.N := Nat.lt_of_le_of_lt (Nat.sub_le _ _) b1
  have h1 := outsAt0_B m c ⟨t.val - 1, b1⟩ (by show ¬(t.val - 1) % 3 = 0; omega) (by show 1 ≤ (t.val - 1) % 3; omega) (by show ¬(t.val - 1) % 3 = 2; omega)
  have h0 := outsAt0_A m c ⟨t.val - 1 - 1, b0⟩ (by show (t.val - 1 - 1) % 3 = 0; omega) (by show ¬1 ≤ (t.val - 1 - 1) % 3; omega) (by show ¬(t.val - 1 - 1) % 3 = 2; omega)
  rw [h1]
  dsimp only
  rw [acc_B]
  dsimp only at h0
  rw [h0]
  dsimp only
  rw [acc_A]
  show ((part _ _ (ix2 i j) + part _ _ (ix2 i j)) + part _ _ (ix2 i j) : EReal) = _
  rw [part_at m c ⟨t.val - 1 - 1, b0⟩ i j 0 (by show (t.val - 1 - 1) % 3 = 0; omega) (t.val / 3) (by show (t.val - 1 - 1) / 3 = t.val / 3; omega) (by omega) (by omega),
    part_at m c ⟨t.val - 1, b1⟩ i j 1 (by show (t.val - 1) % 3 = 1; omega) (t.val / 3) (by show (t.val - 1) / 3 = t.val / 3; omega) (by omega) (by omega),
    part_at m c t i j 2 hm (t.val / 3) rfl (by omega) (by omega)]
  refine (thirds _ _ _ _).trans ?_
  show grad (m ((c : Thread nD τ).loc main_arg0)) (m ((c : Thread nD τ).loc main_arg1)) (ix2 i ⟨t.val / 3 * 1280 + j.val, by omega⟩) = _
  generalize grad _ _ = f
  blk_ext! [idx t]

/-- The kernel leaves the gradient and its arguments as they were. -/
theorem kernel_leaves (ρ : Dev nD → PrngReg) : θ_run defs (onTc (τ := τ) (main (F := Ideal))) ⟨m, fun _ => 0, ρ⟩ fun r => ∀ c : Dev nD,
    r.2.mem ((c : Thread nD τ).loc main_v0) = grad (m ((c : Thread nD τ).loc main_arg0)) (m ((c : Thread nD τ).loc main_arg1))
    ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (out_is m c), (h c).2⟩) (Value.run_blocks m ρ)

end Cert.Kernel5Ideal.Own

namespace Cert.Reference5Ideal.Own

open Idealize.ShloMosaic Idealize.ShloMosaic.TcCoe Idealize.SL.Sem
open Cert.Reference5Ideal.Gen

/-- The reference leaves the gradient too. -/
theorem reference_leaves (m : (ℓ : Loc nD τ sig) → Buf (Elt Ideal) ℓ) (ρ : Dev nD → PrngReg) : θ_run defs (onTc (τ := τ) (main (F := Ideal))) ⟨m, fun _ => 0, ρ⟩ fun r => ∀ c : Dev nD,
    r.2.mem ((c : Thread nD τ).loc main_v6) = Cert.Kernel5Ideal.Own.grad (m ((c : Thread nD τ).loc main_arg0)) (m ((c : Thread nD τ).loc main_arg1))
    ∧ r.2.mem ((c : Thread nD τ).loc main_arg0) = m ((c : Thread nD τ).loc main_arg0) ∧ r.2.mem ((c : Thread nD τ).loc main_arg1) = m ((c : Thread nD τ).loc main_arg1) := by
  refine (θ_run defs _ _).mono (fun r h c => ⟨(h c).1.trans ?_, (h c).2⟩) (Value.run m ρ)
  generalize m ((c : Thread nD τ).loc main_arg0) = x
  generalize m ((c : Thread nD τ).loc main_arg1) = w
  funext y
  obtain ⟨i, j, rfl⟩ : ∃ (i : Fin 1024) (j : Fin 7680), y = ix2 i j := ⟨y 0, y 1, by
    funext a
    match a with
    | ⟨0, _⟩ => rfl
    | ⟨1, _⟩ => rfl⟩
  pointwise
  refine (Finset.sum_congr rfl fun k _ => mul_comm _ _).trans ?_
  rfl

end Cert.Reference5Ideal.Own

end
-- ==== Proof.WeightOne.lean ====
module

public import proofs.«01_k».proof.Proof.Gen.Kernel6Ideal.Value
public import proofs.«01_k».proof.Proof.Gen.Reference6Ideal.Run
public import proofs.«01_k».proof.Proof.Thirds
public import Idealize.ShloMosaic.Lib.Pipeline.ValueKit

@[expose] public section

set_option maxRecDepth 16384

noncomputable section

namespace Cert.Kernel6Ideal.Own

open Idealize.ShloMosaic Idealize.ShloMosaic.TcCoe Idealize.SL.Sem
open Cert.Kernel6Ideal.Gen

/-- The gradient of a weight, its columns in four parts: the input transposed, times the gradient of the product. -/
def grad (x : FVec Ideal S8448x1024 .bf16) (y : FVec Ideal S8448x4096 .bf16) : FVec Ideal S4x1024x1024 .bf16 := fun i =>
  (∑ k : Fin 8448, (x (ix2 k (i 1)) : EReal) * y (ix2 k ⟨(i 0).val * 1024 + (i 2).val, by have := (i 0).isLt; have := (i 2).isLt; dsimp at *; omega⟩) : EReal)

/-- What one block of rows adds. -/
def part (x0 : Vec Ideal S2816x1024 .bf16) (x1 : Vec Ideal S2816x1024 .bf16) : Vec Ideal S1024x1024 .f32 := fun y =>
  (∑ k : Fin 2816, (x0 (ix2 k (y 0)) : EReal) * x1 (ix2 k (y 1)) : EReal)

/-- A third of the sum over the rows. -/
def third (x : FVec Ideal S8448x1024 .bf16) (y : FVec Ideal S8448x4096 .bf16) (q : Nat) (hq : q < 3) (i : Fin 1024) (j : Fin 4096) : EReal :=
  ∑ k : Fin 2816, (x (ix2 ⟨q * 2816 + k.val, by omega⟩ i) : EReal) * y (ix2 ⟨q * 2816 + k.val, by omega⟩ j)

/-- The thirds make the sum. -/
theorem thirds (x : FVec Ideal S8448x1024 .bf16) (y : FVec Ideal S8448x4096 .bf16) (i : Fin 1024) (j : Fin 4096) :
    (third x y 0 (by decide) i j + third x y 1 (by decide) i j) + third x y 2 (by decide) i j = ∑ k : Fin 8448, (x (ix2 k i) : EReal) * y (ix2 k j) :=
  (Cert.Thirds.sum_thirds fun k => (x (ix2 k i) : EReal) * y (ix2 k j)).symm

theorem hz : (![0, 0] : Fin 2 → Nat) = fun _ => 0 := funext fun a => by fin_cases a <;> rfl

theorem hz3 : (![0, 0, 0] : Fin 3 → Nat) = fun _ => 0 := funext fun a => by fin_cases a <;> rfl

/-- An index of a block of the result, by its row and column. -/
theorem exists_ix3 (y : S1x1024x1024.Idx) : ∃ (i : Fin 1024) (j : Fin 1024), y = ix3 0 i j :=
  ⟨y 1, y 2, by
    funext a
    match a with
    | ⟨0, _⟩ => exact Fin.ext (by have : (y 0).val < 1 := (y 0).isLt; show (y 0).val = 0; omega)
    | ⟨1, _⟩ => rfl
    | ⟨2, _⟩ => rfl⟩

/-- An index of the sum, by its row and column. -/
theorem exists_ix (y : S1024x1024.Idx) : ∃ (i : Fin 1024) (j : Fin 1024), y = ix2 i j :=
  ⟨y 0, y 1, by
    funext a
    match a with
    | ⟨0, _⟩ => rfl
    | ⟨1, _⟩ => rfl⟩

/-- The product of two blocks. -/
theorem product (x0 : Vec Ideal S2816x1024 .bf16) (x1 : Vec Ideal S2816x1024 .bf16) : k0_pay1 x0 x1 = part x0 x1 := by
  funext y
  obtain ⟨i, j, rfl⟩ := exists_ix y
  unfold k0_pay1
  pointwise
  rfl

/-- The first block of rows starts the sum. -/
theorem acc_A (c : Dev nD) (i : grid0.Coords) (arg3 : Memref sig .tc .vmem S2816x1024 .bf16) (harg3 : arg3.IsWhole) (arg4 : Memref sig .tc .vmem S2816x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S2816x1024 .bf16) (x1 : Vec Ideal S2816x1024 .bf16) :
    sout0_A_0 c i arg3 harg3 arg4 harg4 arg5 harg5 arg6 harg6 hc0 hc1 hc2 x0 x1 = part x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  unfold k0_pay2
  simp only [View.readAt_eq_ld, harg3.read_unread, harg4.read_unread, View.ld_unit_zero (S := S2816x1024) hz, View.ld_unit_zero (S := S2816x1024) hz, shapeCast_self]
  exact product x0 x1

/-- The next one adds its product. -/
theorem acc_B (c : Dev nD) (i : grid0.Coords) (arg3 : Memref sig .tc .vmem S2816x1024 .bf16) (harg3 : arg3.IsWhole) (arg4 : Memref sig .tc .vmem S2816x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec Ideal S2816x1024 .bf16) (x1 : Vec Ideal S2816x1024 .bf16) (xs0 : Vec Ideal S1024x1024 .f32) :
    sout0_B_0 c i arg3 harg3 arg4 harg4 arg5 harg5 arg6 harg6 hc0 hc1 hc2 x0 x1 xs0 = fun y => (xs0 y + part x0 x1 y : EReal) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero hz]
  unfold k0_pay3
  simp only [View.readAt_eq_ld, harg3.read_unread, harg4.read_unread, harg6.read_unread, View.ld_unit_zero (S := S2816x1024) hz, View.ld_unit_zero (S := S2816x1024) hz, View.ld_unit_zero (S := S1024x1024) hz, shapeCast_self]
  rw [product x0 x1]
  rfl

/-- The last one adds its product and stores the sum. -/
theorem out_C (c : Dev nD) (i : grid0.Coords) (arg3 : Memref sig .tc .vmem S2816x1024 .bf16) (harg3 : arg3.IsWhole) (arg4 : Memref sig .tc .vmem S2816x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec Ideal S2816x1024 .bf16) (x1 : Vec Ideal S2816x1024 .bf16) (xs0 : Vec Ideal S1024x1024 .f32)
    (i' : Fin 1024) (j : Fin 1024) : out0_C_2 c i arg3 harg3 arg4 harg4 arg5 harg5 arg6 harg6 hc0 hc1 hc2 x0 x1 xs0 (ix3 0 i' j) = (xs0 (ix2 i' j) + part x0 x1 (ix2 i' j) : EReal) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz3]
  simp only [View.readCov_unit_zero (S := S1024x1024) _ hz]
  unfold k0_pay4 k0_pay3
  simp only [View.readAt_eq_ld, harg3.read_unread, harg4.read_unread, harg6.read_unread, View.ld_unit_zero (S := S2816x1024) hz, View.ld_unit_zero (S := S2816x1024) hz, View.ld_unit_zero (S := S1024x1024) hz, shapeCast_self]
  rw [product x0 x1]
  pointwise

/-- The blocks of the windows at every point. -/
theorem idx : ∀ t : Fin cfg0.N, win0_0.index t = ![t.val % 3, 0] ∧ win0_1.index t = ![t.val % 3, t.val / 3] ∧ win0_2.index t = ![t.val / 3, 0, 0] :=
  (by decide +kernel : ∀ t : Fin grid0.N, _)

variable (m : (ℓ : Loc nD τ sig) → Buf (Elt Ideal) ℓ) (c : Dev nD)

/-- What a point adds to the sum, at an index. -/
theorem part_at (t : Fin cfg0.N) (i : Fin 1024) (j : Fin 1024) (q : Nat) (hq : t.val % 3 = q) (r : Nat) (hr : t.val / 3 = r) (hr6 : r < 4) (hq3 : q < 3) : part (iblk m c 0 t) (iblk m c 1 t) (ix2 i j)
    = third (m ((c : Thread nD τ).loc main_arg0)) (m ((c : Thread nD τ).loc main_arg1)) q hq3 i ⟨r * 1024 + j.val, by omega⟩ := by
  subst hq
  subst hr
  have e0 (k : Fin 2816) : iblk m c 0 t (ix2 k i) = m ((c : Thread nD τ).loc main_arg0) (ix2 ⟨t.val % 3 * 2816 + k.val, by omega⟩ i) := by
    blk_ext! [iblk, V, idx t]
  have e1 (k : Fin 2816) : iblk m c 1 t (ix2 k j) = m ((c : Thread nD τ).loc main_arg1) (ix2 ⟨t.val % 3 * 2816 + k.val, by omega⟩ ⟨t.val / 3 * 1024 + j.val, by omega⟩) := by
    blk_ext! [iblk, V, idx t]
  unfold part third
  exact Finset.sum_congr rfl fun k _ => congrArg₂ (fun (a b : EReal) => a * b) (e0 k) (e1 k)

/-- The array that the run leaves. -/
theorem out_is : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have hm : t.val % 3 = 2 := (flush0_2 t).mp hf
  have ht : t.val < 12 := lt_of_lt_of_eq t.isLt N_0
  blk_simp
  rw [after0_2, outsAt0_C m c t (by omega) (by omega) hm]
  dsimp only
  obtain ⟨i, j, rfl⟩ := exists_ix3 y
  refine (out_C _ _ _ _ _ _ _ _ _ _ _ _ _ _ _ _ i j).trans ?_
  have b1 : t.val - 1 < cfg0.N := Nat.lt_of_le_of_lt (Nat.sub_le _ _) t.isLt
  have b0 : t.val - 1 - 1 < cfg0.N := Nat.lt_of_le_of_lt (Nat.sub_le _ _) b1
  have h1 := outsAt0_B m c ⟨t.val - 1, b1⟩ (by show ¬(t.val - 1) % 3 = 0; omega) (by show 1 ≤ (t.val - 1) % 3; omega) (by show ¬(t.val - 1) % 3 = 2; omega)
  have h0 := outsAt0_A m c ⟨t.val - 1 - 1, b0⟩ (by show (t.val - 1 - 1) % 3 = 0; omega) (by show ¬1 ≤ (t.val - 1 - 1) % 3; omega) (by show ¬(t.val - 1 - 1) % 3 = 2; omega)
  rw [h1]
  dsimp only
  rw [acc_B]
  dsimp only at h0
  rw [h0]
  dsimp only
  rw [acc_A]
  show ((part _ _ (ix2 i j) + part _ _ (ix2 i j)) + part _ _ (ix2 i j) : EReal) = _
  rw [part_at m c ⟨t.val - 1 - 1, b0⟩ i j 0 (by show (t.val - 1 - 1) % 3 = 0; omega) (t.val / 3) (by show (t.val - 1 - 1) / 3 = t.val / 3; omega) (by omega) (by omega),
    part_at m c ⟨t.val - 1, b1⟩ i j 1 (by show (t.val - 1) % 3 = 1; omega) (t.val / 3) (by show (t.val - 1) / 3 = t.val / 3; omega) (by omega) (by omega),
    part_at m c t i j 2 hm (t.val / 3) rfl (by omega) (by omega)]
  refine (thirds _ _ _ _).trans ?_
  show grad (m ((c : Thread nD τ).loc main_arg0)) (m ((c : Thread nD τ).loc main_arg1)) (ix3 ⟨t.val / 3, by omega⟩ i j) = _
  generalize grad _ _ = f
  blk_ext! [idx t]

/-- The kernel leaves the gradient and its arguments as they were. -/
theorem kernel_leaves (ρ : Dev nD → PrngReg) : θ_run defs (onTc (τ := τ) (main (F := Ideal))) ⟨m, fun _ => 0, ρ⟩ fun r => ∀ c : Dev nD,
    r.2.mem ((c : Thread nD τ).loc main_v0) = grad (m ((c : Thread nD τ).loc main_arg0)) (m ((c : Thread nD τ).loc main_arg1))
    ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (out_is m c), (h c).2⟩) (Value.run_blocks m ρ)

end Cert.Kernel6Ideal.Own

namespace Cert.Reference6Ideal.Own

open Idealize.ShloMosaic Idealize.ShloMosaic.TcCoe Idealize.SL.Sem
open Cert.Reference6Ideal.Gen

/-- The reference leaves the gradient too. -/
theorem reference_leaves (m : (ℓ : Loc nD τ sig) → Buf (Elt Ideal) ℓ) (ρ : Dev nD → PrngReg) : θ_run defs (onTc (τ := τ) (main (F := Ideal))) ⟨m, fun _ => 0, ρ⟩ fun r => ∀ c : Dev nD,
    r.2.mem ((c : Thread nD τ).loc main_v8) = Cert.Kernel6Ideal.Own.grad (m ((c : Thread nD τ).loc main_arg0)) (m ((c : Thread nD τ).loc main_arg1))
    ∧ r.2.mem ((c : Thread nD τ).loc main_arg0) = m ((c : Thread nD τ).loc main_arg0) ∧ r.2.mem ((c : Thread nD τ).loc main_arg1) = m ((c : Thread nD τ).loc main_arg1) := by
  refine (θ_run defs _ _).mono (fun r h c => ⟨(h c).1.trans ?_, (h c).2⟩) (Value.run m ρ)
  generalize m ((c : Thread nD τ).loc main_arg0) = x
  generalize m ((c : Thread nD τ).loc main_arg1) = w
  funext y
  obtain ⟨b, i, j, rfl⟩ : ∃ (b : Fin 4) (i : Fin 1024) (j : Fin 1024), y = ix3 b i j := ⟨y 0, y 1, y 2, by
    funext a
    match a with
    | ⟨0, _⟩ => rfl
    | ⟨1, _⟩ => rfl
    | ⟨2, _⟩ => rfl⟩
  pointwise
  refine (Finset.sum_congr rfl fun k _ => mul_comm _ _).trans ?_
  rfl

end Cert.Reference6Ideal.Own

end
-- ==== Proof.WeightTwo.lean ====
module

public import proofs.«01_k».proof.Proof.Gen.Kernel7Ideal.Value
public import proofs.«01_k».proof.Proof.Gen.Reference7Ideal.Run
public import proofs.«01_k».proof.Proof.Thirds
public import Idealize.ShloMosaic.Lib.Pipeline.ValueKit

@[expose] public section

set_option maxRecDepth 16384

noncomputable section

namespace Cert.Kernel7Ideal.Own

open Idealize.ShloMosaic Idealize.ShloMosaic.TcCoe Idealize.SL.Sem
open Cert.Kernel7Ideal.Gen

/-- The gradient of a weight, its rows in four parts: the input transposed, times the gradient of the product. -/
def grad (x : FVec Ideal S8448x4096 .bf16) (y : FVec Ideal S8448x1024 .bf16) : FVec Ideal S4x1024x1024 .bf16 := fun i =>
  (∑ k : Fin 8448, (x (ix2 k ⟨(i 0).val * 1024 + (i 1).val, by have := (i 0).isLt; have := (i 1).isLt; dsimp at *; omega⟩) : EReal) * y (ix2 k (i 2)) : EReal)

/-- What one block of rows adds. -/
def part (x0 : Vec Ideal S2816x1024 .bf16) (x1 : Vec Ideal S2816x1024 .bf16) : Vec Ideal S1024x1024 .f32 := fun y =>
  (∑ k : Fin 2816, (x0 (ix2 k (y 0)) : EReal) * x1 (ix2 k (y 1)) : EReal)

/-- A third of the sum over the rows. -/
def third (x : FVec Ideal S8448x4096 .bf16) (y : FVec Ideal S8448x1024 .bf16) (q : Nat) (hq : q < 3) (i : Fin 4096) (j : Fin 1024) : EReal :=
  ∑ k : Fin 2816, (x (ix2 ⟨q * 2816 + k.val, by omega⟩ i) : EReal) * y (ix2 ⟨q * 2816 + k.val, by omega⟩ j)

/-- The thirds make the sum. -/
theorem thirds (x : FVec Ideal S8448x4096 .bf16) (y : FVec Ideal S8448x1024 .bf16) (i : Fin 4096) (j : Fin 1024) :
    (third x y 0 (by decide) i j + third x y 1 (by decide) i j) + third x y 2 (by decide) i j = ∑ k : Fin 8448, (x (ix2 k i) : EReal) * y (ix2 k j) :=
  (Cert.Thirds.sum_thirds fun k => (x (ix2 k i) : EReal) * y (ix2 k j)).symm

theorem hz : (![0, 0] : Fin 2 → Nat) = fun _ => 0 := funext fun a => by fin_cases a <;> rfl

theorem hz3 : (![0, 0, 0] : Fin 3 → Nat) = fun _ => 0 := funext fun a => by fin_cases a <;> rfl

/-- An index of a block of the result, by its row and column. -/
theorem exists_ix3 (y : S1x1024x1024.Idx) : ∃ (i : Fin 1024) (j : Fin 1024), y = ix3 0 i j :=
  ⟨y 1, y 2, by
    funext a
    match a with
    | ⟨0, _⟩ => exact Fin.ext (by have : (y 0).val < 1 := (y 0).isLt; show (y 0).val = 0; omega)
    | ⟨1, _⟩ => rfl
    | ⟨2, _⟩ => rfl⟩

/-- An index of the sum, by its row and column. -/
theorem exists_ix (y : S1024x1024.Idx) : ∃ (i : Fin 1024) (j : Fin 1024), y = ix2 i j :=
  ⟨y 0, y 1, by
    funext a
    match a with
    | ⟨0, _⟩ => rfl
    | ⟨1, _⟩ => rfl⟩

/-- The product of two blocks. -/
theorem product (x0 : Vec Ideal S2816x1024 .bf16) (x1 : Vec Ideal S2816x1024 .bf16) : k0_pay1 x0 x1 = part x0 x1 := by
  funext y
  obtain ⟨i, j, rfl⟩ := exists_ix y
  unfold k0_pay1
  pointwise
  rfl

/-- The first block of rows starts the sum. -/
theorem acc_A (c : Dev nD) (i : grid0.Coords) (arg3 : Memref sig .tc .vmem S2816x1024 .bf16) (harg3 : arg3.IsWhole) (arg4 : Memref sig .tc .vmem S2816x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S2816x1024 .bf16) (x1 : Vec Ideal S2816x1024 .bf16) :
    sout0_A_0 c i arg3 harg3 arg4 harg4 arg5 harg5 arg6 harg6 hc0 hc1 hc2 x0 x1 = part x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  unfold k0_pay2
  simp only [View.readAt_eq_ld, harg3.read_unread, harg4.read_unread, View.ld_unit_zero (S := S2816x1024) hz, View.ld_unit_zero (S := S2816x1024) hz, shapeCast_self]
  exact product x0 x1

/-- The next one adds its product. -/
theorem acc_B (c : Dev nD) (i : grid0.Coords) (arg3 : Memref sig .tc .vmem S2816x1024 .bf16) (harg3 : arg3.IsWhole) (arg4 : Memref sig .tc .vmem S2816x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec Ideal S2816x1024 .bf16) (x1 : Vec Ideal S2816x1024 .bf16) (xs0 : Vec Ideal S1024x1024 .f32) :
    sout0_B_0 c i arg3 harg3 arg4 harg4 arg5 harg5 arg6 harg6 hc0 hc1 hc2 x0 x1 xs0 = fun y => (xs0 y + part x0 x1 y : EReal) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero hz]
  unfold k0_pay3
  simp only [View.readAt_eq_ld, harg3.read_unread, harg4.read_unread, harg6.read_unread, View.ld_unit_zero (S := S2816x1024) hz, View.ld_unit_zero (S := S2816x1024) hz, View.ld_unit_zero (S := S1024x1024) hz, shapeCast_self]
  rw [product x0 x1]
  rfl

/-- The last one adds its product and stores the sum. -/
theorem out_C (c : Dev nD) (i : grid0.Coords) (arg3 : Memref sig .tc .vmem S2816x1024 .bf16) (harg3 : arg3.IsWhole) (arg4 : Memref sig .tc .vmem S2816x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec Ideal S2816x1024 .bf16) (x1 : Vec Ideal S2816x1024 .bf16) (xs0 : Vec Ideal S1024x1024 .f32)
    (i' : Fin 1024) (j : Fin 1024) : out0_C_2 c i arg3 harg3 arg4 harg4 arg5 harg5 arg6 harg6 hc0 hc1 hc2 x0 x1 xs0 (ix3 0 i' j) = (xs0 (ix2 i' j) + part x0 x1 (ix2 i' j) : EReal) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz3]
  simp only [View.readCov_unit_zero (S := S1024x1024) _ hz]
  unfold k0_pay4 k0_pay3
  simp only [View.readAt_eq_ld, harg3.read_unread, harg4.read_unread, harg6.read_unread, View.ld_unit_zero (S := S2816x1024) hz, View.ld_unit_zero (S := S2816x1024) hz, View.ld_unit_zero (S := S1024x1024) hz, shapeCast_self]
  rw [product x0 x1]
  pointwise

/-- The blocks of the windows at every point. -/
theorem idx : ∀ t : Fin cfg0.N, win0_0.index t = ![t.val % 3, t.val / 3] ∧ win0_1.index t = ![t.val % 3, 0] ∧ win0_2.index t = ![t.val / 3, 0, 0] :=
  (by decide +kernel : ∀ t : Fin grid0.N, _)

variable (m : (ℓ : Loc nD τ sig) → Buf (Elt Ideal) ℓ) (c : Dev nD)

/-- What a point adds to the sum, at an index. -/
theorem part_at (t : Fin cfg0.N) (i : Fin 1024) (j : Fin 1024) (q : Nat) (hq : t.val % 3 = q) (r : Nat) (hr : t.val / 3 = r) (hr6 : r < 4) (hq3 : q < 3) : part (iblk m c 0 t) (iblk m c 1 t) (ix2 i j)
    = third (m ((c : Thread nD τ).loc main_arg0)) (m ((c : Thread nD τ).loc main_arg1)) q hq3 ⟨r * 1024 + i.val, by omega⟩ j := by
  subst hq
  subst hr
  have e0 (k : Fin 2816) : iblk m c 0 t (ix2 k i) = m ((c : Thread nD τ).loc main_arg0) (ix2 ⟨t.val % 3 * 2816 + k.val, by omega⟩ ⟨t.val / 3 * 1024 + i.val, by omega⟩) := by
    blk_ext! [iblk, V, idx t]
  have e1 (k : Fin 2816) : iblk m c 1 t (ix2 k j) = m ((c : Thread nD τ).loc main_arg1) (ix2 ⟨t.val % 3 * 2816 + k.val, by omega⟩ j) := by
    blk_ext! [iblk, V, idx t]
  unfold part third
  exact Finset.sum_congr rfl fun k _ => congrArg₂ (fun (a b : EReal) => a * b) (e0 k) (e1 k)

/-- The array that the run leaves. -/
theorem out_is : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have hm : t.val % 3 = 2 := (flush0_2 t).mp hf
  have ht : t.val < 12 := lt_of_lt_of_eq t.isLt N_0
  blk_simp
  rw [after0_2, outsAt0_C m c t (by omega) (by omega) hm]
  dsimp only
  obtain ⟨i, j, rfl⟩ := exists_ix3 y
  refine (out_C _ _ _ _ _ _ _ _ _ _ _ _ _ _ _ _ i j).trans ?_
  have b1 : t.val - 1 < cfg0.N := Nat.lt_of_le_of_lt (Nat.sub_le _ _) t.isLt
  have b0 : t.val - 1 - 1 < cfg0.N := Nat.lt_of_le_of_lt (Nat.sub_le _ _) b1
  have h1 := outsAt0_B m c ⟨t.val - 1, b1⟩ (by show ¬(t.val - 1) % 3 = 0; omega) (by show 1 ≤ (t.val - 1) % 3; omega) (by show ¬(t.val - 1) % 3 = 2; omega)
  have h0 := outsAt0_A m c ⟨t.val - 1 - 1, b0⟩ (by show (t.val - 1 - 1) % 3 = 0; omega) (by show ¬1 ≤ (t.val - 1 - 1) % 3; omega) (by show ¬(t.val - 1 - 1) % 3 = 2; omega)
  rw [h1]
  dsimp only
  rw [acc_B]
  dsimp only at h0
  rw [h0]
  dsimp only
  rw [acc_A]
  show ((part _ _ (ix2 i j) + part _ _ (ix2 i j)) + part _ _ (ix2 i j) : EReal) = _
  rw [part_at m c ⟨t.val - 1 - 1, b0⟩ i j 0 (by show (t.val - 1 - 1) % 3 = 0; omega) (t.val / 3) (by show (t.val - 1 - 1) / 3 = t.val / 3; omega) (by omega) (by omega),
    part_at m c ⟨t.val - 1, b1⟩ i j 1 (by show (t.val - 1) % 3 = 1; omega) (t.val / 3) (by show (t.val - 1) / 3 = t.val / 3; omega) (by omega) (by omega),
    part_at m c t i j 2 hm (t.val / 3) rfl (by omega) (by omega)]
  refine (thirds _ _ _ _).trans ?_
  show grad (m ((c : Thread nD τ).loc main_arg0)) (m ((c : Thread nD τ).loc main_arg1)) (ix3 ⟨t.val / 3, by omega⟩ i j) = _
  generalize grad _ _ = f
  blk_ext! [idx t]

/-- The kernel leaves the gradient and its arguments as they were. -/
theorem kernel_leaves (ρ : Dev nD → PrngReg) : θ_run defs (onTc (τ := τ) (main (F := Ideal))) ⟨m, fun _ => 0, ρ⟩ fun r => ∀ c : Dev nD,
    r.2.mem ((c : Thread nD τ).loc main_v0) = grad (m ((c : Thread nD τ).loc main_arg0)) (m ((c : Thread nD τ).loc main_arg1))
    ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (out_is m c), (h c).2⟩) (Value.run_blocks m ρ)

end Cert.Kernel7Ideal.Own

namespace Cert.Reference7Ideal.Own

open Idealize.ShloMosaic Idealize.ShloMosaic.TcCoe Idealize.SL.Sem
open Cert.Reference7Ideal.Gen

/-- The reference leaves the gradient too. -/
theorem reference_leaves (m : (ℓ : Loc nD τ sig) → Buf (Elt Ideal) ℓ) (ρ : Dev nD → PrngReg) : θ_run defs (onTc (τ := τ) (main (F := Ideal))) ⟨m, fun _ => 0, ρ⟩ fun r => ∀ c : Dev nD,
    r.2.mem ((c : Thread nD τ).loc main_v7) = Cert.Kernel7Ideal.Own.grad (m ((c : Thread nD τ).loc main_arg0)) (m ((c : Thread nD τ).loc main_arg1))
    ∧ r.2.mem ((c : Thread nD τ).loc main_arg0) = m ((c : Thread nD τ).loc main_arg0) ∧ r.2.mem ((c : Thread nD τ).loc main_arg1) = m ((c : Thread nD τ).loc main_arg1) := by
  refine (θ_run defs _ _).mono (fun r h c => ⟨(h c).1.trans ?_, (h c).2⟩) (Value.run m ρ)
  generalize m ((c : Thread nD τ).loc main_arg0) = x
  generalize m ((c : Thread nD τ).loc main_arg1) = w
  funext y
  obtain ⟨b, i, j, rfl⟩ : ∃ (b : Fin 4) (i : Fin 1024) (j : Fin 1024), y = ix3 b i j := ⟨y 0, y 1, y 2, by
    funext a
    match a with
    | ⟨0, _⟩ => rfl
    | ⟨1, _⟩ => rfl
    | ⟨2, _⟩ => rfl⟩
  pointwise
  refine (Finset.sum_congr rfl fun k _ => mul_comm _ _).trans ?_
  rfl

end Cert.Reference7Ideal.Own

end
-- ==== Proof.InputsForward.lean ====
module

public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

namespace Cert.Kernel8Ideal.Own

open Idealize.ShloMosaic Idealize.ShloMosaic.TcCoe Idealize.SL.Sem
open Cert.Kernel8Ideal.Gen

theorem hz : (![0, 0] : Fin 2 → Nat) = fun _ => 0 := funext fun a => by fin_cases a <;> rfl

/-- The product of the rows with a weight. -/
def grad (x : FVec Ideal S8448x1024 .bf16) (w : FVec Ideal S1024x7680 .bf16) : FVec Ideal S8448x7680 .f32 := fun i =>
  (∑ k : Fin 1024, (x (ix2 (i 0) k) : EReal) * w (ix2 k (i 1)) : EReal)

/-- A block that a point stores, at an index. -/
theorem block_at (x0 : Vec Ideal S768x1024 .bf16) (x1 : Vec Ideal S1024x2560 .bf16) (i : Fin 768) (j : Fin 2560) :
    out0_2 x0 x1 (ix2 i j) = (∑ k : Fin 1024, (x0 (ix2 i k) : EReal) * x1 (ix2 k j) : EReal) := by
  unfold out0_2
  rw [View.canon_unit_zero (S := S768x2560) hz, View.ld_unit_zero (S := S768x1024) hz, View.ld_unit_zero (S := S1024x2560) hz]
  unfold k0_pay1
  pointwise

/-- The blocks of the windows at every point. -/
theorem idx : ∀ t : Fin cfg0.N, win0_0.index t = ![t.val % 11, 0] ∧ win0_1.index t = ![0, t.val / 11] ∧ win0_2.index t = ![t.val % 11, t.val / 11] :=
  (by decide +kernel : ∀ t : Fin grid0.N, _)

/-- An index of a block, by its row and column. -/
theorem exists_ix (y : S768x2560.Idx) : ∃ (i : Fin 768) (j : Fin 2560), y = ix2 i j :=
  ⟨y 0, y 1, by
    funext a
    match a with
    | ⟨0, _⟩ => rfl
    | ⟨1, _⟩ => rfl⟩

variable (m : (ℓ : Loc nD τ sig) → Buf (Elt Ideal) ℓ) (c : Dev nD)

/-- The array that the run leaves: grad. -/
theorem out_is : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  dsimp only [dats]
  obtain ⟨i, j, rfl⟩ := exists_ix y
  refine (block_at _ _ i j).trans ?_
  have ht : t.val < 33 := t.isLt
  have e0 (k : Fin 1024) : iblk m c 0 t (ix2 i k) = m ((c : Thread nD τ).loc main_arg0) (ix2 ⟨t.val % 11 * 768 + i.val, by omega⟩ k) := by
    blk_ext! [iblk, V, idx t]
  have e1 (k : Fin 1024) : iblk m c 1 t (ix2 k j) = m ((c : Thread nD τ).loc main_arg1) (ix2 k ⟨t.val / 11 * 2560 + j.val, by omega⟩) := by
    blk_ext! [iblk, V, idx t]
  simp only [e0, e1]
  show grad _ _ (ix2 ⟨t.val % 11 * 768 + i.val, by omega⟩ ⟨t.val / 11 * 2560 + j.val, by omega⟩) = _
  generalize grad _ _ = f
  blk_ext! [idx t]

/-- The kernel leaves the product and its arguments as they were. -/
theorem kernel_leaves (ρ : Dev nD → PrngReg) : θ_run defs (onTc (τ := τ) (main (F := Ideal))) ⟨m, fun _ => 0, ρ⟩ fun r => ∀ c : Dev nD,
    r.2.mem ((c : Thread nD τ).loc main_v0) = grad (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (out_is m c), (h c).2⟩) (Value.run_blocks m ρ)

end Cert.Kernel8Ideal.Own

namespace Cert.Reference8Ideal.Own

open Idealize.ShloMosaic Idealize.ShloMosaic.TcCoe Idealize.SL.Sem
open Cert.Reference8Ideal.Gen

/-- The reference leaves the product too. -/
theorem reference_leaves (m : (ℓ : Loc nD τ sig) → Buf (Elt Ideal) ℓ) (ρ : Dev nD → PrngReg) : θ_run defs (onTc (τ := τ) (main (F := Ideal))) ⟨m, fun _ => 0, ρ⟩ fun r => ∀ c : Dev nD,
    r.2.mem ((c : Thread nD τ).loc main_v2) = Cert.Kernel8Ideal.Own.grad (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2⟩) (Value.run m ρ)
  generalize m ((c : Thread nD τ).loc main_arg0) = x
  generalize m ((c : Thread nD τ).loc main_arg1) = w
  funext y
  obtain ⟨i, j, rfl⟩ : ∃ (i : Fin 8448) (j : Fin 7680), y = ix2 i j := ⟨y 0, y 1, by
    funext a
    match a with
    | ⟨0, _⟩ => rfl
    | ⟨1, _⟩ => rfl⟩
  pointwise
  rfl

end Cert.Reference8Ideal.Own

end
-- ==== Proof.HiddenForward.lean ====
module

public import proofs.«01_k».proof.Proof.Gen.Kernel9Ideal.Value
public import proofs.«01_k».proof.Proof.Gen.Reference9Ideal.Run
public import Idealize.ShloMosaic.Lib.Pipeline.ValueKit

@[expose] public section

set_option maxRecDepth 16384

noncomputable section

namespace Cert.Kernel9Ideal.Own

open Idealize.ShloMosaic Idealize.ShloMosaic.TcCoe Idealize.SL.Sem
open Cert.Kernel9Ideal.Gen

theorem hz : (![0, 0] : Fin 2 → Nat) = fun _ => 0 := funext fun a => by fin_cases a <;> rfl

/-- The product of the rows with the first weight. -/
def hidden (x : FVec Ideal S8448x1024 .bf16) (w : FVec Ideal S1024x4096 .bf16) : FVec Ideal S8448x4096 .bf16 := fun i =>
  (∑ k : Fin 1024, (x (ix2 (i 0) k) : EReal) * w (ix2 k (i 1)) : EReal)

/-- Its squared ReLU. -/
def squared (x : FVec Ideal S8448x1024 .bf16) (w : FVec Ideal S1024x4096 .bf16) : FVec Ideal S8448x4096 .bf16 := fun i =>
  (max (∑ k : Fin 1024, (x (ix2 (i 0) k) : EReal) * w (ix2 k (i 1))) 0 * max (∑ k : Fin 1024, (x (ix2 (i 0) k) : EReal) * w (ix2 k (i 1))) 0 : EReal)

/-- A block of the product that a point stores, at an index. -/
theorem block_at (x0 : Vec Ideal S768x1024 .bf16) (x1 : Vec Ideal S1024x2048 .bf16) (i : Fin 768) (j : Fin 2048) :
    out0_2 x0 x1 (ix2 i j) = (∑ k : Fin 1024, (x0 (ix2 i k) : EReal) * x1 (ix2 k j) : EReal) := by
  unfold out0_2
  rw [View.canon_unit_zero (S := S768x2048) hz, View.ld_unit_zero (S := S768x1024) hz, View.ld_unit_zero (S := S1024x2048) hz]
  unfold k0_pay2 k0_pay1
  pointwise

/-- A block of the squared ReLU that a point stores, at an index. -/
theorem block_sq (x0 : Vec Ideal S768x1024 .bf16) (x1 : Vec Ideal S1024x2048 .bf16) (i : Fin 768) (j : Fin 2048) :
    out0_3 x0 x1 (ix2 i j) = (max (∑ k : Fin 1024, (x0 (ix2 i k) : EReal) * x1 (ix2 k j)) 0 * max (∑ k : Fin 1024, (x0 (ix2 i k) : EReal) * x1 (ix2 k j)) 0 : EReal) := by
  unfold out0_3
  rw [View.canon_unit_zero (S := S768x2048) hz, View.ld_unit_zero (S := S768x1024) hz, View.ld_unit_zero (S := S1024x2048) hz]
  unfold k0_pay3 k0_pay1
  pointwise

/-- The blocks of the windows at every point. -/
theorem idx : ∀ t : Fin cfg0.N, win0_0.index t = ![t.val % 11, 0] ∧ win0_1.index t = ![0, t.val / 11] ∧ win0_2.index t = ![t.val % 11, t.val / 11] ∧ win0_3.index t = ![t.val % 11, t.val / 11] :=
  (by decide +kernel : ∀ t : Fin grid0.N, _)

/-- An index of a block, by its row and column. -/
theorem exists_ix (y : S768x2048.Idx) : ∃ (i : Fin 768) (j : Fin 2048), y = ix2 i j :=
  ⟨y 0, y 1, by
    funext a
    match a with
    | ⟨0, _⟩ => rfl
    | ⟨1, _⟩ => rfl⟩

variable (m : (ℓ : Loc nD τ sig) → Buf (Elt Ideal) ℓ) (c : Dev nD)

/-- The array that the run leaves: hidden. -/
theorem out_hidden : (dats m 0 c).arrAt 2 cfg0.N = hidden (m ((c : Thread nD τ).loc main_arg0)) (m ((c : Thread nD τ).loc main_arg1)) := by
  refine (dats m 0 c).arrAt_eq_of_covers 2 _ (by decide +kernel) fun t hf y => ?_
  blk_simp
  dsimp only [dats]
  obtain ⟨i, j, rfl⟩ := exists_ix y
  refine (block_at _ _ i j).trans ?_
  have ht : t.val < 22 := t.isLt
  have e0 (k : Fin 1024) : iblk m c 0 t (ix2 i k) = m ((c : Thread nD τ).loc main_arg0) (ix2 ⟨t.val % 11 * 768 + i.val, by omega⟩ k) := by
    blk_ext! [iblk, V, idx t]
  have e1 (k : Fin 1024) : iblk m c 1 t (ix2 k j) = m ((c : Thread nD τ).loc main_arg1) (ix2 k ⟨t.val / 11 * 2048 + j.val, by omega⟩) := by
    blk_ext! [iblk, V, idx t]
  simp only [e0, e1]
  show hidden _ _ (ix2 ⟨t.val % 11 * 768 + i.val, by omega⟩ ⟨t.val / 11 * 2048 + j.val, by omega⟩) = _
  generalize hidden _ _ = f
  blk_ext! [idx t]

/-- The array that the run leaves: squared. -/
theorem out_squared : (dats m 0 c).arrAt 3 cfg0.N = squared (m ((c : Thread nD τ).loc main_arg0)) (m ((c : Thread nD τ).loc main_arg1)) := by
  refine (dats m 0 c).arrAt_eq_of_covers 3 _ (by decide +kernel) fun t hf y => ?_
  blk_simp
  dsimp only [dats]
  obtain ⟨i, j, rfl⟩ := exists_ix y
  refine (block_sq _ _ i j).trans ?_
  have ht : t.val < 22 := t.isLt
  have e0 (k : Fin 1024) : iblk m c 0 t (ix2 i k) = m ((c : Thread nD τ).loc main_arg0) (ix2 ⟨t.val % 11 * 768 + i.val, by omega⟩ k) := by
    blk_ext! [iblk, V, idx t]
  have e1 (k : Fin 1024) : iblk m c 1 t (ix2 k j) = m ((c : Thread nD τ).loc main_arg1) (ix2 k ⟨t.val / 11 * 2048 + j.val, by omega⟩) := by
    blk_ext! [iblk, V, idx t]
  simp only [e0, e1]
  show squared _ _ (ix2 ⟨t.val % 11 * 768 + i.val, by omega⟩ ⟨t.val / 11 * 2048 + j.val, by omega⟩) = _
  generalize squared _ _ = f
  blk_ext! [idx t]

/-- The kernel leaves both and its arguments as they were. -/
theorem kernel_leaves (ρ : Dev nD → PrngReg) : θ_run defs (onTc (τ := τ) (main (F := Ideal))) ⟨m, fun _ => 0, ρ⟩ fun r => ∀ c : Dev nD,
    r.2.mem ((c : Thread nD τ).loc main_v0_0) = hidden (m ((c : Thread nD τ).loc main_arg0)) (m ((c : Thread nD τ).loc main_arg1))
    ∧ r.2.mem ((c : Thread nD τ).loc main_v0_1) = squared (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (out_hidden m c), (h c).2.1.trans (out_squared m c), (h c).2.2⟩) (Value.run_blocks m ρ)

end Cert.Kernel9Ideal.Own

namespace Cert.Reference9Ideal.Own

open Idealize.ShloMosaic Idealize.ShloMosaic.TcCoe Idealize.SL.Sem
open Cert.Reference9Ideal.Gen

/-- The reference leaves both too. -/
theorem reference_leaves (m : (ℓ : Loc nD τ sig) → Buf (Elt Ideal) ℓ) (ρ : Dev nD → PrngReg) : θ_run defs (onTc (τ := τ) (main (F := Ideal))) ⟨m, fun _ => 0, ρ⟩ fun r => ∀ c : Dev nD,
    r.2.mem ((c : Thread nD τ).loc main_v4) = Cert.Kernel9Ideal.Own.hidden (m ((c : Thread nD τ).loc main_arg0)) (m ((c : Thread nD τ).loc main_arg1))
    ∧ r.2.mem ((c : Thread nD τ).loc main_v6) = Cert.Kernel9Ideal.Own.squared (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨(h c).1.trans ?_, (h c).2.1.trans ?_, (h c).2.2⟩) (Value.run m ρ)
  all_goals
    generalize m ((c : Thread nD τ).loc main_arg0) = x
    generalize m ((c : Thread nD τ).loc main_arg1) = w
    funext y
    obtain ⟨i, j, rfl⟩ : ∃ (i : Fin 8448) (j : Fin 4096), y = ix2 i j := ⟨y 0, y 1, by
      funext a
      match a with
      | ⟨0, _⟩ => rfl
      | ⟨1, _⟩ => rfl⟩
    pointwise
    rfl

end Cert.Reference9Ideal.Own

end
-- ==== Proof.OutputsForward.lean ====
module

public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

namespace Cert.Kernel10Ideal.Own

open Idealize.ShloMosaic Idealize.ShloMosaic.TcCoe Idealize.SL.Sem
open Cert.Kernel10Ideal.Gen

theorem hz : (![0, 0] : Fin 2 → Nat) = fun _ => 0 := funext fun a => by fin_cases a <;> rfl

theorem hz3 : (![0, 0, 0] : Fin 3 → Nat) = fun _ => 0 := funext fun a => by fin_cases a <;> rfl

/-- The product of the rows with the second weight. -/
def product (x : FVec Ideal S8448x4096 .bf16) (w : FVec Ideal S4096x1024 .bf16) : FVec Ideal S8448x1024 .f32 := fun i =>
  (∑ k : Fin 4096, (x (ix2 (i 0) k) : EReal) * w (ix2 k (i 1)) : EReal)

/-- The gate of a row: the first 256 rows, the context, have their own. -/
def gate (g : FVec Ideal S2x1x1024 .f32) (i : Fin 8448) (j : Fin 1024) : EReal := g (ix3 ⟨min (i.val / 256) 1, by omega⟩ 0 j)

/-- The rows with the gated product added. -/
def added (x : FVec Ideal S8448x4096 .bf16) (w : FVec Ideal S4096x1024 .bf16) (h : FVec Ideal S8448x1024 .f32) (g : FVec Ideal S2x1x1024 .f32) : FVec Ideal S8448x1024 .f32 := fun i =>
  (h i + gate g (i 0) (i 1) * (∑ k : Fin 4096, (x (ix2 (i 0) k) : EReal) * w (ix2 k (i 1))) : EReal)

/-- A block of the product that a point stores, at an index. -/
theorem block_at (x0 : Vec Ideal S256x4096 .bf16) (x1 : Vec Ideal S4096x1024 .bf16) (x2 : Vec Ideal S256x1024 .f32) (x3 : Vec Ideal S1x1x1024 .f32) (i : Fin 256) (j : Fin 1024) :
    out0_4 x0 x1 x2 x3 (ix2 i j) = (∑ k : Fin 4096, (x0 (ix2 i k) : EReal) * x1 (ix2 k j) : EReal) := by
  unfold out0_4
  rw [View.canon_unit_zero (S := S256x1024) hz, View.ld_unit_zero (S := S256x4096) hz, View.ld_unit_zero (S := S4096x1024) hz]
  unfold k0_pay1
  pointwise

/-- A block of the rows that a point stores, at an index. -/
theorem block_add (x0 : Vec Ideal S256x4096 .bf16) (x1 : Vec Ideal S4096x1024 .bf16) (x2 : Vec Ideal S256x1024 .f32) (x3 : Vec Ideal S1x1x1024 .f32) (i : Fin 256) (j : Fin 1024) :
    out0_5 x0 x1 x2 x3 (ix2 i j) = ((x2 (ix2 i j) : EReal) + x3 (ix3 0 0 j) * (∑ k : Fin 4096, (x0 (ix2 i k) : EReal) * x1 (ix2 k j)) : EReal) := by
  unfold out0_5
  rw [View.canon_unit_zero (S := S256x1024) hz, View.ld_unit_zero (S := S256x4096) hz, View.ld_unit_zero (S := S4096x1024) hz, View.ld_unit_zero (S := S256x1024) hz, View.ld_unit_zero (S := S1x1x1024) hz3]
  unfold k0_pay2 k0_pay1
  pointwise

/-- The blocks of the windows at every point. -/
theorem idx : ∀ t : Fin cfg0.N, win0_0.index t = ![t.val % 33, 0] ∧ win0_1.index t = ![0, t.val / 33] ∧ win0_2.index t = ![t.val % 33, t.val / 33] ∧ win0_3.index t = ![min (t.val % 33) 1, 0, t.val / 33]
    ∧ win0_4.index t = ![t.val % 33, t.val / 33] ∧ win0_5.index t = ![t.val % 33, t.val / 33] :=
  (by decide +kernel : ∀ t : Fin grid0.N, _)

/-- An index of a block, by its row and column. -/
theorem exists_ix (y : S256x1024.Idx) : ∃ (i : Fin 256) (j : Fin 1024), y = ix2 i j :=
  ⟨y 0, y 1, by
    funext a
    match a with
    | ⟨0, _⟩ => rfl
    | ⟨1, _⟩ => rfl⟩

variable (m : (ℓ : Loc nD τ sig) → Buf (Elt Ideal) ℓ) (c : Dev nD)

/-- The array that the run leaves: product. -/
theorem out_product : (dats m 0 c).arrAt 4 cfg0.N = product (m ((c : Thread nD τ).loc main_arg0)) (m ((c : Thread nD τ).loc main_arg1)) := by
  refine (dats m 0 c).arrAt_eq_of_covers 4 _ (by decide +kernel) fun t hf y => ?_
  blk_simp
  dsimp only [dats]
  obtain ⟨i, j, rfl⟩ := exists_ix y
  refine (block_at _ _ _ _ i j).trans ?_
  have ht : t.val < 33 := t.isLt
  have e0 (k : Fin 4096) : iblk m c 0 t (ix2 i k) = m ((c : Thread nD τ).loc main_arg0) (ix2 ⟨t.val % 33 * 256 + i.val, by omega⟩ k) := by
    blk_ext! [iblk, V, idx t]
  have e1 (k : Fin 4096) : iblk m c 1 t (ix2 k j) = m ((c : Thread nD τ).loc main_arg1) (ix2 k ⟨t.val / 33 * 1024 + j.val, by omega⟩) := by
    blk_ext! [iblk, V, idx t]
  simp only [e0, e1]
  show product _ _ (ix2 ⟨t.val % 33 * 256 + i.val, by omega⟩ ⟨t.val / 33 * 1024 + j.val, by omega⟩) = _
  generalize product _ _ = f
  blk_ext! [idx t]

/-- The array that the run leaves: added. -/
theorem out_added : (dats m 0 c).arrAt 5 cfg0.N = added (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  dsimp only [dats]
  obtain ⟨i, j, rfl⟩ := exists_ix y
  refine (block_add _ _ _ _ i j).trans ?_
  have ht : t.val < 33 := t.isLt
  have e0 (k : Fin 4096) : iblk m c 0 t (ix2 i k) = m ((c : Thread nD τ).loc main_arg0) (ix2 ⟨t.val % 33 * 256 + i.val, by omega⟩ k) := by
    blk_ext! [iblk, V, idx t]
  have e1 (k : Fin 4096) : iblk m c 1 t (ix2 k j) = m ((c : Thread nD τ).loc main_arg1) (ix2 k ⟨t.val / 33 * 1024 + j.val, by omega⟩) := by
    blk_ext! [iblk, V, idx t]
  have e2 : iblk m c 2 t (ix2 i j) = m ((c : Thread nD τ).loc main_arg2) (ix2 ⟨t.val % 33 * 256 + i.val, by omega⟩ ⟨t.val / 33 * 1024 + j.val, by omega⟩) := by
    blk_ext! [iblk, V, idx t]
  have e3 : iblk m c 3 t (ix3 0 0 j) = m ((c : Thread nD τ).loc main_arg3) (ix3 ⟨min ((t.val % 33 * 256 + i.val) / 256) 1, by omega⟩ 0 ⟨t.val / 33 * 1024 + j.val, by omega⟩) := by
    rw [show (⟨min ((t.val % 33 * 256 + i.val) / 256) 1, by omega⟩ : Fin 2) = ⟨min (t.val % 33) 1, by omega⟩ from Fin.ext (by show min _ 1 = min _ 1; omega)]
    blk_ext! [iblk, V, idx t]
  simp only [e0, e1, e2, e3]
  show added _ _ _ _ (ix2 ⟨t.val % 33 * 256 + i.val, by omega⟩ ⟨t.val / 33 * 1024 + j.val, by omega⟩) = _
  generalize added _ _ _ _ = f
  blk_ext! [idx t]

/-- The kernel leaves both and its arguments as they were. -/
theorem kernel_leaves (ρ : Dev nD → PrngReg) : θ_run defs (onTc (τ := τ) (main (F := Ideal))) ⟨m, fun _ => 0, ρ⟩ fun r => ∀ c : Dev nD,
    r.2.mem ((c : Thread nD τ).loc main_v0_0) = product (m ((c : Thread nD τ).loc main_arg0)) (m ((c : Thread nD τ).loc main_arg1))
    ∧ r.2.mem ((c : Thread nD τ).loc main_v0_1) = added (m ((c : Thread nD τ).loc main_arg0)) (m ((c : Thread nD τ).loc main_arg1)) (m ((c : Thread nD τ).loc main_arg2)) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨(h c).1.trans (out_product m c), (h c).2.1.trans (out_added m c), (h c).2.2⟩) (Value.run_blocks m ρ)

end Cert.Kernel10Ideal.Own

namespace Cert.Reference10Ideal.Own

open Idealize.ShloMosaic Idealize.ShloMosaic.TcCoe Idealize.SL.Sem
open Cert.Reference10Ideal.Gen

open Cert.Kernel10Ideal.Own in
/-- The added rows, at an index. -/
theorem gated (x : FVec Ideal S8448x4096 .bf16) (w : FVec Ideal S4096x1024 .bf16) (h : FVec Ideal S8448x1024 .f32) (g : FVec Ideal S2x1x1024 .f32) (i : Fin 8448) (j : Fin 1024) :
    added x w h g (ix2 i j) = ((h (ix2 i j) : EReal) + (g (ix3 ⟨min (i.val / 256) 1, by omega⟩ 0 j) : EReal) * (∑ k : Fin 4096, (x (ix2 i k) : EReal) * w (ix2 k j)) : EReal) := rfl

/-- The reference leaves both too. -/
theorem reference_leaves (m : (ℓ : Loc nD τ sig) → Buf (Elt Ideal) ℓ) (ρ : Dev nD → PrngReg) : θ_run defs (onTc (τ := τ) (main (F := Ideal))) ⟨m, fun _ => 0, ρ⟩ fun r => ∀ c : Dev nD,
    r.2.mem ((c : Thread nD τ).loc main_v2) = Cert.Kernel10Ideal.Own.product (m ((c : Thread nD τ).loc main_arg0)) (m ((c : Thread nD τ).loc main_arg1))
    ∧ r.2.mem ((c : Thread nD τ).loc main_v17) = Cert.Kernel10Ideal.Own.added (m ((c : Thread nD τ).loc main_arg0)) (m ((c : Thread nD τ).loc main_arg1)) (m ((c : Thread nD τ).loc main_arg2)) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine (θ_run defs _ _).mono (fun r h c => ⟨(h c).1.trans ?_, (h c).2.1.trans ?_, (h c).2.2⟩) (Value.run m ρ)
  all_goals
    generalize m ((c : Thread nD τ).loc main_arg0) = x
    generalize m ((c : Thread nD τ).loc main_arg1) = w
    funext y
    obtain ⟨i, j, rfl⟩ : ∃ (i : Fin 8448) (j : Fin 1024), y = ix2 i j := ⟨y 0, y 1, by
      funext a
      match a with
      | ⟨0, _⟩ => rfl
      | ⟨1, _⟩ => rfl⟩
  · pointwise
    rfl
  · generalize m ((c : Thread nD τ).loc main_arg2) = h
    generalize m ((c : Thread nD τ).loc main_arg3) = g
    pointwise
    have hi := i.isLt
    by_cases hlt : i.val < 256
    · refine (dif_pos hlt).trans ?_
      refine Eq.trans ?_ (gated x w h g i j).symm
      rw [show (⟨min (i.val / 256) 1, by omega⟩ : Fin 2) = 0 from Fin.ext (by show min (i.val / 256) 1 = 0; omega)]
    · refine (dif_neg hlt).trans ?_
      rw [show (⟨256 + (i.val - 256), by omega⟩ : Fin 8448) = i from Fin.ext (by show 256 + (i.val - 256) = i.val; omega)]
      refine Eq.trans ?_ (gated x w h g i j).symm
      rw [show (⟨min (i.val / 256) 1, by omega⟩ : Fin 2) = 1 from Fin.ext (by show min (i.val / 256) 1 = 1; omega)]

end Cert.Reference10Ideal.Own

end
-- ==== Proof.lean ====
module

public import proofs.«01_k».proof.Defs
public import proofs.«01_k».proof.Proof.Framed
public import proofs.«01_k».proof.Proof.KerOut
public import proofs.«01_k».proof.Proof.RefOut
public import proofs.«01_k».proof.Proof.Finite
public import proofs.«01_k».proof.Proof.Gen.Kernel2.Frame
public import proofs.«01_k».proof.Proof.Squared
public import proofs.«01_k».proof.Proof.Gen.Kernel3.Frame
public import proofs.«01_k».proof.Proof.Hidden
public import proofs.«01_k».proof.Proof.Gen.Kernel4.Frame
public import proofs.«01_k».proof.Proof.Inputs
public import proofs.«01_k».proof.Proof.Gen.Kernel5.Frame
public import proofs.«01_k».proof.Proof.WeightIn
public import proofs.«01_k».proof.Proof.Gen.Kernel6.Frame
public import proofs.«01_k».proof.Proof.WeightOne
public import proofs.«01_k».proof.Proof.Gen.Kernel7.Frame
public import proofs.«01_k».proof.Proof.WeightTwo
public import proofs.«01_k».proof.Proof.Gen.Kernel8.Frame
public import proofs.«01_k».proof.Proof.InputsForward
public import proofs.«01_k».proof.Proof.Gen.Kernel9.Frame
public import proofs.«01_k».proof.Proof.HiddenForward
public import proofs.«01_k».proof.Proof.Gen.Kernel10.Frame
public import proofs.«01_k».proof.Proof.OutputsForward

@[expose] public section

noncomputable section

namespace Cert.Proof

open Idealize.ShloMosaic Idealize.SL.Sem
open Cert.KernelIdeal.Own (wide thin lanes)

/-- The kernel's idealization runs at the extended reals: the one run, taken there. -/
theorem frame_ideal : Cert.quiescent_KernelIdeal := fun m ρ _ =>
  Cert.KernelIdeal.Own.run_main (F := Ideal) m ρ

/-- The reference runs and leaves its arguments alone; it has no counters. -/
theorem frame_reference : Cert.quiescent_ReferenceIdeal := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

/-- The kernel and the reference both leave the gradients of the data that their arguments hold. -/
theorem same_gradients : Cert.algebraic_KernelIdeal_ReferenceIdeal_pre_all_finite (hPre_all_finite := Cert.Finite.facts) := fun m ρ m' ρ' hm hargs => by
  letI := Cert.Finite.facts
  obtain ⟨A, hA⟩ : ∃ A : Dev Cert.KernelIdeal.nD → Cert.Retention.Data, ∀ c, Cert.KernelIdeal.Own.IsData m c (A c) := ⟨_, fun c => Cert.Finite.isData m hm c⟩
  have hR : ∀ c, Cert.ReferenceIdeal.Own.IsData m' c (A c) := fun c => by
    obtain ⟨e0, e1, e2, e3, e4⟩ := hargs c
    have a := hA c
    exact ⟨fun x j => (congrFun e0 _).trans (a.q x j), fun x j => (congrFun e1 _).trans (a.k x j), fun x j => (congrFun e2 _).trans (a.v x j),
      fun d h => (congrFun e3 _).trans (a.l d h), fun x j => (congrFun e4 _).trans (a.y x j)⟩
  refine ⟨fun c => wide ((A c).dq 0), fun c => wide ((A c).dk 0), fun c => wide ((A c).dv 0), fun c => wide ((A c).dq 1), fun c => wide ((A c).dk 1), fun c => wide ((A c).dv 1),
    fun c => thin (lanes (A c)), ?_, ?_⟩
  · refine (θ_run Cert.KernelIdeal.defs _ _).mono (fun r h c => ?_) (θ_run_and (Cert.KernelIdeal.Own.run_posts (F := Ideal) m ρ) (Cert.KernelIdeal.Own.run_main (F := Ideal) m ρ))
    obtain ⟨h0, h1, h2, h3, h4, h5, h6⟩ := Cert.KernelIdeal.Own.outs hA h.1 c
    exact ⟨h0, h1, h2, h3, h4, h5, h6, h.2.1 c⟩
  · exact Cert.ReferenceIdeal.Own.run_data m' ρ' A hR

/-- The idealized call runs: squared-ReLU gradient. -/
theorem frame_ideal_2 : Cert.quiescent_Kernel2Ideal := fun m ρ _ =>
  Cert.Kernel2Ideal.Gen.frame (F := Ideal) m ρ

/-- Its reference runs and leaves its arguments alone; it has no counters. -/
theorem frame_reference_2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The call and its reference leave one array: squared-ReLU gradient. -/
theorem same_2 : Cert.algebraic_Kernel2Ideal_Reference2Ideal := fun m ρ m' ρ' _ hargs =>
  ⟨fun c => Cert.Kernel2Ideal.Own.grad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    Cert.Kernel2Ideal.Own.kernel_leaves m ρ,
    (θ_run Cert.Reference2Ideal.defs _ _).mono
      (fun r h c => by
        obtain ⟨e0, e1, e2⟩ := hargs c
        have hc := h c
        refine ⟨hc.1.trans ?_, hc.2⟩
        exact congr (congr (congrArg Cert.Kernel2Ideal.Own.grad e0) e1) e2)
      (Cert.Reference2Ideal.Own.reference_leaves m' ρ')⟩

/-- The idealized call runs: gradient of the first product of the MLP. -/
theorem frame_ideal_3 : Cert.quiescent_Kernel3Ideal := fun m ρ _ =>
  Cert.Kernel3Ideal.Gen.frame (F := Ideal) m ρ

/-- Its reference runs and leaves its arguments alone; it has no counters. -/
theorem frame_reference_3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The call and its reference leave one array: gradient of the first product of the MLP. -/
theorem same_3 : Cert.algebraic_Kernel3Ideal_Reference3Ideal := fun m ρ m' ρ' _ hargs =>
  ⟨fun c => Cert.Kernel3Ideal.Own.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    Cert.Kernel3Ideal.Own.kernel_leaves m ρ,
    (θ_run Cert.Reference3Ideal.defs _ _).mono
      (fun r h c => by
        obtain ⟨e0, e1⟩ := hargs c
        have hc := h c
        refine ⟨hc.1.trans ?_, hc.2⟩
        exact congr (congrArg Cert.Kernel3Ideal.Own.grad e0) e1)
      (Cert.Reference3Ideal.Own.reference_leaves m' ρ')⟩

/-- The idealized call runs: gradient of the input projection. -/
theorem frame_ideal_4 : Cert.quiescent_Kernel4Ideal := fun m ρ _ =>
  Cert.Kernel4Ideal.Gen.frame (F := Ideal) m ρ

/-- Its reference runs and leaves its arguments alone; it has no counters. -/
theorem frame_reference_4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The call and its reference leave one array: gradient of the input projection. -/
theorem same_4 : Cert.algebraic_Kernel4Ideal_Reference4Ideal := fun m ρ m' ρ' _ hargs =>
  ⟨fun c => Cert.Kernel4Ideal.Own.grad (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    Cert.Kernel4Ideal.Own.kernel_leaves m ρ,
    (θ_run Cert.Reference4Ideal.defs _ _).mono
      (fun r h c => by
        obtain ⟨e0, e1⟩ := hargs c
        have hc := h c
        refine ⟨hc.1.trans ?_, hc.2⟩
        exact congr (congrArg Cert.Kernel4Ideal.Own.grad e0) e1)
      (Cert.Reference4Ideal.Own.reference_leaves m' ρ')⟩

/-- The idealized call runs: gradient of the input projection's weight. -/
theorem frame_ideal_5 : Cert.quiescent_Kernel5Ideal := fun m ρ _ =>
  Cert.Kernel5Ideal.Gen.frame (F := Ideal) m ρ

/-- Its reference runs and leaves its arguments alone; it has no counters. -/
theorem frame_reference_5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The call and its reference leave one array: gradient of the input projection's weight. -/
theorem same_5 : Cert.algebraic_Kernel5Ideal_Reference5Ideal := fun m ρ m' ρ' _ hargs =>
  ⟨fun c => Cert.Kernel5Ideal.Own.grad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    Cert.Kernel5Ideal.Own.kernel_leaves m ρ,
    (θ_run Cert.Reference5Ideal.defs _ _).mono
      (fun r h c => by
        obtain ⟨e0, e1⟩ := hargs c
        have hc := h c
        refine ⟨hc.1.trans ?_, hc.2⟩
        exact congr (congrArg Cert.Kernel5Ideal.Own.grad e0) e1)
      (Cert.Reference5Ideal.Own.reference_leaves m' ρ')⟩

/-- The idealized call runs: gradient of the MLP's first weight. -/
theorem frame_ideal_6 : Cert.quiescent_Kernel6Ideal := fun m ρ _ =>
  Cert.Kernel6Ideal.Gen.frame (F := Ideal) m ρ

/-- Its reference runs and leaves its arguments alone; it has no counters. -/
theorem frame_reference_6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The call and its reference leave one array: gradient of the MLP's first weight. -/
theorem same_6 : Cert.algebraic_Kernel6Ideal_Reference6Ideal := fun m ρ m' ρ' _ hargs =>
  ⟨fun c => Cert.Kernel6Ideal.Own.grad (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    Cert.Kernel6Ideal.Own.kernel_leaves m ρ,
    (θ_run Cert.Reference6Ideal.defs _ _).mono
      (fun r h c => by
        obtain ⟨e0, e1⟩ := hargs c
        have hc := h c
        refine ⟨hc.1.trans ?_, hc.2⟩
        exact congr (congrArg Cert.Kernel6Ideal.Own.grad e0) e1)
      (Cert.Reference6Ideal.Own.reference_leaves m' ρ')⟩

/-- The idealized call runs: gradient of the MLP's second weight. -/
theorem frame_ideal_7 : Cert.quiescent_Kernel7Ideal := fun m ρ _ =>
  Cert.Kernel7Ideal.Gen.frame (F := Ideal) m ρ

/-- Its reference runs and leaves its arguments alone; it has no counters. -/
theorem frame_reference_7 : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- The call and its reference leave one array: gradient of the MLP's second weight. -/
theorem same_7 : Cert.algebraic_Kernel7Ideal_Reference7Ideal := fun m ρ m' ρ' _ hargs =>
  ⟨fun c => Cert.Kernel7Ideal.Own.grad (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    Cert.Kernel7Ideal.Own.kernel_leaves m ρ,
    (θ_run Cert.Reference7Ideal.defs _ _).mono
      (fun r h c => by
        obtain ⟨e0, e1⟩ := hargs c
        have hc := h c
        refine ⟨hc.1.trans ?_, hc.2⟩
        exact congr (congrArg Cert.Kernel7Ideal.Own.grad e0) e1)
      (Cert.Reference7Ideal.Own.reference_leaves m' ρ')⟩

/-- The idealized call runs: input projection. -/
theorem frame_ideal_8 : Cert.quiescent_Kernel8Ideal := fun m ρ _ =>
  Cert.Kernel8Ideal.Gen.frame (F := Ideal) m ρ

/-- Its reference runs and leaves its arguments alone; it has no counters. -/
theorem frame_reference_8 : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

/-- The call and its reference leave one array: input projection. -/
theorem same_8 : Cert.algebraic_Kernel8Ideal_Reference8Ideal := fun m ρ m' ρ' _ hargs =>
  ⟨fun c => Cert.Kernel8Ideal.Own.grad (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    Cert.Kernel8Ideal.Own.kernel_leaves m ρ,
    (θ_run Cert.Reference8Ideal.defs _ _).mono
      (fun r h c => by
        obtain ⟨e0, e1⟩ := hargs c
        have hc := h c
        refine ⟨hc.1.trans ?_, hc.2⟩
        exact congr (congrArg Cert.Kernel8Ideal.Own.grad e0) e1)
      (Cert.Reference8Ideal.Own.reference_leaves m' ρ')⟩

/-- The idealized call runs: first product of the MLP and its squared ReLU. -/
theorem frame_ideal_9 : Cert.quiescent_Kernel9Ideal := fun m ρ _ =>
  Cert.Kernel9Ideal.Gen.frame (F := Ideal) m ρ

/-- Its reference runs and leaves its arguments alone; it has no counters. -/
theorem frame_reference_9 : Cert.quiescent_Reference9Ideal := fun m ρ _ =>
  (θ_run Cert.Reference9Ideal.defs _ _).mono
    (fun r h => ⟨fun c => (h c).2.2, sem_eq_zero_of_no_sems (by decide) r.2⟩)
    (Cert.Reference9Ideal.Value.run (F := Ideal) m ρ)

/-- The call and its reference leave the same two arrays: first product of the MLP and its squared ReLU. -/
theorem same_9 : Cert.algebraic_Kernel9Ideal_Reference9Ideal := fun m ρ m' ρ' _ hargs =>
  ⟨fun c => Cert.Kernel9Ideal.Own.hidden (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    fun c => Cert.Kernel9Ideal.Own.squared (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    Cert.Kernel9Ideal.Own.kernel_leaves m ρ,
    (θ_run Cert.Reference9Ideal.defs _ _).mono
      (fun r h c => by
        obtain ⟨e0, e1⟩ := hargs c
        have hc := h c
        exact ⟨hc.1.trans (congr (congrArg Cert.Kernel9Ideal.Own.hidden e0) e1), hc.2.1.trans (congr (congrArg Cert.Kernel9Ideal.Own.squared e0) e1), hc.2.2⟩)
      (Cert.Reference9Ideal.Own.reference_leaves m' ρ')⟩

/-- The idealized call runs: second product of the MLP and the rows with it added. -/
theorem frame_ideal_10 : Cert.quiescent_Kernel10Ideal := fun m ρ _ =>
  Cert.Kernel10Ideal.Gen.frame (F := Ideal) m ρ

/-- Its reference runs and leaves its arguments alone; it has no counters. -/
theorem frame_reference_10 : Cert.quiescent_Reference10Ideal := fun m ρ _ =>
  (θ_run Cert.Reference10Ideal.defs _ _).mono
    (fun r h => ⟨fun c => (h c).2.2, sem_eq_zero_of_no_sems (by decide) r.2⟩)
    (Cert.Reference10Ideal.Value.run (F := Ideal) m ρ)

/-- The call and its reference leave the same two arrays: second product of the MLP and the rows with it added. -/
theorem same_10 : Cert.algebraic_Kernel10Ideal_Reference10Ideal := fun m ρ m' ρ' _ hargs =>
  ⟨fun c => Cert.Kernel10Ideal.Own.product (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    fun c => Cert.Kernel10Ideal.Own.added (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)),
    Cert.Kernel10Ideal.Own.kernel_leaves m ρ,
    (θ_run Cert.Reference10Ideal.defs _ _).mono
      (fun r h c => by
        obtain ⟨e0, e1, e2, e3⟩ := hargs c
        have hc := h c
        exact ⟨hc.1.trans (congr (congrArg Cert.Kernel10Ideal.Own.product e0) e1), hc.2.1.trans (congr (congr (congr (congrArg Cert.Kernel10Ideal.Own.added e0) e1) e2) e3), hc.2.2⟩)
      (Cert.Reference10Ideal.Own.reference_leaves m' ρ')⟩

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Finite.facts,
    frame_kernel, frame_ideal, fun m ρ _ => frame_ideal m ρ trivial, frame_reference, fun m ρ _ => frame_reference m ρ trivial,
    fun m ρ _ => Cert.Kernel2.Gen.frame m ρ, frame_ideal_2, frame_reference_2,
    fun m ρ _ => Cert.Kernel3.Gen.frame m ρ, frame_ideal_3, frame_reference_3,
    fun m ρ _ => Cert.Kernel4.Gen.frame m ρ, frame_ideal_4, frame_reference_4,
    fun m ρ _ => Cert.Kernel5.Gen.frame m ρ, frame_ideal_5, frame_reference_5,
    fun m ρ _ => Cert.Kernel6.Gen.frame m ρ, frame_ideal_6, frame_reference_6,
    fun m ρ _ => Cert.Kernel7.Gen.frame m ρ, frame_ideal_7, frame_reference_7,
    fun m ρ _ => Cert.Kernel8.Gen.frame m ρ, frame_ideal_8, frame_reference_8,
    fun m ρ _ => Cert.Kernel9.Gen.frame m ρ, frame_ideal_9, frame_reference_9,
    fun m ρ _ => Cert.Kernel10.Gen.frame m ρ, frame_ideal_10, frame_reference_10,
    trivial, same_gradients,
    trivial, same_2,
    trivial, same_3,
    trivial, same_4,
    trivial, same_5,
    trivial, same_6,
    trivial, same_7,
    trivial, same_8,
    trivial, same_9,
    trivial, same_10⟩

end Cert.Proof

end
